-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v105)) (v3 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_v108) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x16x96 : Shape := ⟨3, ![8192, 16, 96]⟩
abbrev S16x8192x64 : Shape := ⟨3, ![16, 8192, 64]⟩
abbrev S8192x32 : Shape := ⟨2, ![8192, 32]⟩
abbrev S8192x16 : Shape := ⟨2, ![8192, 16]⟩
abbrev S8192x1024 : Shape := ⟨2, ![8192, 1024]⟩
abbrev S_ : Shape := ⟨0, ![]⟩

class Facts : Prop where
  bcast_S_S8192x16x96 : S_.BroadcastsInDim S8192x16x96 (![] : Fin 0 → Fin S8192x16x96.rank)
  reducesTo_S8192x16x96_S_d0_1_2 : S8192x16x96.ReducesTo [0, 1, 2] S_
  h_S_ : 0 < S_.numel
  bcast_S_S16x8192x64 : S_.BroadcastsInDim S16x8192x64 (![] : Fin 0 → Fin S16x8192x64.rank)
  reducesTo_S16x8192x64_S_d0_1_2 : S16x8192x64.ReducesTo [0, 1, 2] S_
  bcast_S_S8192x32 : S_.BroadcastsInDim S8192x32 (![] : Fin 0 → Fin S8192x32.rank)
  reducesTo_S8192x32_S_d0_1 : S8192x32.ReducesTo [0, 1] S_
  bcast_S_S8192x16 : S_.BroadcastsInDim S8192x16 (![] : Fin 0 → Fin S8192x16.rank)
  reducesTo_S8192x16_S_d0_1 : S8192x16.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg5 : FVec F S8192x16 .f32) (main_arg6 : FVec F S8192x1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S8192x16 .f32 := broadcastInDim S8192x16 ![] bcast_S_S8192x16 main_cst_13
  let main_v35 : IVec S8192x16 1 := cmpf .olt main_arg5 main_v34
  let main_cst_14 : FVec F S_ .f32 := constant S_ .f32 0xFF800000#32
  let main_v36 : FVec F S8192x16 .f32 := broadcastInDim S8192x16 ![] bcast_S_S8192x16 main_cst_14
  let main_v37 : IVec S8192x16 1 := cmpf .ogt main_arg5 main_v36
  let main_v38 : IVec S8192x16 1 := andi main_v35 main_v37
  let main_c_15 : IVec S_ 1 := constantI S_ 1 1#1
  let main_v39 : IVec S_ 1 := (fun x v => Host.reduce IntOp.andi x v reducesTo_S8192x16_S_d0_1 h_S_) main_v38 main_c_15
  let main_v40 : IVec S_ 1 := andi main_v33 main_v39
  let main_cst_16 : FVec F S_ .f32 := constant S_ .f32 0x7F800000#32
  let main_v41 : FVec F S8192x1024 .f32 := broadcastInDim S8192x1024 ![] bcast_S_S8192x1024 main_cst_16
  let main_v42 : IVec S8192x1024 1 := cmpf .olt main_arg6 main_v41
  let main_cst_17 : FVec F S_ .f32 := constant S_ .f32 0xFF800000#32
  let main_v43 : FVec F S8192x1024 .f32 := broadcastInDim S8192x1024 ![] bcast_S_S8192x1024 main_cst_17
  let main_v44 : IVec S8192x1024 1 := cmpf .ogt main_arg6 main_v43
  let main_v45 : IVec S8192x1024 1 := andi main_v42 main_v44
  let main_c_18 : IVec S_ 1 := constantI S_ 1 1#1
  let main_v46 : IVec S_ 1 := (fun x v => Host.reduce IntOp.andi x v reducesTo_S8192x1024_S_d0_1 h_S_) main_v45 main_c_18
  let main_v47 : IVec S_ 1 := andi main_v40 main_v46
  main_v47

def fn_part1 {F : FTy → Type} [FloatOps F] (main_arg2 : FVec F S8192x32 .f32) (main_arg3 : FVec F S16x8192x64 .f32) (main_arg4 : FVec F S8192x16 .f32) (main_arg5 : FVec F S8192x16 .f32) (main_arg6 : FVec F S8192x1024 .f32) (main_v12 : IVec S_ 1) (main_v14 : IVec S8192x32 1) (main_v15 : FVec F S8192x32 .f32) : IVec S_ 1 :=
  let main_v16 : IVec S8192x32 1 := cmpf .ogt main_arg2 main_v15
  let main_v17 : IVec S8192x32 1 := andi main_v14 main_v16
  let main_c_6 : IVec S_ 1 := constantI S_ 1 1#1
  let main_v18 : IVec S_ 1 := (fun x v => Host.reduce IntOp.andi x v reducesTo_S8192x32_S_d0_1 h_S_) main_v17 main_c_6
  let main_v19 : IVec S_ 1 := andi main_v12 main_v18
  let main_cst_7 : FVec F S_ .f32 := constant S_ .f32 0x7F800000#32
  let main_v20 : FVec F S16x8192x64 .f32 := broadcastInDim S16x8192x64 ![] bcast_S_S16x8192x64 main_cst_7
  let main_v21 : IVec S16x8192x64 1 := cmpf .olt main_arg3 main_v20
  let main_cst_8 : FVec F S_ .f32 := constant S_ .f32 0xFF800000#32
  let main_v22 : FVec F S16x8192x64 .f32 := broadcastInDim S16x8192x64 ![] bcast_S_S16x8192x64 main_cst_8
  let main_v23 : IVec S16x8192x64 1 := cmpf .ogt main_arg3 main_v22
  let main_v24 : IVec S16x8192x64 1 := andi main_v21 main_v23
  let main_c_9 : IVec S_ 1 := constantI S_ 1 1#1
  let main_v25 : IVec S_ 1 := (fun x v => Host.reduce IntOp.andi x v reducesTo_S16x8192x64_S_d0_1_2 h_S_) main_v24 main_c_9
  let main_v26 : IVec S_ 1 := andi main_v19 main_v25
  let main_cst_10 : FVec F S_ .f32 := constant S_ .f32 0x7F800000#32
  let main_v27 : FVec F S8192x16 .f32 := broadcastInDim S8192x16 ![] bcast_S_S8192x16 main_cst_10
  let main_v28 : IVec S8192x16 1 := cmpf .olt main_arg4 main_v27
  let main_cst_11 : FVec F S_ .f32 := constant S_ .f32 0xFF800000#32
  let main_v29 : FVec F S8192x16 .f32 := broadcastInDim S8192x16 ![] bcast_S_S8192x16 main_cst_11
  let main_v30 : IVec S8192x16 1 := cmpf .ogt main_arg4 main_v29
  let main_v31 : IVec S8192x16 1 := andi main_v28 main_v30
  let main_c_12 : IVec S_ 1 := constantI S_ 1 1#1
  let main_v32 : IVec S_ 1 := (fun x v => Host.reduce IntOp.andi x v reducesTo_S8192x16_S_d0_1 h_S_) main_v31 main_c_12
  fn_part2 (F := F) main_arg5 main_arg6 main_v26 main_v32

def fn {F : FTy → Type} [FloatOps F] (main_arg0 : FVec F S8192x16x96 .f32) (main_arg1 : FVec F S16x8192x64 .f32) (main_arg2 : FVec F S8192x32 .f32) (main_arg3 : FVec F S16x8192x64 .f32) (main_arg4 : FVec F S8192x16 .f32) (main_arg5 : FVec F S8192x16 .f32) (main_arg6 : FVec F S8192x1024 .f32) : IVec S_ 1 :=
  let main_cst : FVec F S_ .f32 := constant S_ .f32 0x7F800000#32
  let main_v0 : FVec F S8192x16x96 .f32 := broadcastInDim S8192x16x96 ![] bcast_S_S8192x16x96 main_cst
  let main_v1 : IVec S8192x16x96 1 := cmpf .olt main_arg0 main_v0
  let main_cst_0 : FVec F S_ .f32 := constant S_ .f32 0xFF800000#32
  let main_v2 : FVec F S8192x16x96 .f32 := broadcastInDim S8192x16x96 ![] bcast_S_S8192x16x96 main_cst_0
  let main_v3 : IVec S8192x16x96 1 := cmpf .ogt main_arg0 main_v2
  let main_v4 : IVec S8192x16x96 1 := andi main_v1 main_v3
  let main_c : IVec S_ 1 := constantI S_ 1 1#1
  let main_v5 : IVec S_ 1 := (fun x v => Host.reduce IntOp.andi x v reducesTo_S8192x16x96_S_d0_1_2 h_S_) main_v4 main_c
  let main_cst_1 : FVec F S_ .f32 := constant S_ .f32 0x7F800000#32
  let main_v6 : FVec F S16x8192x64 .f32 := broadcastInDim S16x8192x64 ![] bcast_S_S16x8192x64 main_cst_1
  let main_v7 : IVec S16x8192x64 1 := cmpf .olt main_arg1 main_v6
  let main_cst_2 : FVec F S_ .f32 := constant S_ .f32 0xFF800000#32
  let main_v8 : FVec F S16x8192x64 .f32 := broadcastInDim S16x8192x64 ![] bcast_S_S16x8192x64 main_cst_2
  let main_v9 : IVec S16x8192x64 1 := cmpf .ogt main_arg1 main_v8
  let main_v10 : IVec S16x8192x64 1 := andi main_v7 main_v9
  let main_c_3 : IVec S_ 1 := constantI S_ 1 1#1
  let main_v11 : IVec S_ 1 := (fun x v => Host.reduce IntOp.andi x v reducesTo_S16x8192x64_S_d0_1_2 h_S_) main_v10 main_c_3
  let main_v12 : IVec S_ 1 := andi main_v5 main_v11
  let main_cst_4 : FVec F S_ .f32 := constant S_ .f32 0x7F800000#32
  let main_v13 : FVec F S8192x32 .f32 := broadcastInDim S8192x32 ![] bcast_S_S8192x32 main_cst_4
  let main_v14 : IVec S8192x32 1 := cmpf .olt main_arg2 main_v13
  let main_cst_5 : FVec F S_ .f32 := constant S_ .f32 0xFF800000#32
  let main_v15 : FVec F S8192x32 .f32 := broadcastInDim S8192x32 ![] bcast_S_S8192x32 main_cst_5
  fn_part1 (F := F) main_arg2 main_arg3 main_arg4 main_arg5 main_arg6 main_v12 main_v14 main_v15
-- ==== Kernel.lean ====
abbrev S8192x16x96 : Shape := ⟨3, ![8192, 16, 96]⟩
abbrev S16x8192x64 : Shape := ⟨3, ![16, 8192, 64]⟩
abbrev S8192x32 : Shape := ⟨2, ![8192, 32]⟩
abbrev S8192x16 : Shape := ⟨2, ![8192, 16]⟩
abbrev S8192x1024 : Shape := ⟨2, ![8192, 1024]⟩
abbrev S8192x16x64 : Shape := ⟨3, ![8192, 16, 64]⟩
abbrev S8192x16x32 : Shape := ⟨3, ![8192, 16, 32]⟩
abbrev S8192x1x16 : Shape := ⟨3, ![8192, 1, 16]⟩
abbrev S8192x16x16 : Shape := ⟨3, ![8192, 16, 16]⟩
abbrev S8192 : Shape := ⟨1, ![8192]⟩
abbrev S_ : Shape := ⟨0, ![]⟩
abbrev S16x8192x8192 : Shape := ⟨3, ![16, 8192, 8192]⟩
abbrev S8192x8192x16 : Shape := ⟨3, ![8192, 8192, 16]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x64x8192 : Shape := ⟨3, ![16, 64, 8192]⟩
abbrev S8192x16x128 : Shape := ⟨3, ![8192, 16, 128]⟩
abbrev S8192x2048 : Shape := ⟨2, ![8192, 2048]⟩
abbrev S8192x4096 : Shape := ⟨2, ![8192, 4096]⟩
abbrev S8192x128 : Shape := ⟨2, ![8192, 128]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S1x8192x1x128 : Shape := ⟨4, ![1, 8192, 1, 128]⟩
abbrev S1x8192x16x128 : Shape := ⟨4, ![1, 8192, 16, 128]⟩
abbrev S1x2048 : Shape := ⟨2, ![1, 2048]⟩
abbrev S8192x1536 : Shape := ⟨2, ![8192, 1536]⟩
abbrev S8192x64 : Shape := ⟨2, ![8192, 64]⟩
abbrev S8192x48 : Shape := ⟨2, ![8192, 48]⟩
abbrev S8192x80 : Shape := ⟨2, ![8192, 80]⟩
abbrev S512x128 : Shape := ⟨2, ![512, 128]⟩
abbrev S1x512x1 : Shape := ⟨3, ![1, 512, 1]⟩
abbrev S512 : Shape := ⟨1, ![512]⟩
abbrev S512x1 : Shape := ⟨2, ![512, 1]⟩
abbrev S512x512 : Shape := ⟨2, ![512, 512]⟩

abbrev nBuf : Space → Nat
  | .hbm => 161
  | .vmem => 25
  | .smem => 0
  | _ => 0

abbrev hbmTy0_0 (i : Nat) : BufTy := match i % 128 with
  | 0 => ⟨S8192x16x96, .f32⟩
  | 1 => ⟨S16x8192x64, .f32⟩
  | 2 => ⟨S8192x32, .f32⟩
  | 3 => ⟨S16x8192x64, .f32⟩
  | 4 => ⟨S8192x16, .f32⟩
  | 5 => ⟨S8192x16, .f32⟩
  | 6 => ⟨S8192x1024, .f32⟩
  | 7 => ⟨S8192x16x64, .f32⟩
  | 8 => ⟨S8192x16x32, .f32⟩
  | 9 => ⟨S8192x1x16, .f32⟩
  | 10 => ⟨S8192x1x16, .f32⟩
  | 11 => ⟨S8192x16x16, .f32⟩
  | 12 => ⟨S8192x16x16, .f32⟩
  | 13 => ⟨S8192x16x16, .f32⟩
  | 14 => ⟨S8192x16x16, .f32⟩
  | 15 => ⟨S8192x16x16, .f32⟩
  | 16 => ⟨S8192x16x16, .f32⟩
  | 17 => ⟨S8192x16x16, .f32⟩
  | 18 => ⟨S8192x16x16, .f32⟩
  | 19 => ⟨S8192x16x16, .f32⟩
  | 20 => ⟨S8192x16x16, .f32⟩
  | 21 => ⟨S8192x16x16, .f32⟩
  | 22 => ⟨S8192x16x16, .f32⟩
  | 23 => ⟨S8192x16x32, .f32⟩
  | 24 => ⟨S8192, .i32⟩
  | 25 => ⟨S_, .i32⟩
  | 26 => ⟨S_, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S8192, .i32⟩
  | 34 => ⟨S8192, .i32⟩
  | 35 => ⟨S_, .i32⟩
  | 36 => ⟨S8192, .i32⟩
  | 37 => ⟨S8192, .i1⟩
  | 38 => ⟨S8192, .i1⟩
  | 39 => ⟨S_, .i32⟩
  | 40 => ⟨S8192, .i32⟩
  | 41 => ⟨S8192, .i32⟩
  | 42 => ⟨S8192, .i32⟩
  | 43 => ⟨S16x8192x8192, .f32⟩
  | 44 => ⟨S8192x8192x16, .f32⟩
  | 45 => ⟨S16x8192x8192, .f32⟩
  | 46 => ⟨S16x8192x8192, .f32⟩
  | 47 => ⟨S_, .f32⟩
  | 48 => ⟨S16x8192x8192, .f32⟩
  | 49 => ⟨S16x8192x8192, .f32⟩
  | 50 => ⟨S1x8192, .i32⟩
  | 51 => ⟨S8192x1, .i32⟩
  | 52 => ⟨S8192x8192, .i32⟩
  | 53 => ⟨S8192x8192, .i32⟩
  | 54 => ⟨S8192x8192, .i1⟩
  | 55 => ⟨S_, .f32⟩
  | 56 => ⟨S_, .f32⟩
  | 57 => ⟨S16x8192x8192, .i1⟩
  | 58 => ⟨S16x8192x8192, .f32⟩
  | 59 => ⟨S16x8192x8192, .f32⟩
  | 60 => ⟨S_, .f32⟩
  | 61 => ⟨S16x8192, .f32⟩
  | 62 => ⟨S_, .f32⟩
  | 63 => ⟨S16x8192, .f32⟩
  | 64 => ⟨S16x8192, .f32⟩
  | 65 => ⟨S16x8192x1, .f32⟩
  | 66 => ⟨S16x8192x8192, .f32⟩
  | 67 => ⟨S16x8192x8192, .f32⟩
  | 68 => ⟨S16x8192x8192, .f32⟩
  | 69 => ⟨S_, .f32⟩
  | 70 => ⟨S16x8192, .f32⟩
  | 71 => ⟨S16x8192x1, .f32⟩
  | 72 => ⟨S16x8192x8192, .f32⟩
  | 73 => ⟨S16x8192x8192, .f32⟩
  | 74 => ⟨S16x64x8192, .f32⟩
  | 75 => ⟨S8192x16x64, .f32⟩
  | 76 => ⟨S8192x1024, .f32⟩
  | 77 => ⟨S_, .f32⟩
  | 78 => ⟨S16x8192, .f32⟩
  | 79 => ⟨S16x8192x1, .f32⟩
  | 80 => ⟨S16x8192x8192, .f32⟩
  | 81 => ⟨S16x8192x8192, .f32⟩
  | 82 => ⟨S16x8192x8192, .f32⟩
  | 83 => ⟨S_, .f32⟩
  | 84 => ⟨S16x8192, .f32⟩
  | 85 => ⟨S16x8192x1, .f32⟩
  | 86 => ⟨S16x8192x1, .f32⟩
  | 87 => ⟨S16x8192x1, .f32⟩
  | 88 => ⟨S8192x16x64, .f32⟩
  | 89 => ⟨S8192x1024, .f32⟩
  | 90 => ⟨S8192x16x64, .f32⟩
  | 91 => ⟨S_, .i32⟩
  | 92 => ⟨S_, .f32⟩
  | 93 => ⟨S8192x16x128, .f32⟩
  | 94 => ⟨S8192x2048, .f32⟩
  | 95 => ⟨S8192x16x64, .f32⟩
  | 96 => ⟨S8192x1024, .f32⟩
  | 97 => ⟨S8192x16x64, .f32⟩
  | 98 => ⟨S_, .i32⟩
  | 99 => ⟨S_, .f32⟩
  | 100 => ⟨S8192x16x128, .f32⟩
  | 101 => ⟨S8192x2048, .f32⟩
  | 102 => ⟨S8192x4096, .f32⟩
  | 103 => ⟨S_, .i32⟩
  | 104 => ⟨S_, .f32⟩
  | 105 => ⟨S8192x128, .f32⟩
  | 106 => ⟨S128, .i32⟩
  | 107 => ⟨S_, .i32⟩
  | 108 => ⟨S128, .i32⟩
  | 109 => ⟨S128, .i1⟩
  | 110 => ⟨S128, .f32⟩
  | 111 => ⟨S1x128, .f32⟩
  | 112 => ⟨S16x128, .f32⟩
  | 113 => ⟨S2048, .f32⟩
  | 114 => ⟨S8192x2048, .f32⟩
  | 115 => ⟨S1x8192x1x128, .f32⟩
  | 116 => ⟨S1x8192x16x128, .f32⟩
  | 117 => ⟨S8192x2048, .f32⟩
  | 118 => ⟨S8192x2048, .f32⟩
  | 119 => ⟨S8192x2048, .bf16⟩
  | 120 => ⟨S8192x2048, .f32⟩
  | 121 => ⟨S1x2048, .f32⟩
  | 122 => ⟨S8192x2048, .f32⟩
  | 123 => ⟨S8192x2048, .f32⟩
  | 124 => ⟨S8192x2048, .bf16⟩
  | 125 => ⟨S8192x1536, .f32⟩
  | 126 => ⟨S8192x16x96, .f32⟩
  | 127 => ⟨S_, .i32⟩
  | _ => ⟨S8192x16x96, .f32⟩

abbrev hbmTy0_1 (i : Nat) : BufTy := match i % 128 with
  | 0 => ⟨S_, .f32⟩
  | 1 => ⟨S8192x16x128, .f32⟩
  | 2 => ⟨S8192x2048, .f32⟩
  | 3 => ⟨S_, .f32⟩
  | 4 => ⟨S8192x64, .f32⟩
  | 5 => ⟨S_, .f32⟩
  | 6 => ⟨S8192x32, .f32⟩
  | 7 => ⟨S8192x128, .f32⟩
  | 8 => ⟨S_, .f32⟩
  | 9 => ⟨S8192x64, .f32⟩
  | 10 => ⟨S8192x16, .f32⟩
  | 11 => ⟨S_, .f32⟩
  | 12 => ⟨S8192x48, .f32⟩
  | 13 => ⟨S8192x128, .f32⟩
  | 14 => ⟨S_, .f32⟩
  | 15 => ⟨S8192x80, .f32⟩
  | 16 => ⟨S_, .f32⟩
  | 17 => ⟨S8192x32, .f32⟩
  | 18 => ⟨S8192x128, .f32⟩
  | 19 => ⟨S8192x2048, .f32⟩
  | 20 => ⟨S8192x2048, .f32⟩
  | 21 => ⟨S8192x2048, .f32⟩
  | 22 => ⟨S8192x16x128, .f32⟩
  | 23 => ⟨S_, .f32⟩
  | 24 => ⟨S8192x128, .f32⟩
  | 25 => ⟨S8192x16x128, .f32⟩
  | 26 => ⟨S8192x16x96, .f32⟩
  | 27 => ⟨S8192x16x64, .f32⟩
  | 28 => ⟨S16x8192x64, .f32⟩
  | 29 => ⟨S8192x32, .f32⟩
  | 30 => ⟨S8192x16x128, .f32⟩
  | 31 => ⟨S8192x16x64, .f32⟩
  | 32 => ⟨S16x8192x64, .f32⟩
  | _ => ⟨S8192x16x96, .f32⟩

abbrev hbmTy (i : Nat) : BufTy := match i / 128 with
  | 0 => hbmTy0_0 i
  | 1 => hbmTy0_1 i
  | _ => ⟨S8192x16x96, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1, .f32⟩
  | .local _ .vmem, ⟨15, _⟩ => ⟨S1x512x1, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S512x128, .f32⟩
  | _, _ => ⟨S8192x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_cst_2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_6 : Ref sig .tc := ⟨.hbm, 91, rfl⟩
abbrev main_call2_v0 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_7 : Ref sig .tc := ⟨.hbm, 98, rfl⟩
abbrev main_call3_v0 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_8 : Ref sig .tc := ⟨.hbm, 103, rfl⟩
abbrev main_call4_v0 : Ref sig .tc := ⟨.hbm, 104, rfl⟩
abbrev main_v65 : Ref sig .tc := ⟨.hbm, 105, rfl⟩
abbrev main_v66 : Ref sig .tc := ⟨.hbm, 106, rfl⟩
abbrev main_c_9 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_10 : Ref sig .tc := ⟨.hbm, 127, rfl⟩
abbrev main_call5_v0 : Ref sig .tc := ⟨.hbm, 128, rfl⟩
abbrev main_v86 : Ref sig .tc := ⟨.hbm, 129, rfl⟩
abbrev main_v87 : Ref sig .tc := ⟨.hbm, 130, rfl⟩
abbrev main_cst_11 : Ref sig .tc := ⟨.hbm, 131, rfl⟩
abbrev main_v88 : Ref sig .tc := ⟨.hbm, 132, rfl⟩
abbrev main_cst_12 : Ref sig .tc := ⟨.hbm, 133, rfl⟩
abbrev main_v89 : Ref sig .tc := ⟨.hbm, 134, rfl⟩
abbrev main_v90 : Ref sig .tc := ⟨.hbm, 135, rfl⟩
abbrev main_cst_13 : Ref sig .tc := ⟨.hbm, 136, rfl⟩
abbrev main_v91 : Ref sig .tc := ⟨.hbm, 137, rfl⟩
abbrev main_v92 : Ref sig .tc := ⟨.hbm, 138, rfl⟩
abbrev main_cst_14 : Ref sig .tc := ⟨.hbm, 139, rfl⟩
abbrev main_v93 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_cst_16 : Ref sig .tc := ⟨.hbm, 144, rfl⟩
abbrev main_v96 : Ref sig .tc := ⟨.hbm, 145, rfl⟩
abbrev main_v97 : Ref sig .tc := ⟨.hbm, 146, rfl⟩
abbrev main_v98_0 : Ref sig .tc := ⟨.hbm, 147, rfl⟩
abbrev main_v98_1 : Ref sig .tc := ⟨.hbm, 148, rfl⟩
abbrev main_v98_2 : Ref sig .tc := ⟨.hbm, 149, rfl⟩
abbrev main_v99 : Ref sig .tc := ⟨.hbm, 150, rfl⟩
abbrev main_cst_17 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let c1_i32_38 : BitVec 32 := 1#32
  ⟨c0_i32_36, v88, c1_i32_38⟩
def k0_mult1 (i : grid0.Coords) (k0_t1 : Fin (k0_t1_loop i).trips) : BitVec 32 :=
  let c4_i32_75 : BitVec 32 := 4#32
  let c0_i32_36 : BitVec 32 := 0#32
  let c1_i32_38 : BitVec 32 := 1#32
  let arg15 : BitVec 32 := Scf.iv c0_i32_36 c1_i32_38 k0_t1
  let v165 : BitVec 32 := Scalar.muli c4_i32_75 arg15
  let c0_i32_76 : BitVec 32 := 0#32
  let v166 : BitVec 32 := Scalar.addi v165 c0_i32_76
  let c512_i32_77 : BitVec 32 := 512#32
  let v167 : BitVec 32 := Scalar.muli v166 c512_i32_77
  v167
def k0_off1 (i : grid0.Coords) (k0_t1 : Fin (k0_t1_loop i).trips) (c0_i32_76 : BitVec 32) : Fin 2 → Nat :=
  let c4_i32_75 : BitVec 32 := 4#32
  let c0_i32_36 : BitVec 32 := 0#32
  let c1_i32_38 : BitVec 32 := 1#32
  let arg15 : BitVec 32 := Scf.iv c0_i32_36 c1_i32_38 k0_t1
  let v165 : BitVec 32 := Scalar.muli c4_i32_75 arg15
  let v166 : BitVec 32 := Scalar.addi v165 c0_i32_76
  let c512_i32_77 : BitVec 32 := 512#32
  let v167 : BitVec 32 := Scalar.muli v166 c512_i32_77
  let v168 : BitVec 32 := v167
  let v169 : Index := Scalar.indexCast v168
  let c0_78 : Index := 0#32
  ![v169.toNat, 0]
def k0_mult2 (i : grid0.Coords) (k0_t1 : Fin (k0_t1_loop i).trips) : BitVec 32 :=
  let c4_i32_95 : BitVec 32 := 4#32
  let c0_i32_36 : BitVec 32 := 0#32
  let c1_i32_38 : BitVec 32 := 1#32
  let arg15 : BitVec 32 := Scf.iv c0_i32_36 c1_i32_38 k0_t1
  let v209 : BitVec 32 := Scalar.muli c4_i32_95 arg15
  let c1_i32_96 : BitVec 32 := 1#32
  let v210 : BitVec 32 := Scalar.addi v209 c1_i32_96
  let c512_i32_97 : BitVec 32 := 512#32
  let v211 : BitVec 32 := Scalar.muli v210 c512_i32_97
  v211
def k0_mult3 (i : grid0.Coords) (k0_t1 : Fin (k0_t1_loop i).trips) : BitVec 32 :=
  let c4_i32_115 : BitVec 32 := 4#32
  let c0_i32_36 : BitVec 32 := 0#32
  let c1_i32_38 : BitVec 32 := 1#32
  let arg15 : BitVec 32 := Scf.iv c0_i32_36 c1_i32_38 k0_t1
  let v253 : BitVec 32 := Scalar.muli c4_i32_115 arg15
  let c2_i32_116 : BitVec 32 := 2#32
  let v254 : BitVec 32 := Scalar.addi v253 c2_i32_116
  let c512_i32_117 : BitVec 32 := 512#32
  let v255 : BitVec 32 := Scalar.muli v254 c512_i32_117
  v255
def k0_mult4 (i : grid0.Coords) (k0_t1 : Fin (k0_t1_loop i).trips) : BitVec 32 :=
  let c4_i32_135 : BitVec 32 := 4#32
  let c0_i32_36 : BitVec 32 := 0#32
  let c1_i32_38 : BitVec 32 := 1#32
  let arg15 : BitVec 32 := Scf.iv c0_i32_36 c1_i32_38 k0_t1
  let v297 : BitVec 32 := Scalar.muli c4_i32_135 arg15
  let c3_i32 : BitVec 32 := 3#32
  let v298 : BitVec 32 := Scalar.addi v297 c3_i32
  let c512_i32_136 : BitVec 32 := 512#32
  let v299 : BitVec 32 := Scalar.muli v298 c512_i32_136
  v299
@[reducible] def k0_t2_loop (i : grid0.Coords) : Scf.Loop 32 :=
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let v85 : BitVec 32 := Scalar.addi c0_i32_36 v84
  let c1_i32_39 : BitVec 32 := 1#32
  ⟨v88, v85, c1_i32_39⟩
def k0_mult5 (i : grid0.Coords) (k0_t2 : Fin (k0_t2_loop i).trips) : BitVec 32 :=
  let c4_i32_75 : BitVec 32 := 4#32
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let c1_i32_39 : BitVec 32 := 1#32
  let arg15 : BitVec 32 := Scf.iv v88 c1_i32_39 k0_t2
  let v165 : BitVec 32 := Scalar.muli c4_i32_75 arg15
  let c0_i32_76 : BitVec 32 := 0#32
  let v166 : BitVec 32 := Scalar.addi v165 c0_i32_76
  let c512_i32_77 : BitVec 32 := 512#32
  let v167 : BitVec 32 := Scalar.muli v166 c512_i32_77
  v167
def k0_off2 (i : grid0.Coords) (k0_t2 : Fin (k0_t2_loop i).trips) (c0_i32_76 : BitVec 32) : Fin 2 → Nat :=
  let c4_i32_75 : BitVec 32 := 4#32
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let c1_i32_39 : BitVec 32 := 1#32
  let arg15 : BitVec 32 := Scf.iv v88 c1_i32_39 k0_t2
  let v165 : BitVec 32 := Scalar.muli c4_i32_75 arg15
  let v166 : BitVec 32 := Scalar.addi v165 c0_i32_76
  let c512_i32_77 : BitVec 32 := 512#32
  let v167 : BitVec 32 := Scalar.muli v166 c512_i32_77
  let v168 : BitVec 32 := v167
  let v169 : Index := Scalar.indexCast v168
  let c0_78 : Index := 0#32
  ![v169.toNat, 0]
def k0_mult6 (i : grid0.Coords) (k0_t2 : Fin (k0_t2_loop i).trips) : BitVec 32 :=
  let c4_i32_95 : BitVec 32 := 4#32
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let c1_i32_39 : BitVec 32 := 1#32
  let arg15 : BitVec 32 := Scf.iv v88 c1_i32_39 k0_t2
  let v209 : BitVec 32 := Scalar.muli c4_i32_95 arg15
  let c1_i32_96 : BitVec 32 := 1#32
  let v210 : BitVec 32 := Scalar.addi v209 c1_i32_96
  let c512_i32_97 : BitVec 32 := 512#32
  let v211 : BitVec 32 := Scalar.muli v210 c512_i32_97
  v211
def k0_mult7 (i : grid0.Coords) (k0_t2 : Fin (k0_t2_loop i).trips) : BitVec 32 :=
  let c4_i32_115 : BitVec 32 := 4#32
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let c1_i32_39 : BitVec 32 := 1#32
  let arg15 : BitVec 32 := Scf.iv v88 c1_i32_39 k0_t2
  let v253 : BitVec 32 := Scalar.muli c4_i32_115 arg15
  let c2_i32_116 : BitVec 32 := 2#32
  let v254 : BitVec 32 := Scalar.addi v253 c2_i32_116
  let c512_i32_117 : BitVec 32 := 512#32
  let v255 : BitVec 32 := Scalar.muli v254 c512_i32_117
  v255
def k0_mult8 (i : grid0.Coords) (k0_t2 : Fin (k0_t2_loop i).trips) : BitVec 32 :=
  let c4_i32_135 : BitVec 32 := 4#32
  let c0_i32_36 : BitVec 32 := 0#32
  let arg1 : BitVec 32 := BitVec.ofNat 32 (i 1).val
  let c0_i32_29 : BitVec 32 := 0#32
  let v68 : BitVec 1 := Scalar.cmpi .sgt arg1 c0_i32_29
  let v69 : BitVec 32 := Scalar.extui v68
  let c0_i32_30 : BitVec 32 := 0#32
  let v70 : BitVec 1 := Scalar.cmpi .slt arg1 c0_i32_30
  let v71 : BitVec 32 := Scalar.extui v70
  let v72 : BitVec 32 := Scalar.subi v69 v71
  let c4_i32 : BitVec 32 := 4#32
  let c0_i32_31 : BitVec 32 := 0#32
  let v73 : BitVec 1 := Scalar.cmpi .sgt c4_i32 c0_i32_31
  let v74 : BitVec 32 := Scalar.extui v73
  let c0_i32_32 : BitVec 32 := 0#32
  let v75 : BitVec 1 := Scalar.cmpi .slt c4_i32 c0_i32_32
  let v76 : BitVec 32 := Scalar.extui v75
  let v77 : BitVec 32 := Scalar.subi v74 v76
  let v78 : BitVec 1 := Scalar.cmpi .ne v72 v77
  let v79 : BitVec 32 := Scalar.remsi arg1 c4_i32
  let c0_i32_33 : BitVec 32 := 0#32
  let v80 : BitVec 1 := Scalar.cmpi .ne v79 c0_i32_33
  let v81 : BitVec 1 := Scalar.andi v78 v80
  let v67 : BitVec 32 := Scalar.divsi arg1 c4_i32
  let c1_i32_34 : BitVec 32 := 1#32
  let v82 : BitVec 32 := Scalar.subi v67 c1_i32_34
  let v83 : BitVec 32 := Scalar.select v81 v82 v67
  let v84 : BitVec 32 := Scalar.subi v83 c0_i32_36
  let c1_i32_37 : BitVec 32 := 1#32
  let v86 : BitVec 32 := Scalar.divsi v84 c1_i32_37
  let v87 : BitVec 32 := Scalar.muli v86 c1_i32_37
  let v88 : BitVec 32 := Scalar.addi c0_i32_36 v87
  let c1_i32_39 : BitVec 32 := 1#32
  let arg15 : BitVec 32 := Scf.iv v88 c1_i32_39 k0_t2
  let v297 : BitVec 32 := Scalar.muli c4_i32_135 arg15
  let c3_i32 : BitVec 32 := 3#32
  let v298 : BitVec 32 := Scalar.addi v297 c3_i32
  let c512_i32_136 : BitVec 32 := 512#32
  let v299 : BitVec 32 := Scalar.muli v298 c512_i32_136
  v299
@[reducible] def k0_t3_loop (i : grid0.Coords) : Scf.Loop 32 :=
  let arg1 : BitVec 32 := BitVec.ofNat 32 (i 1).val
  let c4_i32_40 : BitVec 32 := 4#32
  let c0_i32_41 : BitVec 32 := 0#32
  let v89 : BitVec 1 := Scalar.cmpi .eq c4_i32_40 c0_i32_41
  let c1_i32_42 : BitVec 32 := 1#32
  let v90 : BitVec 32 := Scalar.select v89 c1_i32_42 c4_i32_40
  let v91 : BitVec 32 := Scalar.remsi arg1 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let v99 : BitVec 32 := Scalar.subi arg1 v98
  let v100 : BitVec 32 := Scalar.subi arg1 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_48 : BitVec 32 := 1#32
  ⟨v99, v104, c1_i32_48⟩
def k0_mult9 (i : grid0.Coords) (k0_t3 : Fin (k0_t3_loop i).trips) : BitVec 32 :=
  let arg1 : BitVec 32 := BitVec.ofNat 32 (i 1).val
  let c4_i32_40 : BitVec 32 := 4#32
  let c0_i32_41 : BitVec 32 := 0#32
  let v89 : BitVec 1 := Scalar.cmpi .eq c4_i32_40 c0_i32_41
  let c1_i32_42 : BitVec 32 := 1#32
  let v90 : BitVec 32 := Scalar.select v89 c1_i32_42 c4_i32_40
  let v91 : BitVec 32 := Scalar.remsi arg1 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let v99 : BitVec 32 := Scalar.subi arg1 v98
  let c1_i32_48 : BitVec 32 := 1#32
  let arg15 : BitVec 32 := Scf.iv v99 c1_i32_48 k0_t3
  let c512_i32_75 : BitVec 32 := 512#32
  let v165 : BitVec 32 := Scalar.muli arg15 c512_i32_75
  v165
def k0_off3 (i : grid0.Coords) (k0_t3 : Fin (k0_t3_loop i).trips) : Fin 2 → Nat :=
  let arg1 : BitVec 32 := BitVec.ofNat 32 (i 1).val
  let c4_i32_40 : BitVec 32 := 4#32
  let c0_i32_41 : BitVec 32 := 0#32
  let v89 : BitVec 1 := Scalar.cmpi .eq c4_i32_40 c0_i32_41
  let c1_i32_42 : BitVec 32 := 1#32
  let v90 : BitVec 32 := Scalar.select v89 c1_i32_42 c4_i32_40
  let v91 : BitVec 32 := Scalar.remsi arg1 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let v99 : BitVec 32 := Scalar.subi arg1 v98
  let c1_i32_48 : BitVec 32 := 1#32
  let arg15 : BitVec 32 := Scf.iv v99 c1_i32_48 k0_t3
  let c512_i32_75 : BitVec 32 := 512#32
  let v165 : BitVec 32 := Scalar.muli arg15 c512_i32_75
  let v166 : BitVec 32 := v165
  let v167 : Index := Scalar.indexCast v166
  let c0_76 : Index := 0#32
  ![v167.toNat, 0]
@[reducible] def k0_t4_loop (i : grid0.Coords) : Scf.Loop 32 :=
  let arg1 : BitVec 32 := BitVec.ofNat 32 (i 1).val
  let c4_i32_40 : BitVec 32 := 4#32
  let c0_i32_41 : BitVec 32 := 0#32
  let v89 : BitVec 1 := Scalar.cmpi .eq c4_i32_40 c0_i32_41
  let c1_i32_42 : BitVec 32 := 1#32
  let v90 : BitVec 32 := Scalar.select v89 c1_i32_42 c4_i32_40
  let v91 : BitVec 32 := Scalar.remsi arg1 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let v99 : BitVec 32 := Scalar.subi arg1 v98
  let v100 : BitVec 32 := Scalar.subi arg1 v99
  let c1_i32_47 : BitVec 32 := 1#32
  let v102 : BitVec 32 := Scalar.divsi v100 c1_i32_47
  let v103 : BitVec 32 := Scalar.muli v102 c1_i32_47
  let v104 : BitVec 32 := Scalar.addi v99 v103
  let v101 : BitVec 32 := Scalar.addi v99 v100
  let c1_i32_49 : BitVec 32 := 1#32
  ⟨v104, v101, c1_i32_49⟩
def k0_mult10 (i : grid0.Coords) (k0_t4 : Fin (k0_t4_loop i).trips) : BitVec 32 :=
  let arg1 : BitVec 32 := BitVec.ofNat 32 (i 1).val
  let c4_i32_40 : BitVec 32 := 4#32
  let c0_i32_41 : BitVec 32 := 0#32
  let v89 : BitVec 1 := Scalar.cmpi .eq c4_i32_40 c0_i32_41
  let c1_i32_42 : BitVec 32 := 1#32
  let v90 : BitVec 32 := Scalar.select v89 c1_i32_42 c4_i32_40
  let v91 : BitVec 32 := Scalar.remsi arg1 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let v99 : BitVec 32 := Scalar.subi arg1 v98
  let v100 : BitVec 32 := Scalar.subi arg1 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg15 : BitVec 32 := Scf.iv v104 c1_i32_49 k0_t4
  let c512_i32_75 : BitVec 32 := 512#32
  let v165 : BitVec 32 := Scalar.muli arg15 c512_i32_75
  v165
def k0_off4 (i : grid0.Coords) (k0_t4 : Fin (k0_t4_loop i).trips) : Fin 2 → Nat :=
  let arg1 : BitVec 32 := BitVec.ofNat 32 (i 1).val
  let c4_i32_40 : BitVec 32 := 4#32
  let c0_i32_41 : BitVec 32 := 0#32
  let v89 : BitVec 1 := Scalar.cmpi .eq c4_i32_40 c0_i32_41
  let c1_i32_42 : BitVec 32 := 1#32
  let v90 : BitVec 32 := Scalar.select v89 c1_i32_42 c4_i32_40
  let v91 : BitVec 32 := Scalar.remsi arg1 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let v99 : BitVec 32 := Scalar.subi arg1 v98
  let v100 : BitVec 32 := Scalar.subi arg1 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg15 : BitVec 32 := Scf.iv v104 c1_i32_49 k0_t4
  let c512_i32_75 : BitVec 32 := 512#32
  let v165 : BitVec 32 := Scalar.muli arg15 c512_i32_75
  let v166 : BitVec 32 := v165
  let v167 : Index := Scalar.indexCast v166
  let c0_76 : Index := 0#32
  ![v167.toNat, 0]
def k0_mult11 (i : grid0.Coords) : BitVec 32 :=
  let arg1 : BitVec 32 := BitVec.ofNat 32 (i 1).val
  let c512_i32 : BitVec 32 := 512#32
  let v105 : BitVec 32 := Scalar.muli arg1 c512_i32
  v105
def k0_off5 (i : grid0.Coords) : Fin 2 → Nat :=
  let arg1 : BitVec 32 := BitVec.ofNat 32 (i 1).val
  let c512_i32 : BitVec 32 := 512#32
  let v105 : BitVec 32 := Scalar.muli arg1 c512_i32
  let v106 : BitVec 32 := v105
  let v107 : Index := Scalar.indexCast v106
  let c0_50 : Index := 0#32
  ![v107.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8192x16x96 : Shape := ⟨3, ![8192, 16, 96]⟩
abbrev S16x8192x64 : Shape := ⟨3, ![16, 8192, 64]⟩
abbrev S8192x32 : Shape := ⟨2, ![8192, 32]⟩
abbrev S8192x16 : Shape := ⟨2, ![8192, 16]⟩
abbrev S8192x1024 : Shape := ⟨2, ![8192, 1024]⟩
abbrev S8192x16x64 : Shape := ⟨3, ![8192, 16, 64]⟩
abbrev S8192x16x32 : Shape := ⟨3, ![8192, 16, 32]⟩
abbrev S8192x1x16 : Shape := ⟨3, ![8192, 1, 16]⟩
abbrev S8192x16x16 : Shape := ⟨3, ![8192, 16, 16]⟩
abbrev S8192 : Shape := ⟨1, ![8192]⟩
abbrev S_ : Shape := ⟨0, ![]⟩
abbrev S16x8192x8192 : Shape := ⟨3, ![16, 8192, 8192]⟩
abbrev S8192x8192x16 : Shape := ⟨3, ![8192, 8192, 16]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x64x8192 : Shape := ⟨3, ![16, 64, 8192]⟩

abbrev nBuf : Space → Nat
  | .hbm => 157
  | .vmem => 0
  | .smem => 0
  | _ => 0

abbrev hbmTy0_0 (i : Nat) : BufTy := match i % 128 with
  | 0 => ⟨S8192x16x96, .f32⟩
  | 1 => ⟨S16x8192x64, .f32⟩
  | 2 => ⟨S8192x32, .f32⟩
  | 3 => ⟨S16x8192x64, .f32⟩
  | 4 => ⟨S8192x16, .f32⟩
  | 5 => ⟨S8192x16, .f32⟩
  | 6 => ⟨S8192x1024, .f32⟩
  | 7 => ⟨S8192x16x64, .f32⟩
  | 8 => ⟨S8192x16x32, .f32⟩
  | 9 => ⟨S8192x1x16, .f32⟩
  | 10 => ⟨S8192x1x16, .f32⟩
  | 11 => ⟨S8192x16x16, .f32⟩
  | 12 => ⟨S8192x16x16, .f32⟩
  | 13 => ⟨S8192x16x16, .f32⟩
  | 14 => ⟨S8192x16x16, .f32⟩
  | 15 => ⟨S8192x16x16, .f32⟩
  | 16 => ⟨S8192x16x16, .f32⟩
  | 17 => ⟨S8192x16x16, .f32⟩
  | 18 => ⟨S8192x16x16, .f32⟩
  | 19 => ⟨S8192x16x16, .f32⟩
  | 20 => ⟨S8192x16x16, .f32⟩
  | 21 => ⟨S8192x16x16, .f32⟩
  | 22 => ⟨S8192x16x16, .f32⟩
  | 23 => ⟨S8192x16x32, .f32⟩
  | 24 => ⟨S8192, .i32⟩
  | 25 => ⟨S_, .i32⟩
  | 26 => ⟨S_, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S8192, .i32⟩
  | 34 => ⟨S8192, .i32⟩
  | 35 => ⟨S_, .i32⟩
  | 36 => ⟨S8192, .i32⟩
  | 37 => ⟨S8192, .i1⟩
  | 38 => ⟨S8192, .i1⟩
  | 39 => ⟨S_, .i32⟩
  | 40 => ⟨S8192, .i32⟩
  | 41 => ⟨S8192, .i32⟩
  | 42 => ⟨S8192, .i32⟩
  | 43 => ⟨S16x8192x8192, .f32⟩
  | 44 => ⟨S8192x8192x16, .f32⟩
  | 45 => ⟨S16x8192x8192, .f32⟩
  | 46 => ⟨S16x8192x8192, .f32⟩
  | 47 => ⟨S_, .f32⟩
  | 48 => ⟨S16x8192x8192, .f32⟩
  | 49 => ⟨S16x8192x8192, .f32⟩
  | 50 => ⟨S1x8192, .i32⟩
  | 51 => ⟨S8192x1, .i32⟩
  | 52 => ⟨S8192x8192, .i32⟩
  | 53 => ⟨S8192x8192, .i32⟩
  | 54 => ⟨S8192x8192, .i1⟩
  | 55 => ⟨S_, .f32⟩
  | 56 => ⟨S_, .f32⟩
  | 57 => ⟨S16x8192x8192, .i1⟩
  | 58 => ⟨S16x8192x8192, .f32⟩
  | 59 => ⟨S16x8192x8192, .f32⟩
  | 60 => ⟨S_, .f32⟩
  | 61 => ⟨S16x8192x8192, .f32⟩
  | 62 => ⟨S_, .f32⟩
  | 63 => ⟨S16x8192, .f32⟩
  | 64 => ⟨S16x8192x1, .f32⟩
  | 65 => ⟨S16x8192x8192, .f32⟩
  | 66 => ⟨S16x8192x8192, .i1⟩
  | 67 => ⟨S16x8192x8192, .f32⟩
  | 68 => ⟨S_, .f32⟩
  | 69 => ⟨S16x8192, .f32⟩
  | 70 => ⟨S_, .f32⟩
  | 71 => ⟨S16x8192, .f32⟩
  | 72 => ⟨S16x8192, .f32⟩
  | 73 => ⟨S_, .f32⟩
  | 74 => ⟨S16x8192, .f32⟩
  | 75 => ⟨S16x8192, .i1⟩
  | 76 => ⟨S_, .f32⟩
  | 77 => ⟨S16x8192, .f32⟩
  | 78 => ⟨S16x8192, .i1⟩
  | 79 => ⟨S_, .f32⟩
  | 80 => ⟨S16x8192, .f32⟩
  | 81 => ⟨S_, .f32⟩
  | 82 => ⟨S16x8192, .f32⟩
  | 83 => ⟨S_, .f32⟩
  | 84 => ⟨S16x8192, .f32⟩
  | 85 => ⟨S16x8192, .f32⟩
  | 86 => ⟨S16x8192, .f32⟩
  | 87 => ⟨S16x8192x1, .f32⟩
  | 88 => ⟨S16x8192x8192, .f32⟩
  | 89 => ⟨S16x8192x8192, .f32⟩
  | 90 => ⟨S16x8192x8192, .f32⟩
  | 91 => ⟨S_, .f32⟩
  | 92 => ⟨S16x8192, .f32⟩
  | 93 => ⟨S16x8192x1, .f32⟩
  | 94 => ⟨S16x8192x8192, .f32⟩
  | 95 => ⟨S16x8192x8192, .f32⟩
  | 96 => ⟨S16x8192x1, .f32⟩
  | 97 => ⟨S_, .f32⟩
  | 98 => ⟨S16x8192x1, .f32⟩
  | 99 => ⟨S16x8192x1, .f32⟩
  | 100 => ⟨S16x64x8192, .f32⟩
  | 101 => ⟨S8192x16x64, .f32⟩
  | 102 => ⟨S8192x1024, .f32⟩
  | 103 => ⟨S8192x16x64, .f32⟩
  | 104 => ⟨S16x64x8192, .f32⟩
  | 105 => ⟨S16x8192x8192, .f32⟩
  | 106 => ⟨S16x64x8192, .f32⟩
  | 107 => ⟨S16x8192x64, .f32⟩
  | 108 => ⟨S16x8192x8192, .f32⟩
  | 109 => ⟨S16x8192x8192, .f32⟩
  | 110 => ⟨S16x8192x8192, .f32⟩
  | 111 => ⟨S_, .f32⟩
  | 112 => ⟨S16x8192, .f32⟩
  | 113 => ⟨S16x8192x1, .f32⟩
  | 114 => ⟨S16x8192x1, .f32⟩
  | 115 => ⟨S16x8192x8192, .f32⟩
  | 116 => ⟨S16x8192x8192, .f32⟩
  | 117 => ⟨S_, .f32⟩
  | 118 => ⟨S16x8192, .f32⟩
  | 119 => ⟨S16x8192x8192, .f32⟩
  | 120 => ⟨S16x8192x8192, .f32⟩
  | 121 => ⟨S16x8192x8192, .f32⟩
  | 122 => ⟨S_, .f32⟩
  | 123 => ⟨S16x8192x8192, .f32⟩
  | 124 => ⟨S16x8192x8192, .f32⟩
  | 125 => ⟨S_, .f32⟩
  | 126 => ⟨S16x8192x8192, .f32⟩
  | 127 => ⟨S16x8192x8192, .f32⟩
  | _ => ⟨S8192x16x96, .f32⟩

abbrev hbmTy0_1 (i : Nat) : BufTy := match i % 128 with
  | 0 => ⟨S8192x8192x16, .f32⟩
  | 1 => ⟨S8192x16x32, .f32⟩
  | 2 => ⟨S8192x32, .f32⟩
  | 3 => ⟨S16x8192x64, .f32⟩
  | 4 => ⟨S16x8192x64, .f32⟩
  | 5 => ⟨S8192x16x64, .f32⟩
  | 6 => ⟨S8192x16x16, .f32⟩
  | 7 => ⟨S8192x16x16, .f32⟩
  | 8 => ⟨S8192x16x16, .f32⟩
  | 9 => ⟨S8192x16x16, .f32⟩
  | 10 => ⟨S8192x16x16, .f32⟩
  | 11 => ⟨S8192x16x16, .f32⟩
  | 12 => ⟨S8192x16x16, .f32⟩
  | 13 => ⟨S8192x16x16, .f32⟩
  | 14 => ⟨S8192x16x16, .f32⟩
  | 15 => ⟨S8192x16x16, .f32⟩
  | 16 => ⟨S8192x16x16, .f32⟩
  | 17 => ⟨S8192x16x16, .f32⟩
  | 18 => ⟨S8192x16x16, .f32⟩
  | 19 => ⟨S_, .f32⟩
  | 20 => ⟨S8192x16x32, .f32⟩
  | 21 => ⟨S_, .f32⟩
  | 22 => ⟨S8192x16x32, .f32⟩
  | 23 => ⟨S8192x16x32, .f32⟩
  | 24 => ⟨S_, .f32⟩
  | 25 => ⟨S8192x16x96, .f32⟩
  | 26 => ⟨S_, .f32⟩
  | 27 => ⟨S8192x16x96, .f32⟩
  | 28 => ⟨S8192x16x96, .f32⟩
  | _ => ⟨S8192x16x96, .f32⟩

abbrev hbmTy (i : Nat) : BufTy := match i / 128 with
  | 0 => hbmTy0_0 i
  | 1 => hbmTy0_1 i
  | _ => ⟨S8192x16x96, .f32⟩

abbrev bufTy : (tb : Table) → Fin (tcTables nBuf tb) → BufTy
  | .hbm, ⟨i, _⟩ => hbmTy i
  | _, _ => ⟨S8192x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_0 : Ref sig .tc := ⟨.hbm, 55, rfl⟩
abbrev main_call1_v0 : Ref sig .tc := ⟨.hbm, 56, rfl⟩
abbrev main_v30_1 : Ref sig .tc := ⟨.hbm, 57, rfl⟩
abbrev main_call1_v2 : Ref sig .tc := ⟨.hbm, 58, rfl⟩
abbrev main_v30_0 : Ref sig .tc := ⟨.hbm, 59, rfl⟩
abbrev main_call1_cst : Ref sig .tc := ⟨.hbm, 60, rfl⟩
abbrev main_v30_2 : Ref sig .tc := ⟨.hbm, 61, rfl⟩
abbrev main_cst_1 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_2 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_cst_6 : Ref sig .tc := ⟨.hbm, 79, rfl⟩
abbrev main_v43 : Ref sig .tc := ⟨.hbm, 80, rfl⟩
abbrev main_cst_7 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_10 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_12 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_call2_cst : Ref sig .tc := ⟨.hbm, 122, rfl⟩
abbrev main_call2_v0 : Ref sig .tc := ⟨.hbm, 123, rfl⟩
abbrev main_v79 : Ref sig .tc := ⟨.hbm, 124, rfl⟩
abbrev main_cst_13 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_14 : Ref sig .tc := ⟨.hbm, 147, rfl⟩
abbrev main_v101 : Ref sig .tc := ⟨.hbm, 148, rfl⟩
abbrev main_cst_15 : Ref sig .tc := ⟨.hbm, 149, rfl⟩
abbrev main_v102 : Ref sig .tc := ⟨.hbm, 150, rfl⟩
abbrev main_v103 : Ref sig .tc := ⟨.hbm, 151, rfl⟩
abbrev main_cst_16 : Ref sig .tc := ⟨.hbm, 152, rfl⟩
abbrev main_v104 : Ref sig .tc := ⟨.hbm, 153, rfl⟩
abbrev main_cst_17 : Ref sig .tc := ⟨.hbm, 154, rfl⟩
abbrev main_v105 : Ref sig .tc := ⟨.hbm, 155, rfl⟩
abbrev main_v106 : Ref sig .tc := ⟨.hbm, 156, rfl⟩

abbrev nD : Nat := 1
abbrev τ : Topo := Topo.v7x

variable {F : FTy → Type} [FloatOps F]
-- ==== Kernel2.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S4096x1024, .bf16⟩
  | .hbm, ⟨9, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel12.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x3072, .bf16⟩
  | .hbm, ⟨5, _⟩ => ⟨S1024x3072, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![16, 3], ![false, false]⟩

def k0_cond3 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference12Ideal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.MlpDu.lean ====
/-
  The squared-ReLU MLP's gradient at the pre-activation: the kernel's array and the reference's are the same extended reals.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.WordCmp
public import proofs.«01_k».proof.Defs

@[expose] public section

set_option maxRecDepth 16384

noncomputable section

namespace Cert.Proof.MlpDu

open Idealize.ShloMosaic Idealize.ShloMosaic.TcCoe Idealize.SL.Sem
open scoped BigOperators

/-- One entry of the gradient at the pre-activation: the cotangent's row against the weight's row, times twice the positive part. -/
def entry (u : (⟨2, ![8192, 4096]⟩ : Shape).Idx → EReal) (w : (⟨2, ![4096, 1024]⟩ : Shape).Idx → EReal) (dy : (⟨2, ![8192, 1024]⟩ : Shape).Idx → EReal)
    (i : Fin 8192) (j : Fin 4096) : EReal :=
  (∑ k : Fin 1024, dy (ix2 i k) * w (ix2 j k)) * (Ideal.ofBits .f32 0x40000000#32 * max (u (ix2 i j)) 0)

section Kernel

open Cert.Kernel2Ideal Cert.Kernel2Ideal.Gen

theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel
theorem idx3 : ∀ t : Fin grid0.N, win0_3.index t 0 = t.val / 4 ∧ win0_3.index t 1 = t.val % 4 := by decide +kernel

/-- Row `r` of the point's row block. -/
def row (t : Fin cfg0.N) (r : Fin 1024) : Fin 8192 :=
  ⟨1024 * (t.val / 4) + r.val, by have h : cfg0.N = 32 := by decide
                                  have := t.isLt; omega⟩
/-- Column `l` of the point's column block. -/
def col (t : Fin cfg0.N) (l : Fin 1024) : Fin 4096 := ⟨1024 * (t.val % 4) + l.val, by omega⟩

variable (m : (ℓ : Loc nD τ sig) → Buf (Elt Ideal) ℓ) (c : Dev nD)

theorem host0 (i : Fin 8192) (k : Fin 1024) : V m c main_v0 (ix2 i k) = m ((c.tc : Thread nD τ).loc main_arg2) (ix2 i k) := by
  show StableHlo.after hostOps0 (fun b => m (c, b)) (Proc.devRef .tc main_v0) (ix2 i k) = _
  after_results_simp
  pointwise
theorem host1 (j : Fin 4096) (k : Fin 1024) : V m c main_v1 (ix2 j k) = m ((c.tc : Thread nD τ).loc main_arg1) (ix2 j k) := by
  show StableHlo.after hostOps0 (fun b => m (c, b)) (Proc.devRef .tc main_v1) (ix2 j k) = _
  after_results_simp
  pointwise
theorem host2 (i : Fin 8192) (j : Fin 4096) : V m c main_v2 (ix2 i j) = m ((c.tc : Thread nD τ).loc main_arg0) (ix2 i j) := by
  show StableHlo.after hostOps0 (fun b => m (c, b)) (Proc.devRef .tc main_v2) (ix2 i j) = _
  after_results_simp
  pointwise

theorem blk0_at (t : Fin cfg0.N) (r k : Fin 1024) : iblk m c 0 t (ix2 r k) = V m c main_v0 (ix2 (row t r) k) := by
  have e := idx0 t
  unfold row
  blk_ext [iblk, e.1, e.2]
theorem blk1_at (t : Fin cfg0.N) (l k : Fin 1024) : iblk m c 1 t (ix2 l k) = V m c main_v1 (ix2 (col t l) k) := by
  have e := idx1 t
  unfold col
  blk_ext [iblk, e.1, e.2]
theorem blk2_at (t : Fin cfg0.N) (r l : Fin 1024) : iblk m c 2 t (ix2 r l) = V m c main_v2 (ix2 (row t r) (col t l)) := by
  have e := idx2 t
  unfold row col
  blk_ext [iblk, e.1, e.2]
theorem emb3 (t : Fin cfg0.N) (r l : Fin 1024) : (win0_3.rect t).emb (ix2 r l) = ix2 (row t r) (col t l) := by
  have e := idx3 t
  funext a
  refine Fin.ext ((win0_3.rect_emb_val t (ix2 r l) a).trans ?_)
  match a with
  | ⟨0, _⟩ =>
    show win0_3.index t 0 * 1024 + r.val = 1024 * (t.val / 4) + r.val
    rw [e.1]; omega
  | ⟨1, _⟩ =>
    show win0_3.index t 1 * 1024 + l.val = 1024 * (t.val % 4) + l.val
    rw [e.2]; omega

theorem zero2 : (![0, 0] : Fin 2 → Nat) = fun _ => 0 := by funext a; match a with | ⟨0, _⟩ => rfl | ⟨1, _⟩ => rfl

theorem out_eq (x0 x1 x2 : Vec Ideal S1024x1024 .bf16) : out0_3 x0 x1 x2 = k0_pay1 x0 x1 x2 := by
  unfold out0_3
  rw [View.canon_unit_zero zero2, View.ld_unit_zero zero2, View.ld_unit_zero zero2, View.ld_unit_zero zero2]

theorem pay_at (x0 x1 x2 : Vec Ideal S1024x1024 .bf16) (r l : Fin 1024) :
    k0_pay1 x0 x1 x2 (ix2 r l) = (∑ k : Fin 1024, x0 (ix2 r k) * x1 (ix2 l k)) * (Ideal.ofBits .f32 0x40000000#32 * max (x2 (ix2 r l)) 0) := by
  pointwise [k0_pay1]

theorem array_at (i : Fin 8192) (j : Fin 4096) :
    (dats m 0 c).arrAt 3 cfg0.N (ix2 i j)
      = entry (m ((c.tc : Thread nD τ).loc main_arg0)) (m ((c.tc : Thread nD τ).loc main_arg1)) (m ((c.tc : Thread nD τ).loc main_arg2)) i j := by
  refine (dats m 0 c).arrAt_forall_of_covers 3
    (fun y v => ∀ (i : Fin 8192) (j : Fin 4096), y = ix2 i j → v
      = entry (m ((c.tc : Thread nD τ).loc main_arg0)) (m ((c.tc : Thread nD τ).loc main_arg1)) (m ((c.tc : Thread nD τ).loc main_arg2)) i j)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 (row t r) (col t l) : S8192x4096.Idx) = ix2 i j := (emb3 t r l).symm.trans e
  have e3 : row t r = i := congrFun e2 0
  have e4 : col t l = j := congrFun e2 1
  subst e3 e4
  show (dats m 0 c).after 3 t (ix2 r l) = _
  rw [after0_3, out_eq, pay_at]
  simp only [blk0_at, blk1_at, blk2_at, host0, host1, host2]
  rfl

end Kernel

section Reference

open Cert.Reference2Ideal Cert.Reference2Ideal.Gen

theorem ref_at (u : FVec Ideal S8192x4096 .f32) (w : FVec Ideal S4096x1024 .f32) (dy : FVec Ideal S8192x1024 .f32) (i : Fin 8192) (j : Fin 4096) :
    (truncf (F := Ideal) .bf16 (select (cmpf .ogt u (broadcastInDim S8192x4096 ![] bcast_S_S8192x4096 (constant S_ .f32 0x00000000#32))) (mulf (Host.dotGeneral dot_S8192x1024_S4096x1024_S8192x4096_1_1_0_0_n_n none dy w) (mulf (broadcastInDim S8192x4096 ![] bcast_S_S8192x4096 (constant S_ .f32 0x40000000#32)) (maximumf u (broadcastInDim S8192x4096 ![] bcast_S_S8192x4096 (constant S_ .f32 0x00000000#32))))) (broadcastInDim S8192x4096 ![] bcast_S_S8192x4096 (constant S_ .f32 0x00000000#32))) bitsLt_bf16_f32 : FVec Ideal S8192x4096 .bf16) (ix2 i j)
      = entry u w dy i j := by
  unfold entry
  pointwise
  split
  · rfl
  · next h => rw [max_eq_right (not_lt.mp h), mul_zero, mul_zero]

end Reference

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 3 Cert.Kernel2Ideal.cfg0.N, ?_, ?_⟩
  · exact Cert.Kernel2Ideal.Value.run_blocks (F := Ideal) m g
  · refine (θ_run Cert.Reference2Ideal.defs _ _).mono (fun r h c => ?_) (Cert.Reference2Ideal.Value.run (F := Ideal) m' g')
    obtain ⟨e0, e1, e2⟩ := hagree c
    refine ⟨(h c).1.trans ?_, (h c).2⟩
    rw [e0, e1, e2]
    funext y
    obtain ⟨i, j, rfl⟩ : ∃ (i : Fin 8192) (j : Fin 4096), y = ix2 i j := ⟨y 0, y 1, eq_ix2 y⟩
    exact (ref_at _ _ _ i j).trans (array_at m c i j).symm

end Cert.Proof.MlpDu
-- ==== Proof.MlpSum.lean ====
/-
  A sum over 8192 tokens taken as four blocks of 2048, and one over 4096 hidden units taken as two, in the order in which a grid's run of points adds them.
-/
module

public import Mathlib.Data.EReal.Operations
public import Mathlib.Logic.Equiv.Fin.Basic
public import Mathlib.Algebra.BigOperators.Fin

@[expose] public section

namespace Cert.Proof.MlpSum

open scoped BigOperators

/-- Token `a` of block `n` (modulo 8192, so that no bound is needed). -/
def tok (n : ℕ) (a : Fin 2048) : Fin 8192 := ⟨(2048 * n + a.val) % 8192, Nat.mod_lt _ (by decide)⟩

/-- The running sum after block `k`. -/
noncomputable def part (f : Fin 8192 → EReal) : ℕ → EReal
  | 0 => ∑ a : Fin 2048, f (tok 0 a)
  | k + 1 => part f k + ∑ a : Fin 2048, f (tok (k + 1) a)

theorem part_last (f : Fin 8192 → EReal) : part f 3 = ∑ k, f k := by
  have e : ∑ j : Fin 4, ∑ a : Fin 2048, f (tok j.val a) = ∑ k, f k := by
    rw [← Finset.sum_product']
    refine Fintype.sum_equiv (finProdFinEquiv (m := 4) (n := 2048)) (fun p => f (tok p.1.val p.2)) f fun p => congrArg f (Fin.ext ?_)
    show (2048 * p.1.val + p.2.val) % 8192 = p.2.val + 2048 * p.1.val
    omega
  rw [← e, Fin.sum_univ_four]
  rfl

/-- Unit `a` of block `n` (modulo 4096, so that no bound is needed). -/
def hid (n : ℕ) (a : Fin 2048) : Fin 4096 := ⟨(2048 * n + a.val) % 4096, Nat.mod_lt _ (by decide)⟩

theorem halves (f : Fin 4096 → EReal) : ∑ a : Fin 2048, f (hid 0 a) + ∑ a : Fin 2048, f (hid 1 a) = ∑ k, f k := by
  have e : ∑ j : Fin 2, ∑ a : Fin 2048, f (hid j.val a) = ∑ k, f k := by
    rw [← Finset.sum_product']
    refine Fintype.sum_equiv (finProdFinEquiv (m := 2) (n := 2048)) (fun p => f (hid p.1.val p.2)) f fun p => congrArg f (Fin.ext ?_)
    show (2048 * p.1.val + p.2.val) % 4096 = p.2.val + 2048 * p.1.val
    omega
  rw [← e, Fin.sum_univ_two]
  rfl

end Cert.Proof.MlpSum
-- ==== Proof.MlpDw2.lean ====
/-
  The gradient of the squared-ReLU MLP's second weight: the kernel's array and the reference's are the same extended reals.
-/
module

public import proofs.«01_k».proof.Proof.Gen.Kernel3Ideal.Value
public import proofs.«01_k».proof.Proof.Gen.Reference3Ideal.Run
public import proofs.«01_k».proof.Proof.MlpSum
public import Idealize.ShloMosaic.Lib.Pipeline.ValueKit
public import Idealize.ShloMosaic.Lib.Pointwise
public import proofs.«01_k».proof.Defs

@[expose] public section

set_option maxRecDepth 16384

noncomputable section

namespace Cert.Proof.MlpDw2

open Idealize.ShloMosaic Idealize.ShloMosaic.TcCoe Idealize.SL.Sem Cert.Proof.MlpSum
open scoped BigOperators

/-- The square of the positive part. -/
def sq (v : EReal) : EReal := max v 0 * max v 0

/-- A token's term of one entry of the gradient: the square of the positive part, times the cotangent. -/
def term (u : (⟨2, ![8192, 4096]⟩ : Shape).Idx → EReal) (dy : (⟨2, ![8192, 1024]⟩ : Shape).Idx → EReal) (i : Fin 4096) (j : Fin 1024) (k : Fin 8192) : EReal :=
  sq (u (ix2 k i)) * dy (ix2 k j)

section Kernel

open Cert.Kernel3Ideal Cert.Kernel3Ideal.Gen

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = 0 := by decide +kernel

/-- Row `r` of the point's block of the result. -/
def row (t : Fin cfg0.N) (r : Fin 1024) : Fin 4096 :=
  ⟨1024 * (t.val / 4) + r.val, by have h : cfg0.N = 16 := by decide
                                  have := t.isLt; omega⟩

variable (m : (ℓ : Loc nD τ sig) → Buf (Elt Ideal) ℓ) (c : Dev nD)

theorem host2 (k : Fin 8192) (i : Fin 4096) :
    V m c main_v2 (ix2 k i) = sq (m ((c.tc : Thread nD τ).loc main_arg0) (ix2 k i)) := by
  show StableHlo.after (List.flatten [hostOps0, hostOps0_1]) (fun b => m (c, b)) (Proc.devRef .tc main_v2) (ix2 k i) = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  unfold sq
  pointwise
theorem host3 (k : Fin 8192) (j : Fin 1024) : V m c main_v3 (ix2 k j) = m ((c.tc : Thread nD τ).loc main_arg2) (ix2 k j) := by
  show StableHlo.after (List.flatten [hostOps0, hostOps0_1]) (fun b => m (c, b)) (Proc.devRef .tc main_v3) (ix2 k j) = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

theorem blk0_at (t : Fin cfg0.N) (a : Fin 2048) (r : Fin 1024) : iblk m c 0 t (ix2 a r) = V m c main_v2 (ix2 (tok (t.val % 4) a) (row t r)) := by
  have e := idx0 t
  unfold row tok
  blk_ext [iblk, e.1, e.2]
theorem blk1_at (t : Fin cfg0.N) (a : Fin 2048) (l : Fin 1024) : iblk m c 1 t (ix2 a l) = V m c main_v3 (ix2 (tok (t.val % 4) a) l) := by
  have e := idx1 t
  unfold tok
  blk_ext [iblk, e.1, e.2]
theorem emb2 (t : Fin cfg0.N) (r l : Fin 1024) : (win0_2.rect t).emb (ix2 r l) = ix2 (row t r) l := by
  have e := idx2 t
  funext a
  refine Fin.ext ((win0_2.rect_emb_val t (ix2 r l) a).trans ?_)
  match a with
  | ⟨0, _⟩ =>
    show win0_2.index t 0 * 1024 + r.val = 1024 * (t.val / 4) + r.val
    rw [e.1]; omega
  | ⟨1, _⟩ =>
    show win0_2.index t 1 * 1024 + l.val = l.val
    rw [e.2]; omega

theorem zero2 : (![0, 0] : Fin 2 → Nat) = fun _ => 0 := by funext a; match a with | ⟨0, _⟩ => rfl | ⟨1, _⟩ => rfl

/-- One entry of a block's product. -/
def dotCol (x0 x1 : S2048x1024.Idx → EReal) (r l : Fin 1024) : EReal := ∑ a : Fin 2048, x0 (ix2 a r) * x1 (ix2 a l)

section Cases

variable (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 x1 : Vec Ideal S2048x1024 .bf16) (xs : Vec Ideal S1024x1024 .f32)

theorem first_eq (hc0 : cond0_0 i) (hc1 : ¬cond0_1 i) : sout0_A_0 c i a3 h3 a4 h4 a5 h5 a6 h6 hc0 hc1 x0 x1 = k0_pay2 (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S2048x1024) zero2]

theorem middle_eq (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zero2]
  simp only [View.readAt_eq_ld, h3.read_unread, h4.read_unread, h6.read_unread, View.ld_unit_zero (S := S2048x1024) zero2, View.ld_unit_zero (S := S1024x1024) zero2]

theorem last_eq (hc0 : ¬cond0_0 i) (hc1 : cond0_1 i) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S2048x1024) zero2, View.ld_unit_zero (S := S1024x1024) zero2]

theorem zero_at (r l : Fin 1024) : (k0_pay1 (F := Ideal)) (ix2 r l) = (0 : EReal) := by
  pointwise [k0_pay1]

theorem add_at (r l : Fin 1024) : k0_pay2 xs x0 x1 (ix2 r l) = (xs (ix2 r l) + dotCol x0 x1 r l : EReal) := by
  unfold dotCol
  pointwise [k0_pay2]

end Cases

/-- The terms of one entry, from the memory. -/
def memTerm (i : Fin 4096) (j : Fin 1024) (k : Fin 8192) : EReal := term (m ((c.tc : Thread nD τ).loc main_arg0)) (m ((c.tc : Thread nD τ).loc main_arg2)) i j k

theorem block_sum (t : Fin cfg0.N) (r l : Fin 1024) :
    dotCol (iblk m c 0 t) (iblk m c 1 t) r l = ∑ a : Fin 2048, memTerm m c (row t r) l (tok (t.val % 4) a) :=
  Finset.sum_congr (M := EReal) rfl fun a _ => by rw [blk0_at, blk1_at, host2, host3]; rfl

theorem row_pred (t t' : Fin cfg0.N) (h : t'.val + 1 = t.val) (h0 : ¬t.val % 4 = 0) (r : Fin 1024) : row t' r = row t r :=
  Fin.ext (by show 1024 * (t'.val / 4) + r.val = 1024 * (t.val / 4) + r.val; omega)

/-- The carried sum after a point that is not the last of its run. -/
theorem carried (n : ℕ) (hn : n < cfg0.N) (hl : ¬n % 4 = 3) (r l : Fin 1024) :
    (outsAt0 m c n hn).2 (ix2 r l) = part (memTerm m c (row ⟨n, hn⟩ r) l) (n % 4) := by
  induction n with
  | zero =>
    rw [outsAt0_A m c ⟨0, hn⟩ rfl hl]
    dsimp only
    rw [first_eq, add_at, zero_at, zero_add, block_sum]
    rfl
  | succ n ih =>
    by_cases h0 : (n + 1) % 4 = 0
    · rw [outsAt0_A m c ⟨n + 1, hn⟩ h0 hl]
      dsimp only
      rw [first_eq, add_at, zero_at, zero_add, block_sum]
      dsimp only
      rw [h0]
      rfl
    · rw [outsAt0_B m c ⟨n + 1, hn⟩ h0 hl]
      dsimp only
      rw [middle_eq, add_at, block_sum]
      have e := ih (by omega) (by omega)
      rw [row_pred ⟨n + 1, hn⟩ ⟨n, by omega⟩ rfl h0] at e
      have e4 : (n + 1) % 4 = n % 4 + 1 := by omega
      dsimp only
      rw [e4]
      exact congrArg (· + _) e

theorem written (t : Fin cfg0.N) (hl : t.val % 4 = 3) (r l : Fin 1024) : (outsAt0 m c t.val t.isLt).1 (ix2 r l) = ∑ k, memTerm m c (row t r) l k := by
  rw [outsAt0_C m c t (by omega) hl]
  dsimp only
  rw [last_eq, add_at, block_sum, ← part_last, hl]
  have e := carried m c (t.val - 1) (Nat.lt_of_le_of_lt (Nat.sub_le _ _) t.isLt) (by omega) r l
  rw [row_pred t ⟨t.val - 1, Nat.lt_of_le_of_lt (Nat.sub_le _ _) t.isLt⟩ (by dsimp only; omega) (by omega), show (t.val - 1) % 4 = 2 by omega] at e
  exact congrArg (· + _) e

theorem last2 : ∀ t : Fin grid0.N, win0_2.flush t = true → t.val % 4 = 3 := by decide +kernel

theorem array_at (i : Fin 4096) (j : Fin 1024) : (dats m 0 c).arrAt 2 cfg0.N (ix2 i j) = ∑ k, memTerm m c i j k := by
  refine (dats m 0 c).arrAt_forall_of_covers 2
    (fun y v => ∀ (i : Fin 4096) (j : Fin 1024), y = ix2 i j → v = ∑ k, memTerm m c i j k)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 (row t r) l : S4096x1024.Idx) = ix2 i j := (emb2 t r l).symm.trans e
  have e3 : row t r = i := congrFun e2 0
  have e4 : l = j := congrFun e2 1
  subst e3 e4
  show (dats m 0 c).after 2 t (ix2 r l) = _
  rw [after0_2]
  exact written m c t (last2 t hf) r l

end Kernel

section Reference

open Cert.Reference3Ideal Cert.Reference3Ideal.Gen

theorem ref_at (u : FVec Ideal S8192x4096 .f32) (dy : FVec Ideal S8192x1024 .f32) (i : Fin 4096) (j : Fin 1024) :
    (transpose S4096x1024 [1, 0] (Host.dotGeneral (F := Ideal) dot_S8192x1024_S8192x4096_S1024x4096_0_0_1_1_n_n none dy (mulf (maximumf u (broadcastInDim S8192x4096 ![] bcast_S_S8192x4096 (constant S_ .f32 0x00000000#32))) (maximumf u (broadcastInDim S8192x4096 ![] bcast_S_S8192x4096 (constant S_ .f32 0x00000000#32))))) transposes_S1024x4096_S4096x1024_1_0 : FVec Ideal S4096x1024 .f32) (ix2 i j)
      = ∑ k, term u dy i j k := by
  unfold term sq
  pointwise
  exact Finset.sum_congr (M := EReal) rfl fun k _ => mul_comm _ _

end Reference

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 2 Cert.Kernel3Ideal.cfg0.N, ?_, ?_⟩
  · exact Cert.Kernel3Ideal.Value.run_blocks (F := Ideal) m g
  · refine (θ_run Cert.Reference3Ideal.defs _ _).mono (fun r h c => ?_) (Cert.Reference3Ideal.Value.run (F := Ideal) m' g')
    obtain ⟨e0, e1, e2⟩ := hagree c
    refine ⟨(h c).1.trans ?_, (h c).2⟩
    rw [e0, e2]
    funext y
    obtain ⟨i, j, rfl⟩ : ∃ (i : Fin 4096) (j : Fin 1024), y = ix2 i j := ⟨y 0, y 1, eq_ix2 y⟩
    exact (ref_at _ _ i j).trans (array_at m c i j).symm

end Cert.Proof.MlpDw2
-- ==== Proof.MlpDw1.lean ====
/-
  The gradient of the squared-ReLU MLP's first weight: the kernel's array and the reference's are the same extended reals.
-/
module

public import proofs.«01_k».proof.Proof.Gen.Kernel4Ideal.Value
public import proofs.«01_k».proof.Proof.Gen.Reference4Ideal.Run
public import proofs.«01_k».proof.Proof.MlpSum
public import Idealize.ShloMosaic.Lib.Pipeline.ValueKit
public import Idealize.ShloMosaic.Lib.Pointwise
public import proofs.«01_k».proof.Defs

@[expose] public section

set_option maxRecDepth 16384

noncomputable section

namespace Cert.Proof.MlpDw1

open Idealize.ShloMosaic Idealize.ShloMosaic.TcCoe Idealize.SL.Sem Cert.Proof.MlpSum
open scoped BigOperators

/-- A token's term of one entry of the gradient: the input, times the gradient at the pre-activation. -/
def term (h : (⟨2, ![8192, 1024]⟩ : Shape).Idx → EReal) (du : (⟨2, ![8192, 4096]⟩ : Shape).Idx → EReal) (i : Fin 1024) (j : Fin 4096) (k : Fin 8192) : EReal :=
  h (ix2 k i) * du (ix2 k j)

section Kernel

open Cert.Kernel4Ideal Cert.Kernel4Ideal.Gen

theorem idx0 : ∀ t : Fin grid0.N, win0_0.index t 0 = t.val % 4 ∧ win0_0.index t 1 = 0 := by decide +kernel
theorem idx1 : ∀ t : Fin grid0.N, win0_1.index t 0 = t.val % 4 ∧ win0_1.index t 1 = t.val / 4 := by decide +kernel
theorem idx2 : ∀ t : Fin grid0.N, win0_2.index t 0 = 0 ∧ win0_2.index t 1 = t.val / 4 := by decide +kernel

/-- Column `l` of the point's block of the result. -/
def col (t : Fin cfg0.N) (l : Fin 1024) : Fin 4096 :=
  ⟨1024 * (t.val / 4) + l.val, by have h : cfg0.N = 16 := by decide
                                  have := t.isLt; omega⟩

variable (m : (ℓ : Loc nD τ sig) → Buf (Elt Ideal) ℓ) (c : Dev nD)

theorem host0 (k : Fin 8192) (i : Fin 1024) : V m c main_v0 (ix2 k i) = m ((c.tc : Thread nD τ).loc main_arg0) (ix2 k i) := by
  show StableHlo.after hostOps0 (fun b => m (c, b)) (Proc.devRef .tc main_v0) (ix2 k i) = _
  after_results_simp
  pointwise
theorem host1 (k : Fin 8192) (j : Fin 4096) : V m c main_v1 (ix2 k j) = m ((c.tc : Thread nD τ).loc main_arg2) (ix2 k j) := by
  show StableHlo.after hostOps0 (fun b => m (c, b)) (Proc.devRef .tc main_v1) (ix2 k j) = _
  after_results_simp
  pointwise

theorem blk0_at (t : Fin cfg0.N) (a : Fin 2048) (r : Fin 1024) : iblk m c 0 t (ix2 a r) = V m c main_v0 (ix2 (tok (t.val % 4) a) r) := by
  have e := idx0 t
  unfold tok
  blk_ext [iblk, e.1, e.2]
theorem blk1_at (t : Fin cfg0.N) (a : Fin 2048) (l : Fin 1024) : iblk m c 1 t (ix2 a l) = V m c main_v1 (ix2 (tok (t.val % 4) a) (col t l)) := by
  have e := idx1 t
  unfold col tok
  blk_ext [iblk, e.1, e.2]
theorem emb2 (t : Fin cfg0.N) (r l : Fin 1024) : (win0_2.rect t).emb (ix2 r l) = ix2 r (col t l) := by
  have e := idx2 t
  funext a
  refine Fin.ext ((win0_2.rect_emb_val t (ix2 r l) a).trans ?_)
  match a with
  | ⟨0, _⟩ =>
    show win0_2.index t 0 * 1024 + r.val = r.val
    rw [e.1]; omega
  | ⟨1, _⟩ =>
    show win0_2.index t 1 * 1024 + l.val = 1024 * (t.val / 4) + l.val
    rw [e.2]; omega

theorem zero2 : (![0, 0] : Fin 2 → Nat) = fun _ => 0 := by funext a; match a with | ⟨0, _⟩ => rfl | ⟨1, _⟩ => rfl

/-- One entry of a block's product. -/
def dotCol (x0 x1 : S2048x1024.Idx → EReal) (r l : Fin 1024) : EReal := ∑ a : Fin 2048, x0 (ix2 a r) * x1 (ix2 a l)

section Cases

variable (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 x1 : Vec Ideal S2048x1024 .bf16) (xs : Vec Ideal S1024x1024 .f32)

theorem first_eq (hc0 : cond0_0 i) (hc1 : ¬cond0_1 i) : sout0_A_0 c i a3 h3 a4 h4 a5 h5 a6 h6 hc0 hc1 x0 x1 = k0_pay2 (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S2048x1024) zero2]

theorem middle_eq (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zero2]
  simp only [View.readAt_eq_ld, h3.read_unread, h4.read_unread, h6.read_unread, View.ld_unit_zero (S := S2048x1024) zero2, View.ld_unit_zero (S := S1024x1024) zero2]

theorem last_eq (hc0 : ¬cond0_0 i) (hc1 : cond0_1 i) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S2048x1024) zero2, View.ld_unit_zero (S := S1024x1024) zero2]

theorem zero_at (r l : Fin 1024) : (k0_pay1 (F := Ideal)) (ix2 r l) = (0 : EReal) := by
  pointwise [k0_pay1]

theorem add_at (r l : Fin 1024) : k0_pay2 xs x0 x1 (ix2 r l) = (xs (ix2 r l) + dotCol x0 x1 r l : EReal) := by
  unfold dotCol
  pointwise [k0_pay2]

end Cases

/-- The terms of one entry, from the memory. -/
def memTerm (i : Fin 1024) (j : Fin 4096) (k : Fin 8192) : EReal := term (m ((c.tc : Thread nD τ).loc main_arg0)) (m ((c.tc : Thread nD τ).loc main_arg2)) i j k

theorem block_sum (t : Fin cfg0.N) (r l : Fin 1024) :
    dotCol (iblk m c 0 t) (iblk m c 1 t) r l = ∑ a : Fin 2048, memTerm m c r (col t l) (tok (t.val % 4) a) :=
  Finset.sum_congr (M := EReal) rfl fun a _ => by rw [blk0_at, blk1_at, host0, host1]; rfl

theorem col_pred (t t' : Fin cfg0.N) (h : t'.val + 1 = t.val) (h0 : ¬t.val % 4 = 0) (l : Fin 1024) : col t' l = col t l :=
  Fin.ext (by show 1024 * (t'.val / 4) + l.val = 1024 * (t.val / 4) + l.val; omega)

/-- The carried sum after a point that is not the last of its run. -/
theorem carried (n : ℕ) (hn : n < cfg0.N) (hl : ¬n % 4 = 3) (r l : Fin 1024) :
    (outsAt0 m c n hn).2 (ix2 r l) = part (memTerm m c r (col ⟨n, hn⟩ l)) (n % 4) := by
  induction n with
  | zero =>
    rw [outsAt0_A m c ⟨0, hn⟩ rfl hl]
    dsimp only
    rw [first_eq, add_at, zero_at, zero_add, block_sum]
    rfl
  | succ n ih =>
    by_cases h0 : (n + 1) % 4 = 0
    · rw [outsAt0_A m c ⟨n + 1, hn⟩ h0 hl]
      dsimp only
      rw [first_eq, add_at, zero_at, zero_add, block_sum]
      dsimp only
      rw [h0]
      rfl
    · rw [outsAt0_B m c ⟨n + 1, hn⟩ h0 hl]
      dsimp only
      rw [middle_eq, add_at, block_sum]
      have e := ih (by omega) (by omega)
      rw [col_pred ⟨n + 1, hn⟩ ⟨n, by omega⟩ rfl h0] at e
      have e4 : (n + 1) % 4 = n % 4 + 1 := by omega
      dsimp only
      rw [e4]
      exact congrArg (· + _) e

theorem written (t : Fin cfg0.N) (hl : t.val % 4 = 3) (r l : Fin 1024) : (outsAt0 m c t.val t.isLt).1 (ix2 r l) = ∑ k, memTerm m c r (col t l) k := by
  rw [outsAt0_C m c t (by omega) hl]
  dsimp only
  rw [last_eq, add_at, block_sum, ← part_last, hl]
  have e := carried m c (t.val - 1) (Nat.lt_of_le_of_lt (Nat.sub_le _ _) t.isLt) (by omega) r l
  rw [col_pred t ⟨t.val - 1, Nat.lt_of_le_of_lt (Nat.sub_le _ _) t.isLt⟩ (by dsimp only; omega) (by omega), show (t.val - 1) % 4 = 2 by omega] at e
  exact congrArg (· + _) e

theorem last2 : ∀ t : Fin grid0.N, win0_2.flush t = true → t.val % 4 = 3 := by decide +kernel

theorem array_at (i : Fin 1024) (j : Fin 4096) : (dats m 0 c).arrAt 2 cfg0.N (ix2 i j) = ∑ k, memTerm m c i j k := by
  refine (dats m 0 c).arrAt_forall_of_covers 2
    (fun y v => ∀ (i : Fin 1024) (j : Fin 4096), y = ix2 i j → v = ∑ k, memTerm m c i j k)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 r (col t l) : S1024x4096.Idx) = ix2 i j := (emb2 t r l).symm.trans e
  have e3 : r = i := congrFun e2 0
  have e4 : col t l = j := congrFun e2 1
  subst e3 e4
  show (dats m 0 c).after 2 t (ix2 r l) = _
  rw [after0_2]
  exact written m c t (last2 t hf) r l

end Kernel

section Reference

open Cert.Reference4Ideal Cert.Reference4Ideal.Gen

theorem ref_at (h : FVec Ideal S8192x1024 .f32) (du : FVec Ideal S8192x4096 .f32) (i : Fin 1024) (j : Fin 4096) :
    (transpose S1024x4096 [1, 0] (Host.dotGeneral (F := Ideal) dot_S8192x4096_S8192x1024_S4096x1024_0_0_1_1_n_n none du h) transposes_S4096x1024_S1024x4096_1_0 : FVec Ideal S1024x4096 .f32) (ix2 i j)
      = ∑ k, term h du i j k := by
  unfold term
  pointwise
  exact Finset.sum_congr (M := EReal) rfl fun k _ => mul_comm _ _

end Reference

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 2 Cert.Kernel4Ideal.cfg0.N, ?_, ?_⟩
  · exact Cert.Kernel4Ideal.Value.run_blocks (F := Ideal) m g
  · refine (θ_run Cert.Reference4Ideal.defs _ _).mono (fun r h c => ?_) (Cert.Reference4Ideal.Value.run (F := Ideal) m' g')
    obtain ⟨e0, e1, e2⟩ := hagree c
    refine ⟨(h c).1.trans ?_, (h c).2⟩
    rw [e0, e2]
    funext y
    obtain ⟨i, j, rfl⟩ : ∃ (i : Fin 1024) (j : Fin 4096), y = ix2 i j := ⟨y 0, y 1, eq_ix2 y⟩
    exact (ref_at _ _ i j).trans (array_at m c i j).symm

end Cert.Proof.MlpDw1
-- ==== Proof.MlpDown.lean ====
/-
  The squared-ReLU MLP's second product, added to the layer's input: the kernel's array and the reference's are the same extended reals.
-/
module

public import proofs.«01_k».proof.Proof.Gen.Kernel5Ideal.Value
public import proofs.«01_k».proof.Proof.Gen.Reference5Ideal.Run
public import proofs.«01_k».proof.Proof.MlpSum
public import Idealize.ShloMosaic.Lib.Pipeline.ValueKit
public import Idealize.ShloMosaic.Lib.Pointwise
public import proofs.«01_k».proof.Defs

@[expose] public section

set_option maxRecDepth 16384

noncomputable section

namespace Cert.Proof.MlpDown

open Idealize.ShloMosaic Idealize.ShloMosaic.TcCoe Idealize.SL.Sem Cert.Proof.MlpSum
open scoped BigOperators

/-- The square of the positive part. -/
def sq (v : EReal) : EReal := max v 0 * max v 0

/-- One entry of the layer's output: its input, plus the squares of the positive parts against the second weight's column. -/
def entry (x : (⟨2, ![8192, 1024]⟩ : Shape).Idx → EReal) (u : (⟨2, ![8192, 4096]⟩ : Shape).Idx → EReal) (w : (⟨2, ![4096, 1024]⟩ : Shape).Idx → EReal)
    (i : Fin 8192) (j : Fin 1024) : EReal :=
  x (ix2 i j) + ∑ k : Fin 4096, sq (u (ix2 i k)) * w (ix2 k j)

section Kernel

open Cert.Kernel5Ideal Cert.Kernel5Ideal.Gen

theorem idx0 : ∀ t : Fin grid0.N, win0_0.index t 0 = t.val / 2 ∧ win0_0.index t 1 = t.val % 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel
theorem idx3 : ∀ t : Fin grid0.N, win0_3.index t 0 = t.val / 2 ∧ win0_3.index t 1 = 0 := by decide +kernel

/-- Row `r` of the point's block of the result. -/
def row (t : Fin cfg0.N) (r : Fin 1024) : Fin 8192 :=
  ⟨1024 * (t.val / 2) + r.val, by have h : cfg0.N = 16 := by decide
                                  have := t.isLt; omega⟩

variable (m : (ℓ : Loc nD τ sig) → Buf (Elt Ideal) ℓ) (c : Dev nD)

theorem host2 (k : Fin 8192) (i : Fin 4096) :
    V m c main_v2 (ix2 k i) = sq (m ((c.tc : Thread nD τ).loc main_arg1) (ix2 k i)) := by
  show StableHlo.after (List.flatten [hostOps0, hostOps0_1]) (fun b => m (c, b)) (Proc.devRef .tc main_v2) (ix2 k i) = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  unfold sq
  pointwise
theorem host3 (k : Fin 4096) (j : Fin 1024) : V m c main_v3 (ix2 k j) = m ((c.tc : Thread nD τ).loc main_arg2) (ix2 k j) := by
  show StableHlo.after (List.flatten [hostOps0, hostOps0_1]) (fun b => m (c, b)) (Proc.devRef .tc main_v3) (ix2 k j) = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

theorem blk0_at (t : Fin cfg0.N) (r : Fin 1024) (a : Fin 2048) : iblk m c 0 t (ix2 r a) = V m c main_v2 (ix2 (row t r) (hid (t.val % 2) a)) := by
  have e := idx0 t
  unfold row hid
  blk_ext [iblk, e.1, e.2]
theorem blk1_at (t : Fin cfg0.N) (a : Fin 2048) (l : Fin 1024) : iblk m c 1 t (ix2 a l) = V m c main_v3 (ix2 (hid (t.val % 2) a) l) := by
  have e := idx1 t
  unfold hid
  blk_ext [iblk, e.1, e.2]
theorem blk2_at (t : Fin cfg0.N) (r l : Fin 1024) : iblk m c 2 t (ix2 r l) = V m c main_arg0 (ix2 (row t r) l) := by
  have e := idx2 t
  unfold row
  blk_ext [iblk, e.1, e.2]
theorem emb3 (t : Fin cfg0.N) (r l : Fin 1024) : (win0_3.rect t).emb (ix2 r l) = ix2 (row t r) l := by
  have e := idx3 t
  funext a
  refine Fin.ext ((win0_3.rect_emb_val t (ix2 r l) a).trans ?_)
  match a with
  | ⟨0, _⟩ =>
    show win0_3.index t 0 * 1024 + r.val = 1024 * (t.val / 2) + r.val
    rw [e.1]; omega
  | ⟨1, _⟩ =>
    show win0_3.index t 1 * 1024 + l.val = l.val
    rw [e.2]; omega

theorem zero2 : (![0, 0] : Fin 2 → Nat) = fun _ => 0 := by funext a; match a with | ⟨0, _⟩ => rfl | ⟨1, _⟩ => rfl

/-- One entry of a block's product. -/
def dotRow (x0 : S1024x2048.Idx → EReal) (x1 : S2048x1024.Idx → EReal) (r l : Fin 1024) : EReal := ∑ a : Fin 2048, x0 (ix2 r a) * x1 (ix2 a l)

section Cases

variable (i : grid0.Coords) (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x0 : Vec Ideal S1024x2048 .bf16) (x1 : Vec Ideal S2048x1024 .bf16) (x2 xs : Vec Ideal S1024x1024 .f32)

theorem first_eq (hc0 : cond0_0 i) (hc1 : ¬cond0_1 i) : sout0_A_0 c i a3 h3 a4 h4 a5 h5 a6 h6 a7 h7 hc0 hc1 x0 x1 x2 = k0_pay2 (k0_pay1 (F := Ideal)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S1024x2048) zero2, View.ld_unit_zero (S := S2048x1024) zero2]

theorem last_eq (hc0 : ¬cond0_0 i) (hc1 : cond0_1 i) : out0_B_3 c i a3 h3 a4 h4 a5 h5 a6 h6 a7 h7 hc0 hc1 x0 x1 x2 xs = k0_pay3 (k0_pay2 xs x0 x1) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero zero2, View.readCov_unit_zero (S := S1024x1024) _ zero2]
  simp only [View.readAt_eq_ld, h3.read_unread, h4.read_unread, h5.read_unread, h7.read_unread, View.ld_unit_zero (S := S1024x2048) zero2, View.ld_unit_zero (S := S2048x1024) zero2, View.ld_unit_zero (S := S1024x1024) zero2]

theorem zero_at (r l : Fin 1024) : (k0_pay1 (F := Ideal)) (ix2 r l) = (0 : EReal) := by
  pointwise [k0_pay1]

theorem add_at (r l : Fin 1024) : k0_pay2 xs x0 x1 (ix2 r l) = (xs (ix2 r l) + dotRow x0 x1 r l : EReal) := by
  unfold dotRow
  pointwise [k0_pay2]

theorem res_at (r l : Fin 1024) : k0_pay3 xs x2 (ix2 r l) = (xs (ix2 r l) + x2 (ix2 r l) : EReal) := by
  pointwise [k0_pay3]

end Cases

/-- One entry's terms, from the memory. -/
def memTerm (i : Fin 8192) (j : Fin 1024) (k : Fin 4096) : EReal :=
  sq (m ((c.tc : Thread nD τ).loc main_arg1) (ix2 i k)) * (m ((c.tc : Thread nD τ).loc main_arg2) (ix2 k j) : EReal)

theorem block_sum (t : Fin cfg0.N) (r l : Fin 1024) :
    dotRow (iblk m c 0 t) (iblk m c 1 t) r l = ∑ a : Fin 2048, memTerm m c (row t r) l (hid (t.val % 2) a) :=
  Finset.sum_congr (M := EReal) rfl fun a _ => by rw [blk0_at, blk1_at, host2, host3]; rfl

/-- The carried sum after a run's first point. -/
theorem carried (t : Fin cfg0.N) (h0 : t.val % 2 = 0) (r l : Fin 1024) :
    (outsAt0 m c t.val t.isLt).2 (ix2 r l) = ∑ a : Fin 2048, memTerm m c (row t r) l (hid 0 a) := by
  rw [outsAt0_A m c t h0 (by omega)]
  dsimp only
  rw [first_eq, add_at, zero_at, zero_add, block_sum, h0]

/-- One entry of the layer's input, from the memory. -/
def memIn (i : Fin 8192) (j : Fin 1024) : EReal := m ((c.tc : Thread nD τ).loc main_arg0) (ix2 i j)

theorem host_in (i : Fin 8192) (j : Fin 1024) : V m c main_arg0 (ix2 i j) = memIn m c i j := by
  show StableHlo.after (List.flatten [hostOps0, hostOps0_1]) (fun b => m (c, b)) (Proc.devRef .tc main_arg0) (ix2 i j) = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- One entry of the output, from the memory. -/
def memEntry (i : Fin 8192) (j : Fin 1024) : EReal :=
  entry (m ((c.tc : Thread nD τ).loc main_arg0)) (m ((c.tc : Thread nD τ).loc main_arg1)) (m ((c.tc : Thread nD τ).loc main_arg2)) i j

theorem written (t : Fin cfg0.N) (hl : t.val % 2 = 1) (r l : Fin 1024) : (outsAt0 m c t.val t.isLt).1 (ix2 r l) = memEntry m c (row t r) l := by
  rw [outsAt0_B m c t (by omega) hl]
  dsimp only
  rw [last_eq, res_at, add_at, block_sum, hl, blk2_at, host_in]
  have e := carried m c ⟨t.val - 1, Nat.lt_of_le_of_lt (Nat.sub_le _ _) t.isLt⟩ (by dsimp only; omega) r l
  have er : row ⟨t.val - 1, Nat.lt_of_le_of_lt (Nat.sub_le _ _) t.isLt⟩ r = row t r :=
    Fin.ext (by show 1024 * ((t.val - 1) / 2) + r.val = 1024 * (t.val / 2) + r.val; omega)
  rw [er] at e
  refine (congrArg (fun v : EReal => v + _ + _) e).trans ((congrArg (· + (memIn m c (row t r) l : EReal)) (halves _)).trans ?_)
  exact add_comm (_ : EReal) _

theorem last3 : ∀ t : Fin grid0.N, win0_3.flush t = true → t.val % 2 = 1 := by decide +kernel

theorem array_at (i : Fin 8192) (j : Fin 1024) : (dats m 0 c).arrAt 3 cfg0.N (ix2 i j) = memEntry m c i j := by
  refine (dats m 0 c).arrAt_forall_of_covers 3
    (fun y v => ∀ (i : Fin 8192) (j : Fin 1024), y = ix2 i j → v = memEntry m c i j)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 (row t r) l : S8192x1024.Idx) = ix2 i j := (emb3 t r l).symm.trans e
  have e3 : row t r = i := congrFun e2 0
  have e4 : l = j := congrFun e2 1
  subst e3 e4
  show (dats m 0 c).after 3 t (ix2 r l) = _
  rw [after0_3]
  exact written m c t (last3 t hf) r l

end Kernel

section Reference

open Cert.Reference5Ideal Cert.Reference5Ideal.Gen

theorem ref_at (x : FVec Ideal S8192x1024 .f32) (u : FVec Ideal S8192x4096 .f32) (w : FVec Ideal S4096x1024 .f32) (i : Fin 8192) (j : Fin 1024) :
    (addf (F := Ideal) x (Host.dotGeneral (F := Ideal) dot_S8192x4096_S4096x1024_S8192x1024_1_0_0_1_n_n none (mulf (maximumf u (broadcastInDim S8192x4096 ![] bcast_S_S8192x4096 (constant S_ .f32 0x00000000#32))) (maximumf u (broadcastInDim S8192x4096 ![] bcast_S_S8192x4096 (constant S_ .f32 0x00000000#32)))) w) : FVec Ideal S8192x1024 .f32) (ix2 i j)
      = entry x u w i j := by
  unfold entry sq
  pointwise

end Reference

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 3 Cert.Kernel5Ideal.cfg0.N, ?_, ?_⟩
  · exact Cert.Kernel5Ideal.Value.run_blocks (F := Ideal) m g
  · refine (θ_run Cert.Reference5Ideal.defs _ _).mono (fun r h c => ?_) (Cert.Reference5Ideal.Value.run (F := Ideal) m' g')
    obtain ⟨e0, e1, e2⟩ := hagree c
    refine ⟨(h c).1.trans ?_, (h c).2⟩
    rw [e0, e1, e2]
    funext y
    obtain ⟨i, j, rfl⟩ : ∃ (i : Fin 8192) (j : Fin 1024), y = ix2 i j := ⟨y 0, y 1, eq_ix2 y⟩
    exact (ref_at _ _ _ i j).trans (array_at m c i j).symm

end Cert.Proof.MlpDown
-- ==== Proof.OutFwd.lean ====
/-
  An attention's output projection, added to the layer's input: the kernel's array and the reference's are the same extended reals.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.WordCmp
public import proofs.«01_k».proof.Defs

@[expose] public section

set_option maxRecDepth 16384

noncomputable section

namespace Cert.Proof.OutFwd

open Idealize.ShloMosaic Idealize.ShloMosaic.TcCoe Idealize.SL.Sem
open scoped BigOperators

/-- One entry of the projection added to its input. -/
def entry (x a : (⟨2, ![8192, 1024]⟩ : Shape).Idx → EReal) (w : (⟨2, ![1024, 1024]⟩ : Shape).Idx → EReal) (i : Fin 8192) (j : Fin 1024) : EReal :=
  x (ix2 i j) + ∑ k : Fin 1024, a (ix2 i k) * w (ix2 k j)

section Kernel

open Cert.Kernel6Ideal Cert.Kernel6Ideal.Gen

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

/-- Row `r` of the point's row block. -/
def row (t : Fin cfg0.N) (r : Fin 1024) : Fin 8192 :=
  ⟨1024 * t.val + r.val, by have h : cfg0.N = 8 := by decide
                            have := t.isLt; omega⟩

variable (m : (ℓ : Loc nD τ sig) → Buf (Elt Ideal) ℓ) (c : Dev nD)

theorem host0 (i : Fin 8192) (k : Fin 1024) : V m c main_v0 (ix2 i k) = m ((c.tc : Thread nD τ).loc main_arg1) (ix2 i k) := by
  show StableHlo.after hostOps0 (fun b => m (c, b)) (Proc.devRef .tc main_v0) (ix2 i k) = _
  after_results_simp
  pointwise
theorem host1 (j : Fin 1024) (k : Fin 1024) : V m c main_v1 (ix2 j k) = m ((c.tc : Thread nD τ).loc main_arg2) (ix2 j k) := by
  show StableHlo.after hostOps0 (fun b => m (c, b)) (Proc.devRef .tc main_v1) (ix2 j k) = _
  after_results_simp
  pointwise

theorem blk0_at (t : Fin cfg0.N) (r k : Fin 1024) : iblk m c 0 t (ix2 r k) = V m c main_v0 (ix2 (row t r) k) := by
  have e := idx0 t
  unfold row
  blk_ext [iblk, e.1, e.2]
theorem blk1_at (t : Fin cfg0.N) (k l : Fin 1024) : iblk m c 1 t (ix2 k l) = V m c main_v1 (ix2 k l) := by
  have e := idx1 t
  blk_ext [iblk, e.1, e.2]
theorem blk2_at (t : Fin cfg0.N) (r l : Fin 1024) : iblk m c 2 t (ix2 r l) = V m c main_arg0 (ix2 (row t r) l) := by
  have e := idx2 t
  unfold row
  blk_ext [iblk, e.1, e.2]
theorem emb3 (t : Fin cfg0.N) (r l : Fin 1024) : (win0_3.rect t).emb (ix2 r l) = ix2 (row t r) l := by
  have e := idx3 t
  funext a
  refine Fin.ext ((win0_3.rect_emb_val t (ix2 r l) a).trans ?_)
  match a with
  | ⟨0, _⟩ =>
    show win0_3.index t 0 * 1024 + r.val = 1024 * t.val + r.val
    rw [e.1]; omega
  | ⟨1, _⟩ =>
    show win0_3.index t 1 * 1024 + l.val = l.val
    rw [e.2]; omega

theorem zero2 : (![0, 0] : Fin 2 → Nat) = fun _ => 0 := by funext a; match a with | ⟨0, _⟩ => rfl | ⟨1, _⟩ => rfl

theorem out_eq (x0 x1 : Vec Ideal S1024x1024 .bf16) (x2 : Vec Ideal S1024x1024 .f32) : out0_3 x0 x1 x2 = k0_pay1 x0 x1 x2 := by
  unfold out0_3
  rw [View.canon_unit_zero zero2, View.ld_unit_zero zero2, View.ld_unit_zero zero2, View.ld_unit_zero zero2]

theorem pay_at (x0 x1 : Vec Ideal S1024x1024 .bf16) (x2 : Vec Ideal S1024x1024 .f32) (r l : Fin 1024) :
    k0_pay1 x0 x1 x2 (ix2 r l) = ((∑ k : Fin 1024, x0 (ix2 r k) * x1 (ix2 k l)) + x2 (ix2 r l) : EReal) := by
  pointwise [k0_pay1]

theorem array_at (i : Fin 8192) (j : Fin 1024) :
    (dats m 0 c).arrAt 3 cfg0.N (ix2 i j)
      = entry (m ((c.tc : Thread nD τ).loc main_arg0)) (m ((c.tc : Thread nD τ).loc main_arg1)) (m ((c.tc : Thread nD τ).loc main_arg2)) i j := by
  refine (dats m 0 c).arrAt_forall_of_covers 3
    (fun y v => ∀ (i : Fin 8192) (j : Fin 1024), y = ix2 i j → v
      = entry (m ((c.tc : Thread nD τ).loc main_arg0)) (m ((c.tc : Thread nD τ).loc main_arg1)) (m ((c.tc : Thread nD τ).loc main_arg2)) i j)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 (row t r) l : S8192x1024.Idx) = ix2 i j := (emb3 t r l).symm.trans e
  have e3 : row t r = i := congrFun e2 0
  have e4 : l = j := congrFun e2 1
  subst e3 e4
  show (dats m 0 c).after 3 t (ix2 r l) = _
  rw [after0_3, out_eq, pay_at]
  simp only [blk0_at, blk1_at, blk2_at, host0, host1]
  exact add_comm (_ : EReal) _

end Kernel

section Reference

open Cert.Reference6Ideal Cert.Reference6Ideal.Gen

theorem ref_at (x a : FVec Ideal S8192x1024 .f32) (w : FVec Ideal S1024x1024 .f32) (i : Fin 8192) (j : Fin 1024) :
    (addf (F := Ideal) x (Host.dotGeneral (F := Ideal) dot_S8192x1024_S1024x1024_S8192x1024_1_0_0_1_n_n none a w) : FVec Ideal S8192x1024 .f32) (ix2 i j)
      = entry x a w i j := by
  unfold entry
  pointwise

end Reference

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 3 Cert.Kernel6Ideal.cfg0.N, ?_, ?_⟩
  · exact Cert.Kernel6Ideal.Value.run_blocks (F := Ideal) m g
  · refine (θ_run Cert.Reference6Ideal.defs _ _).mono (fun r h c => ?_) (Cert.Reference6Ideal.Value.run (F := Ideal) m' g')
    obtain ⟨e0, e1, e2⟩ := hagree c
    refine ⟨(h c).1.trans ?_, (h c).2⟩
    rw [e0, e1, e2]
    funext y
    obtain ⟨i, j, rfl⟩ : ∃ (i : Fin 8192) (j : Fin 1024), y = ix2 i j := ⟨y 0, y 1, eq_ix2 y⟩
    exact (ref_at _ _ _ i j).trans (array_at m c i j).symm

end Cert.Proof.OutFwd
-- ==== Proof.MlaOutDa.lean ====
/-
  The gradient at the latent attention's output: the kernel's array and the reference's are the same extended reals.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.WordCmp
public import proofs.«01_k».proof.Defs

@[expose] public section

set_option maxRecDepth 16384

noncomputable section

namespace Cert.Proof.MlaOutDa

open Idealize.ShloMosaic Idealize.ShloMosaic.TcCoe Idealize.SL.Sem
open scoped BigOperators

/-- One entry of the gradient: the cotangent's row against the weight's row. -/
def entry (w : (⟨2, ![1024, 1024]⟩ : Shape).Idx → EReal) (dy : (⟨2, ![8192, 1024]⟩ : Shape).Idx → EReal) (i : Fin 8192) (j : Fin 1024) : EReal :=
  ∑ k : Fin 1024, dy (ix2 i k) * w (ix2 j k)

section Kernel

open Cert.Kernel7Ideal Cert.Kernel7Ideal.Gen

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- Row `r` of the point's row block. -/
def row (t : Fin cfg0.N) (r : Fin 1024) : Fin 8192 :=
  ⟨1024 * t.val + r.val, by have h : cfg0.N = 8 := by decide
                            have := t.isLt; omega⟩

variable (m : (ℓ : Loc nD τ sig) → Buf (Elt Ideal) ℓ) (c : Dev nD)

theorem host0 (i : Fin 8192) (k : Fin 1024) : V m c main_v0 (ix2 i k) = m ((c.tc : Thread nD τ).loc main_arg2) (ix2 i k) := by
  show StableHlo.after hostOps0 (fun b => m (c, b)) (Proc.devRef .tc main_v0) (ix2 i k) = _
  after_results_simp
  pointwise
theorem host1 (j : Fin 1024) (k : Fin 1024) : V m c main_v1 (ix2 j k) = m ((c.tc : Thread nD τ).loc main_arg1) (ix2 j k) := by
  show StableHlo.after hostOps0 (fun b => m (c, b)) (Proc.devRef .tc main_v1) (ix2 j k) = _
  after_results_simp
  pointwise

theorem blk0_at (t : Fin cfg0.N) (r k : Fin 1024) : iblk m c 0 t (ix2 r k) = V m c main_v0 (ix2 (row t r) k) := by
  have e := idx0 t
  unfold row
  blk_ext [iblk, e.1, e.2]
theorem blk1_at (t : Fin cfg0.N) (l k : Fin 1024) : iblk m c 1 t (ix2 l k) = V m c main_v1 (ix2 l k) := by
  have e := idx1 t
  blk_ext [iblk, e.1, e.2]
theorem emb2 (t : Fin cfg0.N) (r l : Fin 1024) : (win0_2.rect t).emb (ix2 r l) = ix2 (row t r) l := by
  have e := idx2 t
  funext a
  refine Fin.ext ((win0_2.rect_emb_val t (ix2 r l) a).trans ?_)
  match a with
  | ⟨0, _⟩ =>
    show win0_2.index t 0 * 1024 + r.val = 1024 * t.val + r.val
    rw [e.1]; omega
  | ⟨1, _⟩ =>
    show win0_2.index t 1 * 1024 + l.val = l.val
    rw [e.2]; omega

theorem zero2 : (![0, 0] : Fin 2 → Nat) = fun _ => 0 := by funext a; match a with | ⟨0, _⟩ => rfl | ⟨1, _⟩ => rfl

theorem out_eq (x0 x1 : Vec Ideal S1024x1024 .bf16) : out0_2 x0 x1 = k0_pay1 x0 x1 := by
  unfold out0_2
  rw [View.canon_unit_zero zero2, View.ld_unit_zero zero2, View.ld_unit_zero zero2]

theorem pay_at (x0 x1 : Vec Ideal S1024x1024 .bf16) (r l : Fin 1024) :
    k0_pay1 x0 x1 (ix2 r l) = (∑ k : Fin 1024, x0 (ix2 r k) * x1 (ix2 l k) : EReal) := by
  pointwise [k0_pay1]

theorem array_at (i : Fin 8192) (j : Fin 1024) :
    (dats m 0 c).arrAt 2 cfg0.N (ix2 i j)
      = entry (m ((c.tc : Thread nD τ).loc main_arg1)) (m ((c.tc : Thread nD τ).loc main_arg2)) i j := by
  refine (dats m 0 c).arrAt_forall_of_covers 2
    (fun y v => ∀ (i : Fin 8192) (j : Fin 1024), y = ix2 i j → v
      = entry (m ((c.tc : Thread nD τ).loc main_arg1)) (m ((c.tc : Thread nD τ).loc main_arg2)) i j)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 (row t r) l : S8192x1024.Idx) = ix2 i j := (emb2 t r l).symm.trans e
  have e3 : row t r = i := congrFun e2 0
  have e4 : l = j := congrFun e2 1
  subst e3 e4
  show (dats m 0 c).after 2 t (ix2 r l) = _
  rw [after0_2, out_eq, pay_at]
  simp only [blk0_at, blk1_at, host0, host1]
  rfl

end Kernel

section Reference

open Cert.Reference7Ideal Cert.Reference7Ideal.Gen

theorem ref_at (w : FVec Ideal S1024x1024 .f32) (dy : FVec Ideal S8192x1024 .f32) (i : Fin 8192) (j : Fin 1024) :
    (Host.dotGeneral (F := Ideal) dot_S8192x1024_S1024x1024_S8192x1024_1_1_0_0_n_n none dy w : FVec Ideal S8192x1024 .f32) (ix2 i j)
      = entry w dy i j := by
  unfold entry
  pointwise

end Reference

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 2 Cert.Kernel7Ideal.cfg0.N, ?_, ?_⟩
  · exact Cert.Kernel7Ideal.Value.run_blocks (F := Ideal) m g
  · refine (θ_run Cert.Reference7Ideal.defs _ _).mono (fun r h c => ?_) (Cert.Reference7Ideal.Value.run (F := Ideal) m' g')
    obtain ⟨e0, e1, e2⟩ := hagree c
    refine ⟨(h c).1.trans ?_, (h c).2⟩
    rw [e1, e2]
    funext y
    obtain ⟨i, j, rfl⟩ : ∃ (i : Fin 8192) (j : Fin 1024), y = ix2 i j := ⟨y 0, y 1, eq_ix2 y⟩
    exact (ref_at _ _ i j).trans (array_at m c i j).symm

end Cert.Proof.MlaOutDa
-- ==== Proof.SbOutDa.lean ====
/-
  The gradient at the stick-breaking attention's output: the kernel's array and the reference's are the same extended reals.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.WordCmp
public import proofs.«01_k».proof.Defs

@[expose] public section

set_option maxRecDepth 16384

noncomputable section

namespace Cert.Proof.SbOutDa

open Idealize.ShloMosaic Idealize.ShloMosaic.TcCoe Idealize.SL.Sem
open scoped BigOperators

/-- One entry of the gradient: the cotangent's row against the weight's row. -/
def entry (w : (⟨2, ![1024, 1024]⟩ : Shape).Idx → EReal) (dy : (⟨2, ![8192, 1024]⟩ : Shape).Idx → EReal) (i : Fin 8192) (j : Fin 1024) : EReal :=
  ∑ k : Fin 1024, dy (ix2 i k) * w (ix2 j k)

section Kernel

open Cert.Kernel8Ideal Cert.Kernel8Ideal.Gen

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- Row `r` of the point's row block. -/
def row (t : Fin cfg0.N) (r : Fin 1024) : Fin 8192 :=
  ⟨1024 * t.val + r.val, by have h : cfg0.N = 8 := by decide
                            have := t.isLt; omega⟩

variable (m : (ℓ : Loc nD τ sig) → Buf (Elt Ideal) ℓ) (c : Dev nD)

theorem host0 (i : Fin 8192) (k : Fin 1024) : V m c main_v0 (ix2 i k) = m ((c.tc : Thread nD τ).loc main_arg2) (ix2 i k) := by
  show StableHlo.after hostOps0 (fun b => m (c, b)) (Proc.devRef .tc main_v0) (ix2 i k) = _
  after_results_simp
  pointwise
theorem host1 (j : Fin 1024) (k : Fin 1024) : V m c main_v1 (ix2 j k) = m ((c.tc : Thread nD τ).loc main_arg1) (ix2 j k) := by
  show StableHlo.after hostOps0 (fun b => m (c, b)) (Proc.devRef .tc main_v1) (ix2 j k) = _
  after_results_simp
  pointwise

theorem blk0_at (t : Fin cfg0.N) (r k : Fin 1024) : iblk m c 0 t (ix2 r k) = V m c main_v0 (ix2 (row t r) k) := by
  have e := idx0 t
  unfold row
  blk_ext [iblk, e.1, e.2]
theorem blk1_at (t : Fin cfg0.N) (l k : Fin 1024) : iblk m c 1 t (ix2 l k) = V m c main_v1 (ix2 l k) := by
  have e := idx1 t
  blk_ext [iblk, e.1, e.2]
theorem emb2 (t : Fin cfg0.N) (r l : Fin 1024) : (win0_2.rect t).emb (ix2 r l) = ix2 (row t r) l := by
  have e := idx2 t
  funext a
  refine Fin.ext ((win0_2.rect_emb_val t (ix2 r l) a).trans ?_)
  match a with
  | ⟨0, _⟩ =>
    show win0_2.index t 0 * 1024 + r.val = 1024 * t.val + r.val
    rw [e.1]; omega
  | ⟨1, _⟩ =>
    show win0_2.index t 1 * 1024 + l.val = l.val
    rw [e.2]; omega

theorem zero2 : (![0, 0] : Fin 2 → Nat) = fun _ => 0 := by funext a; match a with | ⟨0, _⟩ => rfl | ⟨1, _⟩ => rfl

theorem out_eq (x0 x1 : Vec Ideal S1024x1024 .bf16) : out0_2 x0 x1 = k0_pay1 x0 x1 := by
  unfold out0_2
  rw [View.canon_unit_zero zero2, View.ld_unit_zero zero2, View.ld_unit_zero zero2]

theorem pay_at (x0 x1 : Vec Ideal S1024x1024 .bf16) (r l : Fin 1024) :
    k0_pay1 x0 x1 (ix2 r l) = (∑ k : Fin 1024, x0 (ix2 r k) * x1 (ix2 l k) : EReal) := by
  pointwise [k0_pay1]

theorem array_at (i : Fin 8192) (j : Fin 1024) :
    (dats m 0 c).arrAt 2 cfg0.N (ix2 i j)
      = entry (m ((c.tc : Thread nD τ).loc main_arg1)) (m ((c.tc : Thread nD τ).loc main_arg2)) i j := by
  refine (dats m 0 c).arrAt_forall_of_covers 2
    (fun y v => ∀ (i : Fin 8192) (j : Fin 1024), y = ix2 i j → v
      = entry (m ((c.tc : Thread nD τ).loc main_arg1)) (m ((c.tc : Thread nD τ).loc main_arg2)) i j)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 (row t r) l : S8192x1024.Idx) = ix2 i j := (emb2 t r l).symm.trans e
  have e3 : row t r = i := congrFun e2 0
  have e4 : l = j := congrFun e2 1
  subst e3 e4
  show (dats m 0 c).after 2 t (ix2 r l) = _
  rw [after0_2, out_eq, pay_at]
  simp only [blk0_at, blk1_at, host0, host1]
  rfl

end Kernel

section Reference

open Cert.Reference8Ideal Cert.Reference8Ideal.Gen

theorem ref_at (w : FVec Ideal S1024x1024 .f32) (dy : FVec Ideal S8192x1024 .f32) (i : Fin 8192) (j : Fin 1024) :
    (truncf (F := Ideal) .bf16 (Host.dotGeneral (F := Ideal) dot_S8192x1024_S1024x1024_S8192x1024_1_1_0_0_n_n none dy w : FVec Ideal S8192x1024 .f32) bitsLt_bf16_f32 : FVec Ideal S8192x1024 .bf16) (ix2 i j)
      = entry w dy i j := by
  unfold entry
  pointwise

end Reference

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 2 Cert.Kernel8Ideal.cfg0.N, ?_, ?_⟩
  · exact Cert.Kernel8Ideal.Value.run_blocks (F := Ideal) m g
  · refine (θ_run Cert.Reference8Ideal.defs _ _).mono (fun r h c => ?_) (Cert.Reference8Ideal.Value.run (F := Ideal) m' g')
    obtain ⟨e0, e1, e2⟩ := hagree c
    refine ⟨(h c).1.trans ?_, (h c).2⟩
    rw [e1, e2]
    funext y
    obtain ⟨i, j, rfl⟩ : ∃ (i : Fin 8192) (j : Fin 1024), y = ix2 i j := ⟨y 0, y 1, eq_ix2 y⟩
    exact (ref_at _ _ i j).trans (array_at m c i j).symm

end Cert.Proof.SbOutDa
-- ==== Proof.OutDw.lean ====
/-
  The gradient of an attention's output weight: the kernel's array and the reference's are the same extended reals.
-/
module

public import proofs.«01_k».proof.Proof.Gen.Kernel9Ideal.Value
public import proofs.«01_k».proof.Proof.Gen.Reference9Ideal.Run
public import proofs.«01_k».proof.Proof.MlpSum
public import Idealize.ShloMosaic.Lib.Pipeline.ValueKit
public import Idealize.ShloMosaic.Lib.Pointwise
public import proofs.«01_k».proof.Defs

@[expose] public section

set_option maxRecDepth 16384

noncomputable section

namespace Cert.Proof.OutDw

open Idealize.ShloMosaic Idealize.ShloMosaic.TcCoe Idealize.SL.Sem Cert.Proof.MlpSum
open scoped BigOperators

/-- A token's term of one entry of the gradient: the attention's output, times the cotangent. -/
def term (a : (⟨2, ![8192, 1024]⟩ : Shape).Idx → EReal) (dy : (⟨2, ![8192, 1024]⟩ : Shape).Idx → EReal) (i : Fin 1024) (j : Fin 1024) (k : Fin 8192) : EReal :=
  a (ix2 k i) * dy (ix2 k j)

section Kernel

open Cert.Kernel9Ideal Cert.Kernel9Ideal.Gen

theorem idx0 : ∀ t : Fin grid0.N, win0_0.index t 0 = t.val % 4 ∧ win0_0.index t 1 = 0 := by decide +kernel
theorem idx1 : ∀ t : Fin grid0.N, win0_1.index t 0 = t.val % 4 ∧ win0_1.index t 1 = t.val / 4 := by decide +kernel
theorem idx2 : ∀ t : Fin grid0.N, win0_2.index t 0 = 0 ∧ win0_2.index t 1 = t.val / 4 := by decide +kernel

/-- Column `l` of the point's block of the result. -/
def col (t : Fin cfg0.N) (l : Fin 1024) : Fin 1024 :=
  ⟨1024 * (t.val / 4) + l.val, by have h : cfg0.N = 4 := by decide
                                  have := t.isLt; omega⟩

variable (m : (ℓ : Loc nD τ sig) → Buf (Elt Ideal) ℓ) (c : Dev nD)

theorem host0 (k : Fin 8192) (i : Fin 1024) : V m c main_v0 (ix2 k i) = m ((c.tc : Thread nD τ).loc main_arg0) (ix2 k i) := by
  show StableHlo.after hostOps0 (fun b => m (c, b)) (Proc.devRef .tc main_v0) (ix2 k i) = _
  after_results_simp
  pointwise
theorem host1 (k : Fin 8192) (j : Fin 1024) : V m c main_v1 (ix2 k j) = m ((c.tc : Thread nD τ).loc main_arg2) (ix2 k j) := by
  show StableHlo.after hostOps0 (fun b => m (c, b)) (Proc.devRef .tc main_v1) (ix2 k j) = _
  after_results_simp
  pointwise

theorem blk0_at (t : Fin cfg0.N) (a : Fin 2048) (r : Fin 1024) : iblk m c 0 t (ix2 a r) = V m c main_v0 (ix2 (tok (t.val % 4) a) r) := by
  have e := idx0 t
  unfold tok
  blk_ext [iblk, e.1, e.2]
theorem blk1_at (t : Fin cfg0.N) (a : Fin 2048) (l : Fin 1024) : iblk m c 1 t (ix2 a l) = V m c main_v1 (ix2 (tok (t.val % 4) a) (col t l)) := by
  have e := idx1 t
  unfold col tok
  blk_ext [iblk, e.1, e.2]
theorem emb2 (t : Fin cfg0.N) (r l : Fin 1024) : (win0_2.rect t).emb (ix2 r l) = ix2 r (col t l) := by
  have e := idx2 t
  funext a
  refine Fin.ext ((win0_2.rect_emb_val t (ix2 r l) a).trans ?_)
  match a with
  | ⟨0, _⟩ =>
    show win0_2.index t 0 * 1024 + r.val = r.val
    rw [e.1]; omega
  | ⟨1, _⟩ =>
    show win0_2.index t 1 * 1024 + l.val = 1024 * (t.val / 4) + l.val
    rw [e.2]; omega

theorem zero2 : (![0, 0] : Fin 2 → Nat) = fun _ => 0 := by funext a; match a with | ⟨0, _⟩ => rfl | ⟨1, _⟩ => rfl

/-- One entry of a block's product. -/
def dotCol (x0 x1 : S2048x1024.Idx → EReal) (r l : Fin 1024) : EReal := ∑ a : Fin 2048, x0 (ix2 a r) * x1 (ix2 a l)

section Cases

variable (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 x1 : Vec Ideal S2048x1024 .bf16) (xs : Vec Ideal S1024x1024 .f32)

theorem first_eq (hc0 : cond0_0 i) (hc1 : ¬cond0_1 i) : sout0_A_0 c i a3 h3 a4 h4 a5 h5 a6 h6 hc0 hc1 x0 x1 = k0_pay2 (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S2048x1024) zero2]

theorem middle_eq (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zero2]
  simp only [View.readAt_eq_ld, h3.read_unread, h4.read_unread, h6.read_unread, View.ld_unit_zero (S := S2048x1024) zero2, View.ld_unit_zero (S := S1024x1024) zero2]

theorem last_eq (hc0 : ¬cond0_0 i) (hc1 : cond0_1 i) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S2048x1024) zero2, View.ld_unit_zero (S := S1024x1024) zero2]

theorem zero_at (r l : Fin 1024) : (k0_pay1 (F := Ideal)) (ix2 r l) = (0 : EReal) := by
  pointwise [k0_pay1]

theorem add_at (r l : Fin 1024) : k0_pay2 xs x0 x1 (ix2 r l) = (xs (ix2 r l) + dotCol x0 x1 r l : EReal) := by
  unfold dotCol
  pointwise [k0_pay2]

end Cases

/-- The terms of one entry, from the memory. -/
def memTerm (i : Fin 1024) (j : Fin 1024) (k : Fin 8192) : EReal := term (m ((c.tc : Thread nD τ).loc main_arg0)) (m ((c.tc : Thread nD τ).loc main_arg2)) i j k

theorem block_sum (t : Fin cfg0.N) (r l : Fin 1024) :
    dotCol (iblk m c 0 t) (iblk m c 1 t) r l = ∑ a : Fin 2048, memTerm m c r (col t l) (tok (t.val % 4) a) :=
  Finset.sum_congr (M := EReal) rfl fun a _ => by rw [blk0_at, blk1_at, host0, host1]; rfl

theorem col_pred (t t' : Fin cfg0.N) (a : t'.val + 1 = t.val) (h0 : ¬t.val % 4 = 0) (l : Fin 1024) : col t' l = col t l :=
  Fin.ext (by show 1024 * (t'.val / 4) + l.val = 1024 * (t.val / 4) + l.val; omega)

/-- The carried sum after a point that is not the last of its run. -/
theorem carried (n : ℕ) (hn : n < cfg0.N) (hl : ¬n % 4 = 3) (r l : Fin 1024) :
    (outsAt0 m c n hn).2 (ix2 r l) = part (memTerm m c r (col ⟨n, hn⟩ l)) (n % 4) := by
  induction n with
  | zero =>
    rw [outsAt0_A m c ⟨0, hn⟩ rfl hl]
    dsimp only
    rw [first_eq, add_at, zero_at, zero_add, block_sum]
    rfl
  | succ n ih =>
    by_cases h0 : (n + 1) % 4 = 0
    · rw [outsAt0_A m c ⟨n + 1, hn⟩ h0 hl]
      dsimp only
      rw [first_eq, add_at, zero_at, zero_add, block_sum]
      dsimp only
      rw [h0]
      rfl
    · rw [outsAt0_B m c ⟨n + 1, hn⟩ h0 hl]
      dsimp only
      rw [middle_eq, add_at, block_sum]
      have e := ih (by omega) (by omega)
      rw [col_pred ⟨n + 1, hn⟩ ⟨n, by omega⟩ rfl h0] at e
      have e4 : (n + 1) % 4 = n % 4 + 1 := by omega
      dsimp only
      rw [e4]
      exact congrArg (· + _) e

theorem written (t : Fin cfg0.N) (hl : t.val % 4 = 3) (r l : Fin 1024) : (outsAt0 m c t.val t.isLt).1 (ix2 r l) = ∑ k, memTerm m c r (col t l) k := by
  rw [outsAt0_C m c t (by omega) hl]
  dsimp only
  rw [last_eq, add_at, block_sum, ← part_last, hl]
  have e := carried m c (t.val - 1) (Nat.lt_of_le_of_lt (Nat.sub_le _ _) t.isLt) (by omega) r l
  rw [col_pred t ⟨t.val - 1, Nat.lt_of_le_of_lt (Nat.sub_le _ _) t.isLt⟩ (by dsimp only; omega) (by omega), show (t.val - 1) % 4 = 2 by omega] at e
  exact congrArg (· + _) e

theorem last2 : ∀ t : Fin grid0.N, win0_2.flush t = true → t.val % 4 = 3 := by decide +kernel

theorem array_at (i : Fin 1024) (j : Fin 1024) : (dats m 0 c).arrAt 2 cfg0.N (ix2 i j) = ∑ k, memTerm m c i j k := by
  refine (dats m 0 c).arrAt_forall_of_covers 2
    (fun y v => ∀ (i : Fin 1024) (j : Fin 1024), y = ix2 i j → v = ∑ k, memTerm m c i j k)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 r (col t l) : S1024x1024.Idx) = ix2 i j := (emb2 t r l).symm.trans e
  have e3 : r = i := congrFun e2 0
  have e4 : col t l = j := congrFun e2 1
  subst e3 e4
  show (dats m 0 c).after 2 t (ix2 r l) = _
  rw [after0_2]
  exact written m c t (last2 t hf) r l

end Kernel

section Reference

open Cert.Reference9Ideal Cert.Reference9Ideal.Gen

theorem ref_at (a : FVec Ideal S8192x1024 .f32) (dy : FVec Ideal S8192x1024 .f32) (i : Fin 1024) (j : Fin 1024) :
    (transpose S1024x1024 [1, 0] (Host.dotGeneral (F := Ideal) dot_S8192x1024_S8192x1024_S1024x1024_0_0_1_1_n_n none dy a) transposes_S1024x1024_S1024x1024_1_0 : FVec Ideal S1024x1024 .f32) (ix2 i j)
      = ∑ k, term a dy i j k := by
  unfold term
  pointwise
  exact Finset.sum_congr (M := EReal) rfl fun k _ => mul_comm _ _

end Reference

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, ?_, ?_⟩
  · exact Cert.Kernel9Ideal.Value.run_blocks (F := Ideal) m g
  · refine (θ_run Cert.Reference9Ideal.defs _ _).mono (fun r h c => ?_) (Cert.Reference9Ideal.Value.run (F := Ideal) m' g')
    obtain ⟨e0, e1, e2⟩ := hagree c
    refine ⟨(h c).1.trans ?_, (h c).2⟩
    rw [e0, e2]
    funext y
    obtain ⟨i, j, rfl⟩ : ∃ (i : Fin 1024) (j : Fin 1024), y = ix2 i j := ⟨y 0, y 1, eq_ix2 y⟩
    exact (ref_at _ _ i j).trans (array_at m c i j).symm

end Cert.Proof.OutDw
-- ==== Proof.QkvDw.lean ====
/-
  The gradient of the weight of the stick-breaking attention's queries, keys and values: the kernel's array and the reference's are the same extended reals.
-/
module

public import proofs.«01_k».proof.Proof.Gen.Kernel10Ideal.Value
public import proofs.«01_k».proof.Proof.Gen.Reference10Ideal.Run
public import proofs.«01_k».proof.Proof.MlpSum
public import Idealize.ShloMosaic.Lib.Pipeline.ValueKit
public import Idealize.ShloMosaic.Lib.Pointwise
public import proofs.«01_k».proof.Defs

@[expose] public section

set_option maxRecDepth 16384

noncomputable section

namespace Cert.Proof.QkvDw

open Idealize.ShloMosaic Idealize.ShloMosaic.TcCoe Idealize.SL.Sem Cert.Proof.MlpSum
open scoped BigOperators

/-- A token's term of one entry of the gradient: the input, times the cotangent. -/
def term (h : (⟨2, ![8192, 1024]⟩ : Shape).Idx → EReal) (dy : (⟨2, ![8192, 3072]⟩ : Shape).Idx → EReal) (i : Fin 1024) (j : Fin 3072) (k : Fin 8192) : EReal :=
  h (ix2 k i) * dy (ix2 k j)

section Kernel

open Cert.Kernel10Ideal Cert.Kernel10Ideal.Gen

theorem idx0 : ∀ t : Fin grid0.N, win0_0.index t 0 = t.val % 4 ∧ win0_0.index t 1 = 0 := by decide +kernel
theorem idx1 : ∀ t : Fin grid0.N, win0_1.index t 0 = t.val % 4 ∧ win0_1.index t 1 = t.val / 4 := by decide +kernel
theorem idx2 : ∀ t : Fin grid0.N, win0_2.index t 0 = 0 ∧ win0_2.index t 1 = t.val / 4 := by decide +kernel

/-- Column `l` of the point's block of the result. -/
def col (t : Fin cfg0.N) (l : Fin 1024) : Fin 3072 :=
  ⟨1024 * (t.val / 4) + l.val, by have h : cfg0.N = 12 := by decide
                                  have := t.isLt; omega⟩

variable (m : (ℓ : Loc nD τ sig) → Buf (Elt Ideal) ℓ) (c : Dev nD)

theorem host0 (k : Fin 8192) (i : Fin 1024) : V m c main_v0 (ix2 k i) = m ((c.tc : Thread nD τ).loc main_arg0) (ix2 k i) := by
  show StableHlo.after hostOps0 (fun b => m (c, b)) (Proc.devRef .tc main_v0) (ix2 k i) = _
  after_results_simp
  pointwise
theorem host1 (k : Fin 8192) (j : Fin 3072) : V m c main_v1 (ix2 k j) = m ((c.tc : Thread nD τ).loc main_arg2) (ix2 k j) := by
  show StableHlo.after hostOps0 (fun b => m (c, b)) (Proc.devRef .tc main_v1) (ix2 k j) = _
  after_results_simp
  pointwise

theorem blk0_at (t : Fin cfg0.N) (a : Fin 2048) (r : Fin 1024) : iblk m c 0 t (ix2 a r) = V m c main_v0 (ix2 (tok (t.val % 4) a) r) := by
  have e := idx0 t
  unfold tok
  blk_ext [iblk, e.1, e.2]
theorem blk1_at (t : Fin cfg0.N) (a : Fin 2048) (l : Fin 1024) : iblk m c 1 t (ix2 a l) = V m c main_v1 (ix2 (tok (t.val % 4) a) (col t l)) := by
  have e := idx1 t
  unfold col tok
  blk_ext [iblk, e.1, e.2]
theorem emb2 (t : Fin cfg0.N) (r l : Fin 1024) : (win0_2.rect t).emb (ix2 r l) = ix2 r (col t l) := by
  have e := idx2 t
  funext a
  refine Fin.ext ((win0_2.rect_emb_val t (ix2 r l) a).trans ?_)
  match a with
  | ⟨0, _⟩ =>
    show win0_2.index t 0 * 1024 + r.val = r.val
    rw [e.1]; omega
  | ⟨1, _⟩ =>
    show win0_2.index t 1 * 1024 + l.val = 1024 * (t.val / 4) + l.val
    rw [e.2]; omega

theorem zero2 : (![0, 0] : Fin 2 → Nat) = fun _ => 0 := by funext a; match a with | ⟨0, _⟩ => rfl | ⟨1, _⟩ => rfl

/-- One entry of a block's product. -/
def dotCol (x0 x1 : S2048x1024.Idx → EReal) (r l : Fin 1024) : EReal := ∑ a : Fin 2048, x0 (ix2 a r) * x1 (ix2 a l)

section Cases

variable (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 x1 : Vec Ideal S2048x1024 .bf16) (xs : Vec Ideal S1024x1024 .f32)

theorem first_eq (hc0 : cond0_0 i) (hc1 : ¬cond0_1 i) : sout0_A_0 c i a3 h3 a4 h4 a5 h5 a6 h6 hc0 hc1 x0 x1 = k0_pay2 (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S2048x1024) zero2]

theorem middle_eq (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zero2]
  simp only [View.readAt_eq_ld, h3.read_unread, h4.read_unread, h6.read_unread, View.ld_unit_zero (S := S2048x1024) zero2, View.ld_unit_zero (S := S1024x1024) zero2]

theorem last_eq (hc0 : ¬cond0_0 i) (hc1 : cond0_1 i) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S2048x1024) zero2, View.ld_unit_zero (S := S1024x1024) zero2]

theorem zero_at (r l : Fin 1024) : (k0_pay1 (F := Ideal)) (ix2 r l) = (0 : EReal) := by
  pointwise [k0_pay1]

theorem add_at (r l : Fin 1024) : k0_pay2 xs x0 x1 (ix2 r l) = (xs (ix2 r l) + dotCol x0 x1 r l : EReal) := by
  unfold dotCol
  pointwise [k0_pay2]

end Cases

/-- The terms of one entry, from the memory. -/
def memTerm (i : Fin 1024) (j : Fin 3072) (k : Fin 8192) : EReal := term (m ((c.tc : Thread nD τ).loc main_arg0)) (m ((c.tc : Thread nD τ).loc main_arg2)) i j k

theorem block_sum (t : Fin cfg0.N) (r l : Fin 1024) :
    dotCol (iblk m c 0 t) (iblk m c 1 t) r l = ∑ a : Fin 2048, memTerm m c r (col t l) (tok (t.val % 4) a) :=
  Finset.sum_congr (M := EReal) rfl fun a _ => by rw [blk0_at, blk1_at, host0, host1]; rfl

theorem col_pred (t t' : Fin cfg0.N) (h : t'.val + 1 = t.val) (h0 : ¬t.val % 4 = 0) (l : Fin 1024) : col t' l = col t l :=
  Fin.ext (by show 1024 * (t'.val / 4) + l.val = 1024 * (t.val / 4) + l.val; omega)

/-- The carried sum after a point that is not the last of its run. -/
theorem carried (n : ℕ) (hn : n < cfg0.N) (hl : ¬n % 4 = 3) (r l : Fin 1024) :
    (outsAt0 m c n hn).2 (ix2 r l) = part (memTerm m c r (col ⟨n, hn⟩ l)) (n % 4) := by
  induction n with
  | zero =>
    rw [outsAt0_A m c ⟨0, hn⟩ rfl hl]
    dsimp only
    rw [first_eq, add_at, zero_at, zero_add, block_sum]
    rfl
  | succ n ih =>
    by_cases h0 : (n + 1) % 4 = 0
    · rw [outsAt0_A m c ⟨n + 1, hn⟩ h0 hl]
      dsimp only
      rw [first_eq, add_at, zero_at, zero_add, block_sum]
      dsimp only
      rw [h0]
      rfl
    · rw [outsAt0_B m c ⟨n + 1, hn⟩ h0 hl]
      dsimp only
      rw [middle_eq, add_at, block_sum]
      have e := ih (by omega) (by omega)
      rw [col_pred ⟨n + 1, hn⟩ ⟨n, by omega⟩ rfl h0] at e
      have e4 : (n + 1) % 4 = n % 4 + 1 := by omega
      dsimp only
      rw [e4]
      exact congrArg (· + _) e

theorem written (t : Fin cfg0.N) (hl : t.val % 4 = 3) (r l : Fin 1024) : (outsAt0 m c t.val t.isLt).1 (ix2 r l) = ∑ k, memTerm m c r (col t l) k := by
  rw [outsAt0_C m c t (by omega) hl]
  dsimp only
  rw [last_eq, add_at, block_sum, ← part_last, hl]
  have e := carried m c (t.val - 1) (Nat.lt_of_le_of_lt (Nat.sub_le _ _) t.isLt) (by omega) r l
  rw [col_pred t ⟨t.val - 1, Nat.lt_of_le_of_lt (Nat.sub_le _ _) t.isLt⟩ (by dsimp only; omega) (by omega), show (t.val - 1) % 4 = 2 by omega] at e
  exact congrArg (· + _) e

theorem last2 : ∀ t : Fin grid0.N, win0_2.flush t = true → t.val % 4 = 3 := by decide +kernel

theorem array_at (i : Fin 1024) (j : Fin 3072) : (dats m 0 c).arrAt 2 cfg0.N (ix2 i j) = ∑ k, memTerm m c i j k := by
  refine (dats m 0 c).arrAt_forall_of_covers 2
    (fun y v => ∀ (i : Fin 1024) (j : Fin 3072), y = ix2 i j → v = ∑ k, memTerm m c i j k)
    (by decide +kernel) (fun t hf y => ?_) (ix2 i j) (Memref.isWhole_whole _) i j rfl
  intro i j e
  obtain ⟨r, l, rfl⟩ : ∃ (r l : Fin 1024), y = ix2 r l := ⟨y 0, y 1, eq_ix2 y⟩
  have e2 : (ix2 r (col t l) : S1024x3072.Idx) = ix2 i j := (emb2 t r l).symm.trans e
  have e3 : r = i := congrFun e2 0
  have e4 : col t l = j := congrFun e2 1
  subst e3 e4
  show (dats m 0 c).after 2 t (ix2 r l) = _
  rw [after0_2]
  exact written m c t (last2 t hf) r l

end Kernel

section Reference

open Cert.Reference10Ideal Cert.Reference10Ideal.Gen

theorem ref_at (h : FVec Ideal S8192x1024 .f32) (dy : FVec Ideal S8192x3072 .f32) (i : Fin 1024) (j : Fin 3072) :
    (transpose S1024x3072 [1, 0] (Host.dotGeneral (F := Ideal) dot_S8192x3072_S8192x1024_S3072x1024_0_0_1_1_n_n none dy h) transposes_S3072x1024_S1024x3072_1_0 : FVec Ideal S1024x3072 .f32) (ix2 i j)
      = ∑ k, term h dy i j k := by
  unfold term
  pointwise
  exact Finset.sum_congr (M := EReal) rfl fun k _ => mul_comm _ _

end Reference

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 2 Cert.Kernel10Ideal.cfg0.N, ?_, ?_⟩
  · exact Cert.Kernel10Ideal.Value.run_blocks (F := Ideal) m g
  · refine (θ_run Cert.Reference10Ideal.defs _ _).mono (fun r h c => ?_) (Cert.Reference10Ideal.Value.run (F := Ideal) m' g')
    obtain ⟨e0, e1, e2⟩ := hagree c
    refine ⟨(h c).1.trans ?_, (h c).2⟩
    rw [e0, e2]
    funext y
    obtain ⟨i, j, rfl⟩ : ∃ (i : Fin 1024) (j : Fin 3072), y = ix2 i j := ⟨y 0, y 1, eq_ix2 y⟩
    exact (ref_at _ _ i j).trans (array_at m c i j).symm

end Cert.Proof.QkvDw
-- ==== Proof.NormReal.lean ====
/-
  The gradient of a row's RMS norm over the extended reals: the form with a common factor and the form that differentiates each factor.
-/
module

public import Idealize.ShloMosaic.Lib.Pointwise

@[expose] public section

noncomputable section

namespace Cert.Proof.NormReal

open Idealize.ShloMosaic
open scoped BigOperators

/-- The row's length, as the programs write it. -/
def len : EReal := Ideal.ofBits .f32 0x44800000#32

/-- The number added to the mean of the squares. -/
def eps : EReal := Ideal.ofBits .f32 0x358637BD#32

/-- Minus a half, as the programs write it. -/
def mhalf : EReal := Ideal.ofBits .f32 0xBF000000#32

theorem len_eq : len = ((1024 : ℝ) : EReal) := by
  unfold len Ideal.ofBits Ideal.ieee
  dsimp only
  rw [if_neg (by decide), if_neg (by decide), if_neg (by decide)]
  refine congrArg _ ?_
  have h1 : ((0x44800000#32).extractLsb' 23 8).toNat = 137 := by decide
  have h2 : ((0x44800000#32).extractLsb' 0 23).toNat = 0 := by decide
  rw [h1, h2]
  norm_num

theorem mhalf_eq : mhalf = ((-(1 / 2) : ℝ) : EReal) := by
  unfold mhalf Ideal.ofBits Ideal.ieee
  dsimp only
  rw [if_neg (by decide), if_neg (by decide), if_pos (by decide)]
  refine congrArg _ ?_
  have h1 : ((0xBF000000#32).extractLsb' 23 8).toNat = 126 := by decide
  have h2 : ((0xBF000000#32).extractLsb' 0 23).toNat = 0 := by decide
  rw [h1, h2]
  norm_num

theorem eps_pos : ∃ e : ℝ, 0 < e ∧ eps = (e : EReal) := by
  unfold eps Ideal.ofBits Ideal.ieee
  dsimp only
  rw [if_neg (by decide), if_neg (by decide), if_neg (by decide)]
  exact ⟨_, by positivity, rfl⟩

/-- The mean of a row's squares, and the small number. -/
def mean (x : Fin 1024 → EReal) : EReal := Ideal.div (∑ k, x k * x k) len + eps

/-- One over the root of the mean. -/
def rms (x : Fin 1024 → EReal) : EReal := Ideal.rsqrt (mean x)

theorem div_len (a : EReal) : Ideal.div a len = a * ((1 / 1024 : ℝ) : EReal) := by
  unfold Ideal.div
  rw [len_eq, if_neg (by norm_num)]
  rw [← EReal.coe_inv]
  norm_num

theorem sq_nonneg' (a : EReal) : 0 ≤ a * a := by
  induction a with
  | bot => simp
  | top => simp
  | coe r => rw [← EReal.coe_mul]; exact_mod_cast mul_self_nonneg r

/-- The mean is infinite, and one over its root zero; or both are positive numbers, the second's square the inverse of the first. -/
theorem cases (x : Fin 1024 → EReal) :
    (mean x = ⊤ ∧ rms x = 0) ∨ ∃ v r : ℝ, 0 < r ∧ 0 < v ∧ r * r * v = 1 ∧ mean x = (v : EReal) ∧ rms x = (r : EReal) := by
  obtain ⟨e, he, hE⟩ := eps_pos
  have hs : 0 ≤ Ideal.div (∑ k, x k * x k) len := by
    rw [div_len]
    exact mul_nonneg (Finset.sum_nonneg fun k _ => sq_nonneg' (x k)) (by exact_mod_cast (by norm_num : (0 : ℝ) ≤ 1 / 1024))
  unfold rms mean
  rw [hE]
  generalize Ideal.div (∑ k, x k * x k) len = a at hs
  induction a with
  | bot => simp at hs
  | top => left; exact ⟨rfl, rfl⟩
  | coe a =>
    right
    have ha : 0 ≤ a := by exact_mod_cast hs
    have hv : 0 < a + e := by linarith
    refine ⟨a + e, (Real.sqrt (a + e))⁻¹, by positivity, hv, ?_, rfl, ?_⟩
    · rw [← mul_inv, Real.mul_self_sqrt hv.le, inv_mul_cancel₀ hv.ne']
    · rw [← EReal.coe_add]
      unfold Ideal.rsqrt
      simp only [EReal.coe_add]
      rw [← EReal.coe_add]
      show (if a + e < 0 then ⊥ else if a + e = 0 then ⊤ else (((Real.sqrt (a + e))⁻¹ : ℝ) : EReal)) = _
      rw [if_neg (by linarith), if_neg hv.ne']

/-- The gradient's entry with the norm's factor taken out. -/
def common (x t : Fin 1024 → EReal) (j : Fin 1024) : EReal :=
  rms x * (t j - (x j * rms x) * Ideal.div (∑ k, t k * (x k * rms x)) len)

/-- The share of the entry that comes from the factor itself, before the row's entry. -/
def factor (x t : Fin 1024 → EReal) : EReal :=
  Ideal.div ((∑ k, x k * t k) * (mhalf * Ideal.div (rms x) (mean x))) len

/-- The gradient's entry, each factor differentiated. -/
def apart (x t : Fin 1024 → EReal) (j : Fin 1024) : EReal :=
  t j * rms x + x j * factor x t + factor x t * x j

theorem coe_mul_add {r : ℝ} (hr : 0 ≤ r) (a b : EReal) : (r : EReal) * (a + b) = r * a + r * b :=
  EReal.left_distrib_of_nonneg_of_ne_top (by exact_mod_cast hr) (EReal.coe_ne_top r) a b

theorem sum_mul {r : ℝ} (hr : 0 ≤ r) (f : Fin 1024 → EReal) : ∑ k, (r : EReal) * f k = r * ∑ k, f k := by
  classical
  refine Finset.induction_on (Finset.univ : Finset (Fin 1024)) (by simp) ?_
  intro a s ha ih
  rw [Finset.sum_insert ha, Finset.sum_insert ha, ih, coe_mul_add hr]

theorem self_add (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul]; congr 1; ring

theorem common_eq_apart (x t : Fin 1024 → EReal) (j : Fin 1024) : common x t j = apart x t j := by
  unfold common apart factor
  rcases cases x with ⟨hm, hr⟩ | ⟨v, r, hr, hv, hrv, em, er⟩
  · rw [hm, hr]
    have h0 : Ideal.div 0 ⊤ = 0 := by
      unfold Ideal.div
      rw [if_neg (by simp)]; simp
    rw [h0, div_len, div_len]
    simp
  · have hd : Ideal.div (r : EReal) (v : EReal) = ((r * r * r : ℝ) : EReal) := by
      unfold Ideal.div
      rw [if_neg (by exact_mod_cast hv.ne'), ← EReal.coe_inv, ← EReal.coe_mul]
      congr 1
      field_simp
      nlinarith [hrv]
    rw [em, er, hd, mhalf_eq, div_len, div_len]
    have hS : ∑ k, t k * (x k * (r : EReal)) = r * ∑ k, x k * t k := by
      rw [← sum_mul hr.le]
      refine Finset.sum_congr rfl fun k _ => ?_
      rw [mul_comm (x k) (r : EReal), mul_left_comm, mul_comm (t k)]
    rw [hS]
    generalize ∑ k, x k * t k = S
    rw [sub_eq_add_neg, coe_mul_add hr.le, mul_comm (t j), add_assoc]
    refine congrArg _ ?_
    rw [mul_comm _ (x j), self_add]
    have e1 : (r : EReal) * -(x j * ↑r * (↑r * S * ((1 / 1024 : ℝ) : EReal))) = x j * S * ((-(r * r * r * (1 / 1024)) : ℝ) : EReal) := by
      rw [mul_neg, EReal.coe_neg, mul_neg]
      refine congrArg _ ?_
      push_cast
      ac_rfl
    have e2 : ((2 : ℝ) : EReal) * (x j * (S * (((-(1 / 2) : ℝ) : EReal) * ((r * r * r : ℝ) : EReal)) * ((1 / 1024 : ℝ) : EReal)))
        = x j * S * ((2 * ((-(1 / 2)) * (r * r * r)) * (1 / 1024) : ℝ) : EReal) := by
      rw [EReal.coe_mul (2 * _), EReal.coe_mul 2, EReal.coe_mul (-(1 / 2))]
      ac_rfl
    rw [e1, e2]
    congr 2
    ring

/-- Row `r` of block `n` (modulo 8192, so that no bound is needed). -/
def rowOf (n : ℕ) (r : Fin 512) : Fin 8192 := ⟨(512 * n + r.val) % 8192, Nat.mod_lt _ (by decide)⟩

/-- The sum over the first `n` blocks of rows. -/
def rows (f : Fin 8192 → EReal) : ℕ → EReal
  | 0 => 0
  | n + 1 => rows f n + ∑ r : Fin 512, f (rowOf n r)

theorem rows_eq (f : Fin 8192 → EReal) (n : ℕ) : rows f n = ∑ b ∈ Finset.range n, ∑ r : Fin 512, f (rowOf b r) := by
  induction n with
  | zero => rfl
  | succ n ih => rw [Finset.sum_range_succ, ← ih]; rfl

theorem rows_last (f : Fin 8192 → EReal) : rows f 16 = ∑ k, f k := by
  rw [rows_eq, Finset.sum_range, ← Finset.sum_product']
  refine Fintype.sum_equiv (finProdFinEquiv (m := 16) (n := 512)) (fun p => f (rowOf p.1.val p.2)) f fun p => congrArg f (Fin.ext ?_)
  show (512 * p.1.val + p.2.val) % 8192 = p.2.val + 512 * p.1.val
  omega

/-- Row `i` of an array. -/
def line {n : ℕ} (x : (⟨2, ![n, 1024]⟩ : Shape).Idx → EReal) (i : Fin n) (k : Fin 1024) : EReal := x (ix2 i k)

/-- The gradient of the norm's result. -/
def dh {n : ℕ} (u : (⟨2, ![8192, n]⟩ : Shape).Idx → EReal) (w : (⟨2, ![1024, n]⟩ : Shape).Idx → EReal) (i : Fin 8192) (j : Fin 1024) : EReal :=
  ∑ k : Fin n, u (ix2 i k) * w (ix2 j k)

/-- The same times the gain. -/
def th {n : ℕ} (g : (⟨1, ![1024]⟩ : Shape).Idx → EReal) (u : (⟨2, ![8192, n]⟩ : Shape).Idx → EReal) (w : (⟨2, ![1024, n]⟩ : Shape).Idx → EReal)
    (i : Fin 8192) (j : Fin 1024) : EReal := dh u w i j * g (ix1 j)

/-- One entry of the input's gradient. -/
def entry {n : ℕ} (x : (⟨2, ![8192, 1024]⟩ : Shape).Idx → EReal) (g : (⟨1, ![1024]⟩ : Shape).Idx → EReal) (w : (⟨2, ![1024, n]⟩ : Shape).Idx → EReal)
    (u : (⟨2, ![8192, n]⟩ : Shape).Idx → EReal) (i : Fin 8192) (j : Fin 1024) : EReal :=
  common (line x i) (th g u w i) j

/-- One row's share of the gain's gradient. -/
def gain {n : ℕ} (x : (⟨2, ![8192, 1024]⟩ : Shape).Idx → EReal) (w : (⟨2, ![1024, n]⟩ : Shape).Idx → EReal)
    (u : (⟨2, ![8192, n]⟩ : Shape).Idx → EReal) (j : Fin 1024) (i : Fin 8192) : EReal :=
  dh u w i j * (x (ix2 i j) * rms (line x i))

end Cert.Proof.NormReal
-- ==== Proof.NormMlp.lean ====
/-
  The gradient of the MLP's first product and of the norm before it, with the gradients of the norm's gain: the kernel's two arrays
  and the reference's are the same extended reals.
-/
module

public import proofs.«01_k».proof.Proof.Gen.Kernel11Ideal.Value
public import proofs.«01_k».proof.Proof.Gen.Reference11Ideal.Run
public import proofs.«01_k».proof.Proof.MlpSum
public import proofs.«01_k».proof.Proof.NormReal
public import Idealize.ShloMosaic.Lib.Pipeline.ValueKit
public import Idealize.ShloMosaic.Lib.Pointwise
public import proofs.«01_k».proof.Defs

@[expose] public section

set_option maxRecDepth 16384

noncomputable section

namespace Cert.Proof.NormMlp

open Idealize.ShloMosaic Idealize.ShloMosaic.TcCoe Idealize.SL.Sem Cert.Proof.MlpSum Cert.Proof.NormReal
open scoped BigOperators

section Kernel

open Cert.Kernel11Ideal Cert.Kernel11Ideal.Gen

theorem idx0 : ∀ t : Fin grid0.N, win0_0.index t 0 = t.val / 2 ∧ win0_0.index t 1 = t.val % 2 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val / 2 ∧ win0_4.index t 1 = 0 := by decide +kernel
theorem idx5 : ∀ t : Fin grid0.N, win0_5.index t 0 = t.val / 2 ∧ win0_5.index t 1 = 0 := by decide +kernel
theorem idx6 : ∀ t : Fin grid0.N, win0_6.index t 0 = 0 ∧ win0_6.index t 1 = 0 := by decide +kernel

theorem bound (t : Fin cfg0.N) : t.val < 32 := by
  have h : cfg0.N = 32 := by decide
  have := t.isLt
  omega

theorem rowOf_val (t : Fin cfg0.N) (r : Fin 512) : (rowOf (t.val / 2) r).val = 512 * (t.val / 2) + r.val := by
  have := bound t
  exact Nat.mod_eq_of_lt (by omega)

variable (m : (ℓ : Loc nD τ sig) → Buf (Elt Ideal) ℓ) (c : Dev nD)

/-- The arguments, from the memory. -/
def memX (i : Fin 8192) (j : Fin 1024) : EReal := m ((c.tc : Thread nD τ).loc main_arg0) (ix2 i j)
def memG (j : Fin 1024) : EReal := m ((c.tc : Thread nD τ).loc main_arg1) (ix1 j)
def memW (i : Fin 1024) (j : Fin 4096) : EReal := m ((c.tc : Thread nD τ).loc main_arg2) (ix2 i j)
def memU (i : Fin 8192) (j : Fin 4096) : EReal := m ((c.tc : Thread nD τ).loc main_arg3) (ix2 i j)
def memY (i : Fin 8192) (j : Fin 1024) : EReal := m ((c.tc : Thread nD τ).loc main_arg4) (ix2 i j)

theorem host0 (i : Fin 8192) (k : Fin 4096) : V m c main_v0 (ix2 i k) = memU m c i k := by
  show StableHlo.after hostOps0 (fun b => m (c, b)) (Proc.devRef .tc main_v0) (ix2 i k) = _
  after_results_simp
  unfold memU
  pointwise
theorem host1 (i : Fin 1024) (k : Fin 4096) : V m c main_v1 (ix2 i k) = memW m c i k := by
  show StableHlo.after hostOps0 (fun b => m (c, b)) (Proc.devRef .tc main_v1) (ix2 i k) = _
  after_results_simp
  unfold memW
  pointwise
theorem host2 (k : Fin 1024) : V m c main_v2 (ix2 0 k) = memG m c k := by
  show StableHlo.after hostOps0 (fun b => m (c, b)) (Proc.devRef .tc main_v2) (ix2 0 k) = _
  after_results_simp
  unfold memG
  pointwise
theorem hostx (i : Fin 8192) (j : Fin 1024) : V m c main_arg0 (ix2 i j) = memX m c i j := by
  show StableHlo.after hostOps0 (fun b => m (c, b)) (Proc.devRef .tc main_arg0) (ix2 i j) = _
  after_results_simp
  rfl
theorem hosty (i : Fin 8192) (j : Fin 1024) : V m c main_arg4 (ix2 i j) = memY m c i j := by
  show StableHlo.after hostOps0 (fun b => m (c, b)) (Proc.devRef .tc main_arg4) (ix2 i j) = _
  after_results_simp
  rfl

theorem blk0_at (t : Fin cfg0.N) (r : Fin 512) (a : Fin 2048) : iblk m c 0 t (ix2 r a) = V m c main_v0 (ix2 (rowOf (t.val / 2) r) (hid (t.val % 2) a)) := by
  have e := idx0 t
  have h := bound t
  unfold rowOf hid
  blk_ext [iblk, e.1, e.2]
theorem blk1_at (t : Fin cfg0.N) (l : Fin 1024) (a : Fin 2048) : iblk m c 1 t (ix2 l a) = V m c main_v1 (ix2 l (hid (t.val % 2) a)) := by
  have e := idx1 t
  unfold hid
  blk_ext [iblk, e.1, e.2]
theorem blk2_at (t : Fin cfg0.N) (r : Fin 512) (l : Fin 1024) : iblk m c 2 t (ix2 r l) = V m c main_arg0 (ix2 (rowOf (t.val / 2) r) l) := by
  have e := idx2 t
  have h := bound t
  unfold rowOf
  blk_ext [iblk, e.1, e.2]
theorem blk3_at (t : Fin cfg0.N) (l : Fin 1024) : iblk m c 3 t (ix2 0 l) = V m c main_v2 (ix2 0 l) := by
  have e := idx3 t
  blk_ext [iblk, e.1, e.2]
theorem blk4_at (t : Fin cfg0.N) (r : Fin 512) (l : Fin 1024) : iblk m c 4 t (ix2 r l) = V m c main_arg4 (ix2 (rowOf (t.val / 2) r) l) := by
  have e := idx4 t
  have h := bound t
  unfold rowOf
  blk_ext [iblk, e.1, e.2]
theorem emb5 (t : Fin cfg0.N) (r : Fin 512) (l : Fin 1024) : (win0_5.rect t).emb (ix2 r l) = ix2 (rowOf (t.val / 2) r) l := by
  have e := idx5 t
  funext a
  refine Fin.ext ((win0_5.rect_emb_val t (ix2 r l) a).trans ?_)
  match a with
  | ⟨0, _⟩ =>
    show win0_5.index t 0 * 512 + r.val = (rowOf (t.val / 2) r).val
    rw [e.1, rowOf_val]; omega
  | ⟨1, _⟩ =>
    show win0_5.index t 1 * 1024 + l.val = l.val
    rw [e.2]; omega
theorem emb6 (t : Fin cfg0.N) (r : Fin 1) (l : Fin 1024) : (win0_6.rect t).emb (ix2 r l) = ix2 r l := by
  have e := idx6 t
  funext a
  refine Fin.ext ((win0_6.rect_emb_val t (ix2 r l) a).trans ?_)
  match a with
  | ⟨0, _⟩ =>
    show win0_6.index t 0 * 1 + r.val = r.val
    rw [e.1]; omega
  | ⟨1, _⟩ =>
    show win0_6.index t 1 * 1024 + l.val = l.val
    rw [e.2]; omega

theorem zero2 : (![0, 0] : Fin 2 → Nat) = fun _ => 0 := by funext a; match a with | ⟨0, _⟩ => rfl | ⟨1, _⟩ => rfl

/-- One entry of a block's product. -/
def dotRow (x0 : S512x2048.Idx → EReal) (x1 : S1024x2048.Idx → EReal) (r : Fin 512) (l : Fin 1024) : EReal := ∑ a : Fin 2048, x0 (ix2 r a) * x1 (ix2 l a)

/-- A row of a block of gradients, times the gain. -/
def lineG (d : S512x1024.Idx → EReal) (g : S1x1024.Idx → EReal) (r : Fin 512) (k : Fin 1024) : EReal := d (ix2 r k) * g (ix2 0 k)

/-- One entry of a block's sum over its rows. -/
def colSum (d x : S512x1024.Idx → EReal) (l : Fin 1024) : EReal := ∑ r : Fin 512, d (ix2 r l) * (x (ix2 r l) * rms (line x r))

section Cases

variable (i : grid0.Coords) (a2 : Memref sig .tc .vmem S512x2048 .bf16) (h2 : a2.IsWhole) (a3 : Memref sig .tc .vmem S1024x2048 .bf16) (h3 : a3.IsWhole)
  (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S512x1024 .f32) (h7 : a7.IsWhole)
  (a8 : Memref sig .tc .vmem S1x1024 .f32) (h8 : a8.IsWhole) (a9 : Memref sig .tc .vmem S512x1024 .f32) (h9 : a9.IsWhole)
  (x0 : Vec Ideal S512x2048 .bf16) (x1 : Vec Ideal S1024x2048 .bf16) (x2 : Vec Ideal S512x1024 .f32) (x3 : Vec Ideal S1x1024 .f32)
  (x4 : Vec Ideal S512x1024 .f32) (xo : Vec Ideal S1x1024 .f32) (xs : Vec Ideal S512x1024 .f32)

theorem start_gain (hc0 : cond0_0 i) (hc1 : cond0_1 i) (hc2 : ¬cond0_2 i) :
    out0_A_6 c i a2 h2 a3 h3 a4 h4 a5 h5 a6 h6 a7 h7 a8 h8 a9 h9 hc0 hc1 hc2 x0 x1 x2 x3 x4 = k0_pay2 (F := Ideal) := by
  unfold out0_A_6
  rw [View.read_writes_eq_canon _ _ _ (cover0_A_6 c i a2 h2 a3 h3 a4 h4 a5 h5 a6 h6 a7 h7 a8 h8 a9 h9 hc0 hc1 hc2 x0 x1 x2 x3 x4)]
  unfold kernelRun0_A
  dsimp only
  sl_unfold_words
  rw [View.canon_unit_zero zero2]

theorem start_sum (hc0 : cond0_0 i) (hc1 : cond0_1 i) (hc2 : ¬cond0_2 i) :
    sout0_A_0 c i a2 h2 a3 h3 a4 h4 a5 h5 a6 h6 a7 h7 a8 h8 a9 h9 hc0 hc1 hc2 x0 x1 x2 x3 x4 = k0_pay3 (k0_pay1 (F := Ideal)) x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S512x1024) zero2, View.readCov_unit_zero (S := S512x1024) _ zero2]
  simp only [View.readAt_eq_ld, h2.read_unread, h3.read_unread, View.ld_unit_zero (S := S512x2048) zero2, View.ld_unit_zero (S := S1024x2048) zero2]

theorem next_sum (hc0 : cond0_0 i) (hc1 : ¬cond0_1 i) (hc2 : ¬cond0_2 i) :
    sout0_C_0 c i a2 h2 a3 h3 a4 h4 a5 h5 a6 h6 a7 h7 a8 h8 a9 h9 hc0 hc1 hc2 x0 x1 x2 x3 x4 = k0_pay3 (k0_pay1 (F := Ideal)) x0 x1 := by
  unfold sout0_C_0
  rw [View.read_writes_eq_canon _ _ _ (scover0_C_0 c i a2 h2 a3 h3 a4 h4 a5 h5 a6 h6 a7 h7 a8 h8 a9 h9 hc0 hc1 hc2 x0 x1 x2 x3 x4)]
  unfold kernelRun0_C
  dsimp only
  sl_unfold_words
  rw [View.canon_cons_unit_zero (S := S512x1024) zero2, View.readCov_unit_zero (S := S512x1024) _ zero2]
  simp only [View.readAt_eq_ld, h2.read_unread, h3.read_unread, View.ld_unit_zero (S := S512x2048) zero2, View.ld_unit_zero (S := S1024x2048) zero2]

theorem last_dx (hc0 : ¬cond0_0 i) (hc1 : ¬cond0_1 i) (hc2 : cond0_2 i) :
    out0_B_5 c i a2 h2 a3 h3 a4 h4 a5 h5 a6 h6 a7 h7 a8 h8 a9 h9 hc0 hc1 hc2 x0 x1 x2 x3 x4 xo xs = k0_pay6 (k0_pay3 xs x0 x1) x2 x3 x4 := by
  unfold out0_B_5
  rw [View.read_writes_eq_canon _ _ _ (cover0_B_5 c i a2 h2 a3 h3 a4 h4 a5 h5 a6 h6 a7 h7 a8 h8 a9 h9 hc0 hc1 hc2 x0 x1 x2 x3 x4 xo xs)]
  unfold kernelRun0_B
  dsimp only
  sl_unfold_words
  rw [View.canon_unit_zero zero2, View.readCov_unit_zero (S := S512x1024) _ zero2]
  simp only [View.readAt_eq_ld, h2.read_unread, h3.read_unread, h4.read_unread, h5.read_unread, h6.read_unread, h9.read_unread, View.ld_unit_zero (S := S512x2048) zero2, View.ld_unit_zero (S := S1024x2048) zero2, View.ld_unit_zero (S := S512x1024) zero2, View.ld_unit_zero (S := S1x1024) zero2]

theorem last_gain (hc0 : ¬cond0_0 i) (hc1 : ¬cond0_1 i) (hc2 : cond0_2 i) :
    out0_B_6 c i a2 h2 a3 h3 a4 h4 a5 h5 a6 h6 a7 h7 a8 h8 a9 h9 hc0 hc1 hc2 x0 x1 x2 x3 x4 xo xs = k0_pay7 (k0_pay3 xs x0 x1) x2 xo := by
  unfold out0_B_6
  rw [View.read_writes_eq_canon _ _ _ (cover0_B_6 c i a2 h2 a3 h3 a4 h4 a5 h5 a6 h6 a7 h7 a8 h8 a9 h9 hc0 hc1 hc2 x0 x1 x2 x3 x4 xo xs)]
  unfold kernelRun0_B
  dsimp only
  sl_unfold_words
  rw [View.canon_unit_zero zero2, View.readCov_unit_zero (S := S512x1024) _ zero2]
  simp only [View.readAt_eq_ld, h2.read_unread, h3.read_unread, h4.read_unread, h8.read_unread, h9.read_unread, View.ld_unit_zero (S := S512x2048) zero2, View.ld_unit_zero (S := S1024x2048) zero2, View.ld_unit_zero (S := S512x1024) zero2, View.ld_unit_zero (S := S1x1024) zero2]

theorem zero_at (r : Fin 512) (l : Fin 1024) : (k0_pay1 (F := Ideal)) (ix2 r l) = (0 : EReal) := by
  pointwise [k0_pay1]

theorem zeroG_at (l : Fin 1024) : (k0_pay2 (F := Ideal)) (ix2 0 l) = (0 : EReal) := by
  pointwise [k0_pay2]

theorem add_at (r : Fin 512) (l : Fin 1024) : k0_pay3 xs x0 x1 (ix2 r l) = (xs (ix2 r l) + dotRow x0 x1 r l : EReal) := by
  unfold dotRow
  pointwise [k0_pay3]

theorem rms_at (r : Fin 512) : k0_pay4 x2 (ix2 r 0) = (rms (line x2 r) : EReal) := by
  unfold rms mean line len eps
  pointwise [k0_pay4]

theorem hat_at (r : Fin 512) (l : Fin 1024) : k0_pay5 x2 (ix2 r l) = (x2 (ix2 r l) * rms (line x2 r) : EReal) := by
  rw [← rms_at]
  pointwise [k0_pay5]

theorem dx_at (r : Fin 512) (l : Fin 1024) : k0_pay6 xs x2 x3 x4 (ix2 r l) = (common (line x2 r) (lineG xs x3 r) l + x4 (ix2 r l) : EReal) := by
  unfold common lineG
  pointwise [k0_pay6]
  simp only [rms_at, hat_at]
  rfl

theorem gain_at (l : Fin 1024) : k0_pay7 xs x2 xo (ix2 0 l) = (xo (ix2 0 l) + colSum xs x2 l : EReal) := by
  unfold colSum
  pointwise [k0_pay7]
  simp only [hat_at]

end Cases

/-- One term of the gradient of the norm's result, from the memory. -/
def memTerm (i : Fin 8192) (j : Fin 1024) (k : Fin 4096) : EReal := memU m c i k * memW m c j k

/-- The gradient of the norm's result, from the memory. -/
def memDh (i : Fin 8192) (j : Fin 1024) : EReal :=
  dh (m ((c.tc : Thread nD τ).loc main_arg3)) (m ((c.tc : Thread nD τ).loc main_arg2)) i j

theorem block_sum (t : Fin cfg0.N) (r : Fin 512) (l : Fin 1024) :
    dotRow (iblk m c 0 t) (iblk m c 1 t) r l = ∑ a : Fin 2048, memTerm m c (rowOf (t.val / 2) r) l (hid (t.val % 2) a) :=
  Finset.sum_congr (M := EReal) rfl fun a _ => by rw [blk0_at, blk1_at, host0, host1]; rfl

/-- The carried sum after a run's first point. -/
theorem carried (t : Fin cfg0.N) (h0 : t.val % 2 = 0) (r : Fin 512) (l : Fin 1024) :
    (outsAt0 m c t.val t.isLt).2.2 (ix2 r l) = ∑ a : Fin 2048, memTerm m c (rowOf (t.val / 2) r) l (hid 0 a) := by
  by_cases h1 : t.val % 32 = 0
  · rw [outsAt0_A m c t h0 h1 (by omega)]
    dsimp only
    rw [start_sum, add_at, zero_at, zero_add, block_sum, h0]
  · rw [outsAt0_C m c t h0 h1 (by omega)]
    dsimp only
    rw [next_sum, add_at, zero_at, zero_add, block_sum, h0]

/-- The whole sum, at a run's second point. -/
theorem whole (t : Fin cfg0.N) (hl : t.val % 2 = 1) (r : Fin 512) (l : Fin 1024) :
    k0_pay3 (F := Ideal) (outsAt0 m c (t.val - 1) (Nat.lt_of_le_of_lt (Nat.sub_le _ _) t.isLt)).2.2 (iblk m c 0 t) (iblk m c 1 t) (ix2 r l)
      = memDh m c (rowOf (t.val / 2) r) l := by
  rw [add_at, block_sum, hl]
  have e := carried m c ⟨t.val - 1, Nat.lt_of_le_of_lt (Nat.sub_le _ _) t.isLt⟩ (by dsimp only; omega) r l
  dsimp only at e
  rw [show (t.val - 1) / 2 = t.val / 2 by omega] at e
  exact (congrArg (fun v : EReal => v + _) e).trans (halves _)

/-- One entry of the input's gradient, from the memory. -/
def memEntry (i : Fin 8192) (j : Fin 1024) : EReal :=
  entry (m ((c.tc : Thread nD τ).loc main_arg0)) (m ((c.tc : Thread nD τ).loc main_arg1)) (m ((c.tc : Thread nD τ).loc main_arg2))
    (m ((c.tc : Thread nD τ).loc main_arg3)) i j + memY m c i j

/-- One row's share of the gain's gradient, from the memory. -/
def memGain (j : Fin 1024) (i : Fin 8192) : EReal :=
  gain (m ((c.tc : Thread nD τ).loc main_arg0)) (m ((c.tc : Thread nD τ).loc main_arg2)) (m ((c.tc : Thread nD τ).loc main_arg3)) j i

theorem line_blk (t : Fin cfg0.N) (r : Fin 512) : line (iblk m c 2 t) r = memX m c (rowOf (t.val / 2) r) := by
  funext k
  exact (blk2_at m c t r k).trans (hostx m c _ k)

theorem written (t : Fin cfg0.N) (hl : t.val % 2 = 1) (r : Fin 512) (l : Fin 1024) :
    (outsAt0 m c t.val t.isLt).1 (ix2 r l) = memEntry m c (rowOf (t.val / 2) r) l := by
  rw [outsAt0_B m c t (by omega) (by omega) hl]
  dsimp only
  rw [last_dx, dx_at, blk4_at, hosty, line_blk]
  have e : lineG (k0_pay3 (F := Ideal) (outsAt0 m c (t.val - 1) (Nat.lt_of_le_of_lt (Nat.sub_le _ _) t.isLt)).2.2 (iblk m c 0 t) (iblk m c 1 t)) (iblk m c 3 t) r
      = fun k => memDh m c (rowOf (t.val / 2) r) k * memG m c k := by
    funext k
    unfold lineG
    rw [whole m c t hl, blk3_at, host2]
  rw [e]
  rfl

/-- A block's share of the gain's gradient. -/
theorem col_blk (t : Fin cfg0.N) (hl : t.val % 2 = 1) (l : Fin 1024) :
    colSum (k0_pay3 (F := Ideal) (outsAt0 m c (t.val - 1) (Nat.lt_of_le_of_lt (Nat.sub_le _ _) t.isLt)).2.2 (iblk m c 0 t) (iblk m c 1 t)) (iblk m c 2 t) l
      = ∑ r : Fin 512, memGain m c l (rowOf (t.val / 2) r) :=
  Finset.sum_congr (M := EReal) rfl fun r _ => by rw [whole m c t hl, line_blk, blk2_at, hostx]; rfl

/-- The gain's gradient after a point: the rows of the runs that have ended. -/
theorem sofar (n : ℕ) (hn : n < cfg0.N) (l : Fin 1024) :
    (outsAt0 m c n hn).2.1 (ix2 0 l) = rows (memGain m c l) ((n + 1) / 2) := by
  induction n with
  | zero =>
    rw [outsAt0_A m c ⟨0, hn⟩ rfl rfl (by dsimp only; omega)]
    dsimp only
    rw [start_gain, zeroG_at]
    rfl
  | succ n ih =>
    have hb := bound ⟨n + 1, hn⟩
    dsimp only at hb
    by_cases h0 : (n + 1) % 2 = 0
    · rw [outsAt0_C m c ⟨n + 1, hn⟩ h0 (by dsimp only; omega) (by dsimp only; omega)]
      dsimp only
      unfold out0_C_6
      have e := ih (by omega)
      rw [show (n + 1 + 1) / 2 = (n + 1) / 2 by omega]
      exact e
    · have h1 : (n + 1) % 2 = 1 := by omega
      rw [outsAt0_B m c ⟨n + 1, hn⟩ h0 (by dsimp only; omega) h1]
      dsimp only
      rw [last_gain, gain_at]
      have e := ih (by omega)
      rw [show (n + 1 + 1) / 2 = (n + 1) / 2 + 1 by omega]
      exact congrArg₂ (fun a b : EReal => a + b) e (col_blk m c ⟨n + 1, hn⟩ h1 l)

theorem last5 : ∀ t : Fin grid0.N, win0_5.flush t = true → t.val % 2 = 1 := by decide +kernel
theorem last6 : ∀ t : Fin grid0.N, win0_6.flush t = true → t.val = 31 := by decide +kernel

theorem array5_at (i : Fin 8192) (j : Fin 1024) : (dats m 0 c).arrAt 5 cfg0.N (ix2 i j) = memEntry m c i j := by
  refine (dats m 0 c).arrAt_forall_of_covers 5
    (fun y v => ∀ (i : Fin 8192) (j : Fin 1024), y = ix2 i j → v = memEntry m c i j)
    (by decide +kernel) (fun t hf y => ?_) (ix2 i j) (Memref.isWhole_whole _) i j rfl
  intro i j e
  obtain ⟨r, l, rfl⟩ : ∃ (r : Fin 512) (l : Fin 1024), y = ix2 r l := ⟨y 0, y 1, eq_ix2 y⟩
  have e2 : (ix2 (rowOf (t.val / 2) r) l : S8192x1024.Idx) = ix2 i j := (emb5 t r l).symm.trans e
  have e3 : rowOf (t.val / 2) r = i := congrFun e2 0
  have e4 : l = j := congrFun e2 1
  subst e3 e4
  show (dats m 0 c).after 5 t (ix2 r l) = _
  rw [after0_5]
  exact written m c t (last5 t hf) r l

theorem array6_at (i : Fin 1) (j : Fin 1024) : (dats m 0 c).arrAt 6 cfg0.N (ix2 i j) = ∑ k, memGain m c j k := by
  refine (dats m 0 c).arrAt_forall_of_covers 6
    (fun y v => ∀ (i : Fin 1) (j : Fin 1024), y = ix2 i j → v = ∑ k, memGain m c j k)
    (by decide +kernel) (fun t hf y => ?_) (ix2 i j) (Memref.isWhole_whole _) i j rfl
  intro i j e
  obtain ⟨r, l, rfl⟩ : ∃ (r : Fin 1) (l : Fin 1024), y = ix2 r l := ⟨y 0, y 1, eq_ix2 y⟩
  have e2 : (ix2 r l : S1x1024.Idx) = ix2 i j := (emb6 t r l).symm.trans e
  have e4 : l = j := congrFun e2 1
  subst e4
  obtain rfl : r = 0 := Subsingleton.elim _ _
  show (dats m 0 c).after 6 t (ix2 0 l) = _
  rw [after0_6, sofar, last6 t hf]
  exact rows_last _

end Kernel

section Reference

open Cert.Reference11Ideal Cert.Reference11Ideal.Gen

/-- The reference's means of squares. -/
def meanA (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reference's gradient of the norm's result. -/
def dhA (u : FVec Ideal S8192x4096 .f32) (w : FVec Ideal S1024x4096 .f32) : FVec Ideal S8192x1024 .f32 :=
  Host.dotGeneral dot_S8192x4096_S1024x4096_S8192x1024_1_1_0_0_n_n none u w

/-- The same times the gain. -/
def thA (g : FVec Ideal S1024 .f32) (d : FVec Ideal S8192x1024 .f32) : FVec Ideal S8192x1024 .f32 :=
  mulf d (broadcastInDim S8192x1024 ![0, 1] bcast_S1x1024_S8192x1024_0_1 (broadcastInDim S1x1024 ![1] bcast_S1024_S1x1024_1 g))

/-- The reference's share that comes from the factor. -/
def factorA (x t : FVec Ideal S8192x1024 .f32) (v : FVec Ideal S8192x1 .f32) : FVec Ideal S8192 .f32 :=
  Host.reduceAdd (Host.divf (mulf (shapeCast _ (Host.reduceAdd (mulf x t) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt v) v))) (broadcastInDim S8192x1 ![] bcast_S_S8192x1 (constant S_ .f32 0x44800000#32))) (constant S_ .f32 0x00000000#32) reducesTo_S8192x1_S8192_d1 h_S_

/-- The reference's gradient of the input. -/
def dxA (x t y : FVec Ideal S8192x1024 .f32) (v : FVec Ideal S8192x1 .f32) (s : FVec Ideal S8192 .f32) : FVec Ideal S8192x1024 .f32 :=
  addf (addf (addf (mulf t (broadcastInDim S8192x1024 ![0, 1] bcast_S8192x1_S8192x1024_0_1 (Host.rsqrt v))) (mulf x (broadcastInDim S8192x1024 ![0] bcast_S8192_S8192x1024_0 s))) (mulf (broadcastInDim S8192x1024 ![0] bcast_S8192_S8192x1024_0 s) x)) y

/-- The reference's gradient of the gain. -/
def dgA (x d : FVec Ideal S8192x1024 .f32) (v : FVec Ideal S8192x1 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt v))) d) (constant S_ .f32 0x00000000#32) reducesTo_S8192x1024_S1024_d0 h_S_) shapeCasts_S1024_S1x1024) (constant S_ .f32 0x00000000#32) reducesTo_S1x1024_S1024_d0 h_S_)

theorem meanA_at (x : FVec Ideal S8192x1024 .f32) (i : Fin 8192) : meanA x (ix2 i 0) = mean (line x i) := by
  unfold meanA mean line len eps
  pointwise

theorem dhA_at (u : FVec Ideal S8192x4096 .f32) (w : FVec Ideal S1024x4096 .f32) (i : Fin 8192) (j : Fin 1024) : dhA u w (ix2 i j) = dh u w i j := by
  unfold dhA dh
  pointwise

theorem thA_at (g : FVec Ideal S1024 .f32) (d : FVec Ideal S8192x1024 .f32) (i : Fin 8192) (j : Fin 1024) :
    thA g d (ix2 i j) = (d (ix2 i j) * g (ix1 j) : EReal) := by
  unfold thA
  pointwise

theorem factorA_at (x t : FVec Ideal S8192x1024 .f32) (i : Fin 8192) : factorA x t (meanA x) (ix1 i) = factor (line x i) (line t i) := by
  unfold factor rms
  rw [← meanA_at]
  unfold factorA line len mhalf
  pointwise
  exact Fintype.sum_unique (M := EReal) _

theorem dxA_at (x t y : FVec Ideal S8192x1024 .f32) (i : Fin 8192) (j : Fin 1024) :
    dxA x t y (meanA x) (factorA x t (meanA x)) (ix2 i j) = (apart (line x i) (line t i) j + y (ix2 i j) : EReal) := by
  unfold apart rms
  rw [← factorA_at, ← meanA_at]
  unfold dxA line
  pointwise

theorem dgA_at (x d : FVec Ideal S8192x1024 .f32) (i : Fin 1) (j : Fin 1024) :
    dgA x d (meanA x) (ix2 i j) = ∑ k : Fin 8192, (x (ix2 k j) * rms (line x k) : EReal) * d (ix2 k j) := by
  unfold rms
  simp only [← meanA_at]
  unfold dgA
  pointwise
  exact Fintype.sum_unique (M := EReal) _

end Reference

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 5 Cert.Kernel11Ideal.cfg0.N,
    fun c => (Cert.Kernel11Ideal.Gen.dats m 0 c).arrAt 6 Cert.Kernel11Ideal.cfg0.N, ?_, ?_⟩
  · exact Cert.Kernel11Ideal.Value.run_blocks (F := Ideal) m g
  · refine (θ_run Cert.Reference11Ideal.defs _ _).mono (fun r h c => ?_) (Cert.Reference11Ideal.Value.run (F := Ideal) m' g')
    obtain ⟨e0, e1, e2, e3, e4⟩ := hagree c
    refine ⟨(h c).1.trans ?_, (h c).2.1.trans ?_, (h c).2.2⟩
    · unfold Cert.Reference11Ideal.Value.res_main_v38
      rw [e0, e1, e2, e3, e4]
      funext y
      obtain ⟨i, j, rfl⟩ : ∃ (i : Fin 8192) (j : Fin 1024), y = ix2 i j := ⟨y 0, y 1, eq_ix2 y⟩
      refine (dxA_at _ (thA _ (dhA _ _)) _ i j).trans (Eq.trans ?_ (array5_at m c i j).symm)
      unfold memEntry entry
      rw [common_eq_apart]
      refine congrArg (fun t => apart _ t j + _) ?_
      funext k
      refine (thA_at _ _ i k).trans ?_
      rw [dhA_at]
      rfl
    · rw [e0, e2, e3]
      funext y
      obtain ⟨i, j, rfl⟩ : ∃ (i : Fin 1) (j : Fin 1024), y = ix2 i j := ⟨y 0, y 1, eq_ix2 y⟩
      refine (dgA_at _ (dhA _ _) i j).trans (Eq.trans ?_ (array6_at m c i j).symm)
      refine Finset.sum_congr (M := EReal) rfl fun k _ => ?_
      unfold memGain gain
      rw [dhA_at]
      exact mul_comm (_ : EReal) _

end Cert.Proof.NormMlp
-- ==== Proof.NormQkv.lean ====
/-
  The gradient of the linear attention's query, key and value product and of the norm before it, with the gradient of the norm's
  gain: the kernel's two arrays and the reference's are the same extended reals.
-/
module

public import proofs.«01_k».proof.Proof.Gen.Kernel12Ideal.Value
public import proofs.«01_k».proof.Proof.Gen.Reference12Ideal.Run
public import proofs.«01_k».proof.Proof.NormReal
public import Idealize.ShloMosaic.Lib.Pipeline.ValueKit
public import Idealize.ShloMosaic.Lib.Pointwise
public import proofs.«01_k».proof.Defs

@[expose] public section

set_option maxRecDepth 16384

noncomputable section

namespace Cert.Proof.NormQkv

open Idealize.ShloMosaic Idealize.ShloMosaic.TcCoe Idealize.SL.Sem Cert.Proof.NormReal
open scoped BigOperators

/-- Column `a` of block `n` (modulo 3072, so that no bound is needed). -/
def col (n : ℕ) (a : Fin 1024) : Fin 3072 := ⟨(1024 * n + a.val) % 3072, Nat.mod_lt _ (by decide)⟩

/-- The running sum after block `k`. -/
def part (f : Fin 3072 → EReal) : ℕ → EReal
  | 0 => ∑ a : Fin 1024, f (col 0 a)
  | k + 1 => part f k + ∑ a : Fin 1024, f (col (k + 1) a)

theorem part_last (f : Fin 3072 → EReal) : part f 2 = ∑ k, f k := by
  have e : ∑ j : Fin 3, ∑ a : Fin 1024, f (col j.val a) = ∑ k, f k := by
    rw [← Finset.sum_product']
    refine Fintype.sum_equiv (finProdFinEquiv (m := 3) (n := 1024)) (fun p => f (col p.1.val p.2)) f fun p => congrArg f (Fin.ext ?_)
    show (1024 * p.1.val + p.2.val) % 3072 = p.2.val + 1024 * p.1.val
    omega
  rw [← e, Fin.sum_univ_three]
  rfl

section Kernel

open Cert.Kernel12Ideal Cert.Kernel12Ideal.Gen

theorem idx0 : ∀ t : Fin grid0.N, win0_0.index t 0 = t.val / 3 ∧ win0_0.index t 1 = t.val % 3 := by decide +kernel
theorem idx1 : ∀ t : Fin grid0.N, win0_1.index t 0 = 0 ∧ win0_1.index t 1 = t.val % 3 := by decide +kernel
theorem idx2 : ∀ t : Fin grid0.N, win0_2.index t 0 = t.val / 3 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val / 3 ∧ win0_4.index t 1 = 0 := by decide +kernel
theorem idx5 : ∀ t : Fin grid0.N, win0_5.index t 0 = 0 ∧ win0_5.index t 1 = 0 := by decide +kernel

theorem bound (t : Fin cfg0.N) : t.val < 48 := by
  have h : cfg0.N = 48 := by decide
  have := t.isLt
  omega

theorem rowOf_val (t : Fin cfg0.N) (r : Fin 512) : (rowOf (t.val / 3) r).val = 512 * (t.val / 3) + r.val := by
  have := bound t
  exact Nat.mod_eq_of_lt (by omega)

variable (m : (ℓ : Loc nD τ sig) → Buf (Elt Ideal) ℓ) (c : Dev nD)

/-- The arguments, from the memory. -/
def memX (i : Fin 8192) (j : Fin 1024) : EReal := m ((c.tc : Thread nD τ).loc main_arg0) (ix2 i j)
def memG (j : Fin 1024) : EReal := m ((c.tc : Thread nD τ).loc main_arg1) (ix1 j)
def memW (i : Fin 1024) (j : Fin 3072) : EReal := m ((c.tc : Thread nD τ).loc main_arg2) (ix2 i j)
def memU (i : Fin 8192) (j : Fin 3072) : EReal := m ((c.tc : Thread nD τ).loc main_arg3) (ix2 i j)

theorem host0 (i : Fin 8192) (k : Fin 3072) : V m c main_v0 (ix2 i k) = memU m c i k := by
  show StableHlo.after hostOps0 (fun b => m (c, b)) (Proc.devRef .tc main_v0) (ix2 i k) = _
  after_results_simp
  unfold memU
  pointwise
theorem host1 (i : Fin 1024) (k : Fin 3072) : V m c main_v1 (ix2 i k) = memW m c i k := by
  show StableHlo.after hostOps0 (fun b => m (c, b)) (Proc.devRef .tc main_v1) (ix2 i k) = _
  after_results_simp
  unfold memW
  pointwise
theorem host2 (k : Fin 1024) : V m c main_v2 (ix2 0 k) = memG m c k := by
  show StableHlo.after hostOps0 (fun b => m (c, b)) (Proc.devRef .tc main_v2) (ix2 0 k) = _
  after_results_simp
  unfold memG
  pointwise
theorem hostx (i : Fin 8192) (j : Fin 1024) : V m c main_arg0 (ix2 i j) = memX m c i j := by
  show StableHlo.after hostOps0 (fun b => m (c, b)) (Proc.devRef .tc main_arg0) (ix2 i j) = _
  after_results_simp
  rfl
theorem blk0_at (t : Fin cfg0.N) (r : Fin 512) (a : Fin 1024) : iblk m c 0 t (ix2 r a) = V m c main_v0 (ix2 (rowOf (t.val / 3) r) (col (t.val % 3) a)) := by
  have e := idx0 t
  have h := bound t
  unfold rowOf col
  blk_ext [iblk, e.1, e.2]
theorem blk1_at (t : Fin cfg0.N) (l : Fin 1024) (a : Fin 1024) : iblk m c 1 t (ix2 l a) = V m c main_v1 (ix2 l (col (t.val % 3) a)) := by
  have e := idx1 t
  unfold col
  blk_ext [iblk, e.1, e.2]
theorem blk2_at (t : Fin cfg0.N) (r : Fin 512) (l : Fin 1024) : iblk m c 2 t (ix2 r l) = V m c main_arg0 (ix2 (rowOf (t.val / 3) r) l) := by
  have e := idx2 t
  have h := bound t
  unfold rowOf
  blk_ext [iblk, e.1, e.2]
theorem blk3_at (t : Fin cfg0.N) (l : Fin 1024) : iblk m c 3 t (ix2 0 l) = V m c main_v2 (ix2 0 l) := by
  have e := idx3 t
  blk_ext [iblk, e.1, e.2]
theorem emb4 (t : Fin cfg0.N) (r : Fin 512) (l : Fin 1024) : (win0_4.rect t).emb (ix2 r l) = ix2 (rowOf (t.val / 3) r) l := by
  have e := idx4 t
  funext a
  refine Fin.ext ((win0_4.rect_emb_val t (ix2 r l) a).trans ?_)
  match a with
  | ⟨0, _⟩ =>
    show win0_4.index t 0 * 512 + r.val = (rowOf (t.val / 3) r).val
    rw [e.1, rowOf_val]; omega
  | ⟨1, _⟩ =>
    show win0_4.index t 1 * 1024 + l.val = l.val
    rw [e.2]; omega
theorem emb5 (t : Fin cfg0.N) (r : Fin 1) (l : Fin 1024) : (win0_5.rect t).emb (ix2 r l) = ix2 r l := by
  have e := idx5 t
  funext a
  refine Fin.ext ((win0_5.rect_emb_val t (ix2 r l) a).trans ?_)
  match a with
  | ⟨0, _⟩ =>
    show win0_5.index t 0 * 1 + r.val = r.val
    rw [e.1]; omega
  | ⟨1, _⟩ =>
    show win0_5.index t 1 * 1024 + l.val = l.val
    rw [e.2]; omega

theorem zero2 : (![0, 0] : Fin 2 → Nat) = fun _ => 0 := by funext a; match a with | ⟨0, _⟩ => rfl | ⟨1, _⟩ => rfl

/-- One entry of a block's product. -/
def dotRow (x0 : S512x1024.Idx → EReal) (x1 : S1024x1024.Idx → EReal) (r : Fin 512) (l : Fin 1024) : EReal := ∑ a : Fin 1024, x0 (ix2 r a) * x1 (ix2 l a)

/-- A row of a block of gradients, times the gain. -/
def lineG (d : S512x1024.Idx → EReal) (g : S1x1024.Idx → EReal) (r : Fin 512) (k : Fin 1024) : EReal := d (ix2 r k) * g (ix2 0 k)

/-- One entry of a block's sum over its rows. -/
def colSum (d x : S512x1024.Idx → EReal) (l : Fin 1024) : EReal := ∑ r : Fin 512, d (ix2 r l) * (x (ix2 r l) * rms (line x r))

section Cases

variable (i : grid0.Coords) (a2 : Memref sig .tc .vmem S512x1024 .bf16) (h2 : a2.IsWhole) (a3 : Memref sig .tc .vmem S1024x1024 .bf16) (h3 : a3.IsWhole)
  (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole)
  (x0 : Vec Ideal S512x1024 .bf16) (x1 : Vec Ideal S1024x1024 .bf16) (x2 : Vec Ideal S512x1024 .f32) (x3 : Vec Ideal S1x1024 .f32)
  (xo : Vec Ideal S1x1024 .f32) (xs : Vec Ideal S512x1024 .f32)

theorem start_gain (hc0 : cond0_0 i) (hc1 : cond0_1 i) (hc2 : ¬cond0_2 i) :
    out0_A_5 c i a2 h2 a3 h3 a4 h4 a5 h5 a6 h6 a7 h7 a8 h8 hc0 hc1 hc2 x0 x1 x2 x3 = k0_pay2 (F := Ideal) := by
  unfold out0_A_5
  rw [View.read_writes_eq_canon _ _ _ (cover0_A_5 c i a2 h2 a3 h3 a4 h4 a5 h5 a6 h6 a7 h7 a8 h8 hc0 hc1 hc2 x0 x1 x2 x3)]
  unfold kernelRun0_A
  dsimp only
  sl_unfold_words
  rw [View.canon_unit_zero zero2]

theorem start_sum (hc0 : cond0_0 i) (hc1 : cond0_1 i) (hc2 : ¬cond0_2 i) :
    sout0_A_0 c i a2 h2 a3 h3 a4 h4 a5 h5 a6 h6 a7 h7 a8 h8 hc0 hc1 hc2 x0 x1 x2 x3 = k0_pay3 (k0_pay1 (F := Ideal)) x0 x1 := by
  unfold sout0_A_0
  rw [View.read_writes_eq_canon _ _ _ (scover0_A_0 c i a2 h2 a3 h3 a4 h4 a5 h5 a6 h6 a7 h7 a8 h8 hc0 hc1 hc2 x0 x1 x2 x3)]
  unfold kernelRun0_A
  dsimp only
  sl_unfold_words
  rw [View.canon_cons_unit_zero (S := S512x1024) zero2, View.readCov_unit_zero (S := S512x1024) _ zero2]
  simp only [View.readAt_eq_ld, h2.read_unread, h3.read_unread, View.ld_unit_zero (S := S512x1024) zero2, View.ld_unit_zero (S := S1024x1024) zero2]

theorem next_sum (hc0 : cond0_0 i) (hc1 : ¬cond0_1 i) (hc2 : ¬cond0_2 i) :
    sout0_D_0 c i a2 h2 a3 h3 a4 h4 a5 h5 a6 h6 a7 h7 a8 h8 hc0 hc1 hc2 x0 x1 x2 x3 = k0_pay3 (k0_pay1 (F := Ideal)) x0 x1 := by
  unfold sout0_D_0
  rw [View.read_writes_eq_canon _ _ _ (scover0_D_0 c i a2 h2 a3 h3 a4 h4 a5 h5 a6 h6 a7 h7 a8 h8 hc0 hc1 hc2 x0 x1 x2 x3)]
  unfold kernelRun0_D
  dsimp only
  sl_unfold_words
  rw [View.canon_cons_unit_zero (S := S512x1024) zero2, View.readCov_unit_zero (S := S512x1024) _ zero2]
  simp only [View.readAt_eq_ld, h2.read_unread, h3.read_unread, View.ld_unit_zero (S := S512x1024) zero2, View.ld_unit_zero (S := S1024x1024) zero2]

theorem middle_sum (hc0 : ¬cond0_0 i) (hc1 : ¬cond0_1 i) (hc2 : ¬cond0_2 i) :
    sout0_B_0 c i a2 h2 a3 h3 a4 h4 a5 h5 a6 h6 a7 h7 a8 h8 hc0 hc1 hc2 x0 x1 x2 x3 xs = k0_pay3 xs x0 x1 := by
  unfold sout0_B_0
  rw [View.read_writes_eq_canon _ _ _ (scover0_B_0 c i a2 h2 a3 h3 a4 h4 a5 h5 a6 h6 a7 h7 a8 h8 hc0 hc1 hc2 x0 x1 x2 x3 xs)]
  unfold kernelRun0_B
  dsimp only
  sl_unfold_words
  rw [View.canon_unit_zero zero2]
  simp only [View.readAt_eq_ld, h2.read_unread, h3.read_unread, h8.read_unread, View.ld_unit_zero (S := S512x1024) zero2, View.ld_unit_zero (S := S1024x1024) zero2]

theorem last_dx (hc0 : ¬cond0_0 i) (hc1 : ¬cond0_1 i) (hc2 : cond0_2 i) :
    out0_C_4 c i a2 h2 a3 h3 a4 h4 a5 h5 a6 h6 a7 h7 a8 h8 hc0 hc1 hc2 x0 x1 x2 x3 xo xs = k0_pay6 (k0_pay3 xs x0 x1) x2 x3 := by
  unfold out0_C_4
  rw [View.read_writes_eq_canon _ _ _ (cover0_C_4 c i a2 h2 a3 h3 a4 h4 a5 h5 a6 h6 a7 h7 a8 h8 hc0 hc1 hc2 x0 x1 x2 x3 xo xs)]
  unfold kernelRun0_C
  dsimp only
  sl_unfold_words
  rw [View.canon_unit_zero zero2, View.readCov_unit_zero (S := S512x1024) _ zero2]
  simp only [View.readAt_eq_ld, h2.read_unread, h3.read_unread, h4.read_unread, h5.read_unread, h7.read_unread, h8.read_unread, View.ld_unit_zero (S := S512x1024) zero2, View.ld_unit_zero (S := S1024x1024) zero2, View.ld_unit_zero (S := S1x1024) zero2]

theorem last_gain (hc0 : ¬cond0_0 i) (hc1 : ¬cond0_1 i) (hc2 : cond0_2 i) :
    out0_C_5 c i a2 h2 a3 h3 a4 h4 a5 h5 a6 h6 a7 h7 a8 h8 hc0 hc1 hc2 x0 x1 x2 x3 xo xs = k0_pay7 (k0_pay3 xs x0 x1) x2 xo := by
  unfold out0_C_5
  rw [View.read_writes_eq_canon _ _ _ (cover0_C_5 c i a2 h2 a3 h3 a4 h4 a5 h5 a6 h6 a7 h7 a8 h8 hc0 hc1 hc2 x0 x1 x2 x3 xo xs)]
  unfold kernelRun0_C
  dsimp only
  sl_unfold_words
  rw [View.canon_unit_zero zero2, View.readCov_unit_zero (S := S512x1024) _ zero2]
  simp only [View.readAt_eq_ld, h2.read_unread, h3.read_unread, h4.read_unread, h5.read_unread, h7.read_unread, h8.read_unread, View.ld_unit_zero (S := S512x1024) zero2, View.ld_unit_zero (S := S1024x1024) zero2, View.ld_unit_zero (S := S1x1024) zero2]

theorem zero_at (r : Fin 512) (l : Fin 1024) : (k0_pay1 (F := Ideal)) (ix2 r l) = (0 : EReal) := by
  pointwise [k0_pay1]

theorem zeroG_at (l : Fin 1024) : (k0_pay2 (F := Ideal)) (ix2 0 l) = (0 : EReal) := by
  pointwise [k0_pay2]

theorem add_at (r : Fin 512) (l : Fin 1024) : k0_pay3 xs x0 x1 (ix2 r l) = (xs (ix2 r l) + dotRow x0 x1 r l : EReal) := by
  unfold dotRow
  pointwise [k0_pay3]

theorem rms_at (r : Fin 512) : k0_pay4 x2 (ix2 r 0) = (rms (line x2 r) : EReal) := by
  unfold rms mean line len eps
  pointwise [k0_pay4]

theorem hat_at (r : Fin 512) (l : Fin 1024) : k0_pay5 x2 (ix2 r l) = (x2 (ix2 r l) * rms (line x2 r) : EReal) := by
  rw [← rms_at]
  pointwise [k0_pay5]

theorem dx_at (r : Fin 512) (l : Fin 1024) : k0_pay6 xs x2 x3 (ix2 r l) = (common (line x2 r) (lineG xs x3 r) l : EReal) := by
  unfold common lineG
  pointwise [k0_pay6]
  simp only [rms_at, hat_at]
  rfl

theorem gain_at (l : Fin 1024) : k0_pay7 xs x2 xo (ix2 0 l) = (xo (ix2 0 l) + colSum xs x2 l : EReal) := by
  unfold colSum
  pointwise [k0_pay7]
  simp only [hat_at]

end Cases

/-- One term of the gradient of the norm's result, from the memory. -/
def memTerm (i : Fin 8192) (j : Fin 1024) (k : Fin 3072) : EReal := memU m c i k * memW m c j k

/-- The gradient of the norm's result, from the memory. -/
def memDh (i : Fin 8192) (j : Fin 1024) : EReal :=
  dh (m ((c.tc : Thread nD τ).loc main_arg3)) (m ((c.tc : Thread nD τ).loc main_arg2)) i j

theorem block_sum (t : Fin cfg0.N) (r : Fin 512) (l : Fin 1024) :
    dotRow (iblk m c 0 t) (iblk m c 1 t) r l = ∑ a : Fin 1024, memTerm m c (rowOf (t.val / 3) r) l (col (t.val % 3) a) :=
  Finset.sum_congr (M := EReal) rfl fun a _ => by rw [blk0_at, blk1_at, host0, host1]; rfl

/-- The carried sum after a point that is not the last of its run. -/
theorem carried (n : ℕ) (hn : n < cfg0.N) (hl : ¬n % 3 = 2) (r : Fin 512) (l : Fin 1024) :
    (outsAt0 m c n hn).2.2 (ix2 r l) = part (memTerm m c (rowOf (n / 3) r) l) (n % 3) := by
  induction n with
  | zero =>
    rw [outsAt0_A m c ⟨0, hn⟩ rfl rfl hl]
    dsimp only
    rw [start_sum, add_at, zero_at, zero_add, block_sum]
    rfl
  | succ n ih =>
    have hb := bound ⟨n + 1, hn⟩
    dsimp only at hb
    by_cases h0 : (n + 1) % 3 = 0
    · rw [outsAt0_D m c ⟨n + 1, hn⟩ h0 (by dsimp only; omega) hl]
      dsimp only
      rw [next_sum, add_at, zero_at, zero_add, block_sum]
      dsimp only
      rw [h0]
      rfl
    · rw [outsAt0_B m c ⟨n + 1, hn⟩ h0 (by dsimp only; omega) hl]
      dsimp only
      rw [middle_sum, add_at, block_sum]
      have e := ih (by omega) (by omega)
      rw [show n / 3 = (n + 1) / 3 by omega] at e
      have e4 : (n + 1) % 3 = n % 3 + 1 := by omega
      dsimp only
      rw [e4]
      exact congrArg (fun v : EReal => v + _) e

/-- The whole sum, at a run's last point. -/
theorem whole (t : Fin cfg0.N) (hl : t.val % 3 = 2) (r : Fin 512) (l : Fin 1024) :
    k0_pay3 (F := Ideal) (outsAt0 m c (t.val - 1) (Nat.lt_of_le_of_lt (Nat.sub_le _ _) t.isLt)).2.2 (iblk m c 0 t) (iblk m c 1 t) (ix2 r l)
      = memDh m c (rowOf (t.val / 3) r) l := by
  rw [add_at, block_sum, hl]
  have e := carried m c (t.val - 1) (Nat.lt_of_le_of_lt (Nat.sub_le _ _) t.isLt) (by omega) r l
  rw [show (t.val - 1) / 3 = t.val / 3 by omega, show (t.val - 1) % 3 = 1 by omega] at e
  exact (congrArg (fun v : EReal => v + _) e).trans (part_last _)

/-- One entry of the input's gradient, from the memory. -/
def memEntry (i : Fin 8192) (j : Fin 1024) : EReal :=
  entry (m ((c.tc : Thread nD τ).loc main_arg0)) (m ((c.tc : Thread nD τ).loc main_arg1)) (m ((c.tc : Thread nD τ).loc main_arg2))
    (m ((c.tc : Thread nD τ).loc main_arg3)) i j

/-- One row's share of the gain's gradient, from the memory. -/
def memGain (j : Fin 1024) (i : Fin 8192) : EReal :=
  gain (m ((c.tc : Thread nD τ).loc main_arg0)) (m ((c.tc : Thread nD τ).loc main_arg2)) (m ((c.tc : Thread nD τ).loc main_arg3)) j i

theorem line_blk (t : Fin cfg0.N) (r : Fin 512) : line (iblk m c 2 t) r = memX m c (rowOf (t.val / 3) r) := by
  funext k
  exact (blk2_at m c t r k).trans (hostx m c _ k)

theorem written (t : Fin cfg0.N) (hl : t.val % 3 = 2) (r : Fin 512) (l : Fin 1024) :
    (outsAt0 m c t.val t.isLt).1 (ix2 r l) = memEntry m c (rowOf (t.val / 3) r) l := by
  rw [outsAt0_C m c t (by omega) (by omega) hl]
  dsimp only
  rw [last_dx, dx_at, line_blk]
  have e : lineG (k0_pay3 (F := Ideal) (outsAt0 m c (t.val - 1) (Nat.lt_of_le_of_lt (Nat.sub_le _ _) t.isLt)).2.2 (iblk m c 0 t) (iblk m c 1 t)) (iblk m c 3 t) r
      = fun k => memDh m c (rowOf (t.val / 3) r) k * memG m c k := by
    funext k
    unfold lineG
    rw [whole m c t hl, blk3_at, host2]
  rw [e]
  rfl

/-- A block's share of the gain's gradient. -/
theorem col_blk (t : Fin cfg0.N) (hl : t.val % 3 = 2) (l : Fin 1024) :
    colSum (k0_pay3 (F := Ideal) (outsAt0 m c (t.val - 1) (Nat.lt_of_le_of_lt (Nat.sub_le _ _) t.isLt)).2.2 (iblk m c 0 t) (iblk m c 1 t)) (iblk m c 2 t) l
      = ∑ r : Fin 512, memGain m c l (rowOf (t.val / 3) r) :=
  Finset.sum_congr (M := EReal) rfl fun r _ => by rw [whole m c t hl, line_blk, blk2_at, hostx]; rfl

/-- The gain's gradient after a point: the rows of the runs that have ended. -/
theorem sofar (n : ℕ) (hn : n < cfg0.N) (l : Fin 1024) :
    (outsAt0 m c n hn).2.1 (ix2 0 l) = rows (memGain m c l) ((n + 1) / 3) := by
  induction n with
  | zero =>
    rw [outsAt0_A m c ⟨0, hn⟩ rfl rfl (by dsimp only; omega)]
    dsimp only
    rw [start_gain, zeroG_at]
    rfl
  | succ n ih =>
    have hb := bound ⟨n + 1, hn⟩
    dsimp only at hb
    by_cases h1 : (n + 1) % 3 = 2
    · rw [outsAt0_C m c ⟨n + 1, hn⟩ (by dsimp only; omega) (by dsimp only; omega) h1]
      dsimp only
      rw [last_gain, gain_at]
      have e := ih (by omega)
      rw [show (n + 1 + 1) / 3 = (n + 1) / 3 + 1 by omega]
      exact congrArg₂ (fun a b : EReal => a + b) e (col_blk m c ⟨n + 1, hn⟩ h1 l)
    · have e := ih (by omega)
      rw [show (n + 1 + 1) / 3 = (n + 1) / 3 by omega]
      by_cases h0 : (n + 1) % 3 = 0
      · rw [outsAt0_D m c ⟨n + 1, hn⟩ h0 (by dsimp only; omega) h1]
        dsimp only
        unfold out0_D_5
        exact e
      · rw [outsAt0_B m c ⟨n + 1, hn⟩ h0 (by dsimp only; omega) h1]
        dsimp only
        unfold out0_B_5
        exact e

theorem last4 : ∀ t : Fin grid0.N, win0_4.flush t = true → t.val % 3 = 2 := by decide +kernel
theorem last5 : ∀ t : Fin grid0.N, win0_5.flush t = true → t.val = 47 := by decide +kernel

theorem array4_at (i : Fin 8192) (j : Fin 1024) : (dats m 0 c).arrAt 4 cfg0.N (ix2 i j) = memEntry m c i j := by
  refine (dats m 0 c).arrAt_forall_of_covers 4
    (fun y v => ∀ (i : Fin 8192) (j : Fin 1024), y = ix2 i j → v = memEntry m c i j)
    (by decide +kernel) (fun t hf y => ?_) (ix2 i j) (Memref.isWhole_whole _) i j rfl
  intro i j e
  obtain ⟨r, l, rfl⟩ : ∃ (r : Fin 512) (l : Fin 1024), y = ix2 r l := ⟨y 0, y 1, eq_ix2 y⟩
  have e2 : (ix2 (rowOf (t.val / 3) r) l : S8192x1024.Idx) = ix2 i j := (emb4 t r l).symm.trans e
  have e3 : rowOf (t.val / 3) r = i := congrFun e2 0
  have e4 : l = j := congrFun e2 1
  subst e3 e4
  show (dats m 0 c).after 4 t (ix2 r l) = _
  rw [after0_4]
  exact written m c t (last4 t hf) r l

theorem array5_at (i : Fin 1) (j : Fin 1024) : (dats m 0 c).arrAt 5 cfg0.N (ix2 i j) = ∑ k, memGain m c j k := by
  refine (dats m 0 c).arrAt_forall_of_covers 5
    (fun y v => ∀ (i : Fin 1) (j : Fin 1024), y = ix2 i j → v = ∑ k, memGain m c j k)
    (by decide +kernel) (fun t hf y => ?_) (ix2 i j) (Memref.isWhole_whole _) i j rfl
  intro i j e
  obtain ⟨r, l, rfl⟩ : ∃ (r : Fin 1) (l : Fin 1024), y = ix2 r l := ⟨y 0, y 1, eq_ix2 y⟩
  have e2 : (ix2 r l : S1x1024.Idx) = ix2 i j := (emb5 t r l).symm.trans e
  have e4 : l = j := congrFun e2 1
  subst e4
  obtain rfl : r = 0 := Subsingleton.elim _ _
  show (dats m 0 c).after 5 t (ix2 0 l) = _
  rw [after0_5, sofar, last5 t hf]
  exact rows_last _

end Kernel

section Reference

open Cert.Reference12Ideal Cert.Reference12Ideal.Gen

/-- The reference's means of squares. -/
def meanA (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reference's gradient of the norm's result. -/
def dhA (u : FVec Ideal S8192x3072 .f32) (w : FVec Ideal S1024x3072 .f32) : FVec Ideal S8192x1024 .f32 :=
  Host.dotGeneral dot_S8192x3072_S1024x3072_S8192x1024_1_1_0_0_n_n none u w

/-- The same times the gain. -/
def thA (g : FVec Ideal S1024 .f32) (d : FVec Ideal S8192x1024 .f32) : FVec Ideal S8192x1024 .f32 :=
  mulf d (broadcastInDim S8192x1024 ![0, 1] bcast_S1x1024_S8192x1024_0_1 (broadcastInDim S1x1024 ![1] bcast_S1024_S1x1024_1 g))

/-- The reference's share that comes from the factor. -/
def factorA (x t : FVec Ideal S8192x1024 .f32) (v : FVec Ideal S8192x1 .f32) : FVec Ideal S8192 .f32 :=
  Host.reduceAdd (Host.divf (mulf (shapeCast _ (Host.reduceAdd (mulf x t) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt v) v))) (broadcastInDim S8192x1 ![] bcast_S_S8192x1 (constant S_ .f32 0x44800000#32))) (constant S_ .f32 0x00000000#32) reducesTo_S8192x1_S8192_d1 h_S_

/-- The reference's gradient of the input. -/
def dxA (x t : FVec Ideal S8192x1024 .f32) (v : FVec Ideal S8192x1 .f32) (s : FVec Ideal S8192 .f32) : FVec Ideal S8192x1024 .f32 :=
  addf (addf (mulf t (broadcastInDim S8192x1024 ![0, 1] bcast_S8192x1_S8192x1024_0_1 (Host.rsqrt v))) (mulf x (broadcastInDim S8192x1024 ![0] bcast_S8192_S8192x1024_0 s))) (mulf (broadcastInDim S8192x1024 ![0] bcast_S8192_S8192x1024_0 s) x)

/-- The reference's gradient of the gain. -/
def dgA (x d : FVec Ideal S8192x1024 .f32) (v : FVec Ideal S8192x1 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt v))) d) (constant S_ .f32 0x00000000#32) reducesTo_S8192x1024_S1024_d0 h_S_) shapeCasts_S1024_S1x1024) (constant S_ .f32 0x00000000#32) reducesTo_S1x1024_S1024_d0 h_S_)

theorem meanA_at (x : FVec Ideal S8192x1024 .f32) (i : Fin 8192) : meanA x (ix2 i 0) = mean (line x i) := by
  unfold meanA mean line len eps
  pointwise

theorem dhA_at (u : FVec Ideal S8192x3072 .f32) (w : FVec Ideal S1024x3072 .f32) (i : Fin 8192) (j : Fin 1024) : dhA u w (ix2 i j) = dh u w i j := by
  unfold dhA dh
  pointwise

theorem thA_at (g : FVec Ideal S1024 .f32) (d : FVec Ideal S8192x1024 .f32) (i : Fin 8192) (j : Fin 1024) :
    thA g d (ix2 i j) = (d (ix2 i j) * g (ix1 j) : EReal) := by
  unfold thA
  pointwise

theorem factorA_at (x t : FVec Ideal S8192x1024 .f32) (i : Fin 8192) : factorA x t (meanA x) (ix1 i) = factor (line x i) (line t i) := by
  unfold factor rms
  rw [← meanA_at]
  unfold factorA line len mhalf
  pointwise
  exact Fintype.sum_unique (M := EReal) _

theorem dxA_at (x t : FVec Ideal S8192x1024 .f32) (i : Fin 8192) (j : Fin 1024) :
    dxA x t (meanA x) (factorA x t (meanA x)) (ix2 i j) = (apart (line x i) (line t i) j : EReal) := by
  unfold apart rms
  rw [← factorA_at, ← meanA_at]
  unfold dxA line
  pointwise

theorem dgA_at (x d : FVec Ideal S8192x1024 .f32) (i : Fin 1) (j : Fin 1024) :
    dgA x d (meanA x) (ix2 i j) = ∑ k : Fin 8192, (x (ix2 k j) * rms (line x k) : EReal) * d (ix2 k j) := by
  unfold rms
  simp only [← meanA_at]
  unfold dgA
  pointwise
  exact Fintype.sum_unique (M := EReal) _

end Reference

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Gen.dats m 0 c).arrAt 4 Cert.Kernel12Ideal.cfg0.N,
    fun c => (Cert.Kernel12Ideal.Gen.dats m 0 c).arrAt 5 Cert.Kernel12Ideal.cfg0.N, ?_, ?_⟩
  · exact Cert.Kernel12Ideal.Value.run_blocks (F := Ideal) m g
  · refine (θ_run Cert.Reference12Ideal.defs _ _).mono (fun r h c => ?_) (Cert.Reference12Ideal.Value.run (F := Ideal) m' g')
    obtain ⟨e0, e1, e2, e3⟩ := hagree c
    refine ⟨(h c).1.trans ?_, (h c).2.1.trans ?_, (h c).2.2⟩
    · unfold Cert.Reference12Ideal.Value.res_main_v37
      rw [e0, e1, e2, e3]
      funext y
      obtain ⟨i, j, rfl⟩ : ∃ (i : Fin 8192) (j : Fin 1024), y = ix2 i j := ⟨y 0, y 1, eq_ix2 y⟩
      refine (dxA_at _ (thA _ (dhA _ _)) i j).trans (Eq.trans ?_ (array4_at m c i j).symm)
      unfold memEntry entry
      rw [common_eq_apart]
      refine congrArg (fun t => apart _ t j) ?_
      funext k
      refine (thA_at _ _ i k).trans ?_
      rw [dhA_at]
      rfl
    · rw [e0, e2, e3]
      funext y
      obtain ⟨i, j, rfl⟩ : ∃ (i : Fin 1) (j : Fin 1024), y = ix2 i j := ⟨y 0, y 1, eq_ix2 y⟩
      refine (dgA_at _ (dhA _ _) i j).trans (Eq.trans ?_ (array5_at m c i j).symm)
      refine Finset.sum_congr (M := EReal) rfl fun k _ => ?_
      unfold memGain gain
      rw [dhA_at]
      exact mul_comm (_ : EReal) _

end Cert.Proof.NormQkv
-- ==== Proof.Offsets.lean ====
/-
  Where the kernel's four loops go and at which rows they work, in closed form. The first loop makes `i / 4` trips
  of four tiles, the third the `i % 4` tiles that are left; the second and the fourth make none.
-/
module

public import proofs.«01_k».proof.Proof.Gen.KernelIdeal
public import Idealize.ShloMosaic.Lib.Exec

@[expose] public section

noncomputable section

namespace Cert.Proof.Body

open Cert.KernelIdeal
open Idealize.ShloMosaic Idealize.ShloMosaic.TcCoe

/-- The first loop makes a trip for every four whole tiles before the diagonal. -/
theorem trips1 : ∀ i : grid0.Coords, (k0_t1_loop i).trips = (i 1).val / 4 := by decide +kernel

/-- The second loop makes no trip. -/
theorem trips2 : ∀ i : grid0.Coords, (k0_t2_loop i).trips = 0 := by decide +kernel

/-- The third loop makes a trip for every tile that is left. -/
theorem trips3 : ∀ i : grid0.Coords, (k0_t3_loop i).trips = (i 1).val % 4 := by decide +kernel

/-- The fourth loop makes no trip. -/
theorem trips4 : ∀ i : grid0.Coords, (k0_t4_loop i).trips = 0 := by decide +kernel

/-- Trip `k` of the first loop works at tiles `4 k`, `4 k + 1`, `4 k + 2` and `4 k + 3`. -/
theorem off1_eq : ∀ (i : grid0.Coords) (k : Fin (k0_t1_loop i).trips) (r : Fin 4),
    k0_off1 i k (BitVec.ofNat 32 r.val) = ![512 * (4 * k.val + r.val), 0] := by decide +kernel

/-- Trip `k` of the third loop works at tile `4 (i / 4) + k`. -/
theorem off3_eq : ∀ (i : grid0.Coords) (k : Fin (k0_t3_loop i).trips),
    k0_off3 i k = ![512 * (4 * ((i 1).val / 4) + k.val), 0] := by decide +kernel

/-- The diagonal tile is tile `i`. -/
theorem off5_eq : ∀ i : grid0.Coords, k0_off5 i = ![512 * (i 1).val, 0] := by decide +kernel

end Cert.Proof.Body

end
-- ==== Proof.Tile.lean ====
/-
  What one tile of the backward pass does to the three arrays it adds into, as plain functions of vectors: `step` for a tile
  strictly below the diagonal, `diag` for the tile on it, and `row`, the whole of one block of query rows.
-/
module

public import proofs.«01_k».proof.Proof.Gen.KernelIdeal.Skeleton
public import Idealize.ShloMosaic.Lib.VecWindow
public import Idealize.ShloMosaic.Lib.ValueIdxCore

@[expose] public section

noncomputable section

namespace Cert.Proof.Body

open Cert.KernelIdeal Cert.KernelIdeal.Gen
open Idealize.ShloMosaic Idealize.ShloMosaic.ValueIdx

variable {F : FTy → Type} [FloatOps F]

/-- Rows `512 j` to `512 j + 511` of an array of 8192 rows (the row number taken modulo 8192, so that no bound is needed). -/
def slab {α : Type} (x : S8192x128.Idx → α) (j : ℕ) : S512x128.Idx → α :=
  fun y => x (ix2 ⟨(512 * j + (y 0).val) % 8192, Nat.mod_lt _ (by decide)⟩ (y 1))

/-- The array with block `j` of 512 rows replaced. -/
def setSlab {α : Type} (x : S8192x128.Idx → α) (j : ℕ) (w : S512x128.Idx → α) : S8192x128.Idx → α :=
  VecWindow.put x ![512 * j, 0] S512x128.size w

/-- What a block of query rows brings to every tile: the rotated queries, the row sums `delta`, the head's cotangent lanes and the rows' log-sums. -/
structure Rows (F : FTy → Type) where
  q : FVec F S512x128 .bf16
  delta : FVec F S512x128 .f32
  cot : FVec F S512x128 .bf16
  lse : FVec F S512x128 .f32

/-- The three arrays the tiles add into: the keys' gradient, the values' gradient, the queries' gradient of the block. -/
structure St (F : FTy → Type) where
  dk : Vec F S8192x128 .f32
  dv : Vec F S8192x128 .f32
  dq : Vec F S512x128 .f32

/-- A tile strictly below the diagonal. -/
def step (r : Rows F) (K V : Vec F S8192x128 .bf16) (j : ℕ) (s : St F) : St F where
  dk := setSlab s.dk j (k0_pay7 r.q r.delta r.cot r.lse (slab K j) (slab V j) (slab s.dk j))
  dv := setSlab s.dv j (k0_pay9 r.cot (k0_pay4 r.q r.lse (slab K j)) (k0_pay8 (slab s.dv j)))
  dq := k0_pay6 r.q r.delta r.cot r.lse (slab K j) (slab V j) s.dq

/-- Tiles `0` to `n - 1`, in order. -/
def steps (r : Rows F) (K V : Vec F S8192x128 .bf16) (s : St F) : ℕ → St F
  | 0 => s
  | n + 1 => step r K V n (steps r K V s n)

/-- The tile on the diagonal. -/
def diag (r : Rows F) (K V : Vec F S8192x128 .bf16) (j : ℕ) (s : St F) : St F where
  dk := setSlab s.dk j (k0_pay82 r.q r.delta r.cot r.lse (k0_pay78 (slab K j)) (slab V j) (slab s.dk j))
  dv := setSlab s.dv j (k0_pay1 r.cot (k0_pay83 (slab s.dv j)) (k0_pay84 r.q r.lse (k0_pay78 (slab K j))))
  dq := k0_pay81 r.q r.delta r.cot r.lse (k0_pay78 (slab K j)) (slab V j) s.dq

/-! ## Windows as slabs -/

/-- A window of 512 whole rows inside the array is a slab. -/
theorem window_slab {α : Type} (x : S8192x128.Idx → α) (j : ℕ) (hj : j < 16) (inb : ∀ a, ![512 * j, 0] a + S512x128.size a ≤ S8192x128.size a) :
    VecWindow.window x ![512 * j, 0] S512x128.size inb = slab x j := by
  funext y
  refine congrArg x (funext fun a => Fin.ext ?_)
  have h0 : (y 0).val < 512 := (y 0).isLt
  match a with
  | ⟨0, _⟩ =>
    show 512 * j + 1 * (y 0).val = (512 * j + (y 0).val) % 8192
    omega
  | ⟨1, _⟩ =>
    show 0 + 1 * (y 1).val = (y 1).val
    omega

theorem inb_slab (j : ℕ) (hj : j < 16) : ∀ a, ![512 * j, 0] a + S512x128.size a ≤ S8192x128.size a := fun a => by
  match a with
  | ⟨0, _⟩ => show 512 * j + 512 ≤ 8192; omega
  | ⟨1, _⟩ => show 0 + 128 ≤ 128; omega

/-- The slab just replaced is the payload. -/
theorem slab_setSlab_same {α : Type} (x : S8192x128.Idx → α) (j : ℕ) (hj : j < 16) (w : S512x128.Idx → α) : slab (setSlab x j w) j = w := by
  rw [← window_slab _ j hj (inb_slab j hj)]; exact VecWindow.window_put_same _ _ _ _ _

/-- Another slab is what it was. -/
theorem slab_setSlab_ne {α : Type} (x : S8192x128.Idx → α) (j j' : ℕ) (hj' : j' < 16) (h : j ≠ j') (w : S512x128.Idx → α) :
    slab (setSlab x j w) j' = slab x j' := by
  rw [← window_slab _ j' hj' (inb_slab j' hj'), ← window_slab _ j' hj' (inb_slab j' hj')]
  refine VecWindow.window_put_of_disjoint _ _ _ _ _ _ _ 0 ?_
  show 512 * j' + 512 ≤ 512 * j ∨ 512 * j + 512 ≤ 512 * j'
  omega

/-- A second replacement of a slab hides the first. -/
theorem setSlab_setSlab {α : Type} (x : S8192x128.Idx → α) (j : ℕ) (w w' : S512x128.Idx → α) : setSlab (setSlab x j w) j w' = setSlab x j w' :=
  VecWindow.put_put_same _ _ _ _ _

section Views

variable {sig' : RefSig} {κ : Kind} {sp : Space} {e : EltTy} {Val : EltTy → Type}

/-- A load of 512 whole rows reads a slab of what the view reads. -/
theorem readAt_slab (v : View sig' κ sp S8192x128 e) (f : v.ty.Contents Val) {off : Fin 2 → ℕ} (inb : ∀ a, off a + S512x128.size a ≤ S8192x128.size a)
    (j : ℕ) (h : off = ![512 * j, 0]) (hj : j < 16) :
    v.readAt Val (Rect.unit (s := S8192x128) off S512x128.size inb).toLoadRect f = slab (v.read Val f) j := by
  rw [View.readAt_unit v f inb h (inb_slab j hj)]; exact window_slab _ j hj _

/-- A store of 512 whole rows replaces a slab of what the view read. -/
theorem read_writes_slab (v : View sig' κ sp S8192x128 e) (f : v.ty.Contents Val) {off : Fin 2 → ℕ} (inb : ∀ a, off a + S512x128.size a ≤ S8192x128.size a)
    (j : ℕ) (h : off = ![512 * j, 0]) (w : S512x128.Idx → Val e) (L : List (View.Piece Val S8192x128 e)) :
    v.read Val (v.writes Val f ((⟨Rect.unit (s := S8192x128) off S512x128.size inb, w⟩ : View.Piece Val S8192x128 e) :: L)) = setSlab (v.read Val (v.writes Val f L)) j w :=
  View.read_writes_cons_put v f inb w L h

end Views

end Cert.Proof.Body

end
-- ==== Proof.Trips.lean ====
/-
  One trip of each of the two loops that make trips: the three arrays go from `steps n` to `steps (n + 4)` and to `steps (n + 1)`.
-/
module

public import proofs.«01_k».proof.Proof.Offsets
public import proofs.«01_k».proof.Proof.Tile
public import Idealize.ShloMosaic.Lib.Exec
public import Idealize.ShloMosaic.Lib.Pipeline.Kit
public import Idealize.ShloMosaic.Lib.Tactic

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

instance closed3 (i : grid0.Coords) (k : Fin (k0_t3_loop i).trips) : ClosedOff (k0_off3 i k) := ⟨_, off3_eq i k⟩
instance closed5 (i : grid0.Coords) : ClosedOff (k0_off5 i) := ⟨_, off5_eq i⟩
instance closed1_0 (i : grid0.Coords) (k : Fin (k0_t1_loop i).trips) : ClosedOff (k0_off1 i k 0#32) := ⟨![512 * (4 * k.val), 0], off1_eq i k 0⟩
instance closed1_1 (i : grid0.Coords) (k : Fin (k0_t1_loop i).trips) : ClosedOff (k0_off1 i k 1#32) := ⟨![512 * (4 * k.val + 1), 0], off1_eq i k 1⟩
instance closed1_2 (i : grid0.Coords) (k : Fin (k0_t1_loop i).trips) : ClosedOff (k0_off1 i k 2#32) := ⟨![512 * (4 * k.val + 2), 0], off1_eq i k 2⟩
instance closed1_3 (i : grid0.Coords) (k : Fin (k0_t1_loop i).trips) : ClosedOff (k0_off1 i k 3#32) := ⟨![512 * (4 * k.val + 3), 0], off1_eq i k 3⟩

/-- What a tile reads and what it adds into: keys, values, and the three arrays at a state. -/
abbrev held (c : Dev nD) (arg3 arg4 : Memref sig .tc .vmem S8192x128 .bf16) (arg12 arg13 : Memref sig .tc .vmem S8192x128 .f32)
    (arg14 : Memref sig .tc .vmem S512x128 .f32) (K V : Vec F S8192x128 .bf16) (s : St F) : sProp 𝕄 :=
  iprop(owns (c : Thread nD τ) arg3 fullShare K ∗ owns (c : Thread nD τ) arg4 fullShare V ∗ owns (c : Thread nD τ) arg12 fullShare s.dk
    ∗ owns (c : Thread nD τ) arg13 fullShare s.dv ∗ owns (c : Thread nD τ) arg14 fullShare s.dq)

/-- One trip of the third loop: one tile. -/
theorem trip3 (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (r : Rows F) (K V : Vec F S8192x128 .bf16) (s : St F) (k : Fin (k0_t3_loop i).trips) (w1 w2 w3 w4 w5 w6 : BitVec 32) :
    held c arg3 arg4 arg12 arg13 arg14 K V s
      ⊢ wp frame (wpE (defs₀ (F := F)) 𝒱 (c : Thread nD τ) none) Set.univ
          (k0_t3_body i arg2 harg2 arg3 harg3 arg4 harg4 arg5 harg5 arg6 harg6 arg7 harg7 arg8 harg8 arg9 harg9 arg10 harg10 arg11 harg11
            arg12 harg12 arg13 harg13 arg14 harg14 w1 r.q r.delta r.cot r.lse w2 w3 w4 w5 w6 k ())
          (fun _ => held c arg3 arg4 arg12 arg13 arg14 K V (step r K V (4 * ((i 1).val / 4) + k.val) s)) := by
  have hj : 4 * ((i 1).val / 4) + k.val < 16 := by
    have h1 := lt_of_lt_of_eq k.isLt (trips3 i); have := (i 1).isLt; have h16 : (i 1).val < 16 := this; omega
  unfold k0_t3_body
  simp only [k0_part9_eq_skeleton]; unfold k0_part9_skel
  unfold held owns
  iintro ⟨⟨%f3, %h3, H3⟩, ⟨%f4, %h4, H4⟩, ⟨%f12, %h12, H12⟩, ⟨%f13, %h13, H13⟩, ⟨%f14, %h14, H14⟩⟩
  sl_exec
  sl_step
  isplitl [H3]
  · iexists f3; isplitr; · ipureintro; exact h3
    iexact H3
  isplitl [H4]
  · iexists f4; isplitr; · ipureintro; exact h4
    iexact H4
  isplitl [H12]
  · iexists _; isplitr; swap; · iexact H12
    ipureintro
    refine (read_writes_slab _ _ _ _ (off3_eq i k) _ _).trans ?_
    rw [View.writes_nil, readAt_slab _ _ _ _ (off3_eq i k) hj, readAt_slab _ _ _ _ (off3_eq i k) hj, readAt_slab _ _ _ _ (off3_eq i k) hj, h3, h4, h12]
    rfl
  isplitl [H13]
  · iexists _; isplitr; swap; · iexact H13
    ipureintro
    refine (read_writes_slab _ _ _ _ (off3_eq i k) _ _).trans ?_
    dsimp only
    rw [View.writes_nil, readAt_slab _ _ _ _ (off3_eq i k) hj, readAt_slab _ _ _ _ (off3_eq i k) hj, h3, h13]
    rfl
  · iexists _; isplitr; swap; · iexact H14
    ipureintro
    refine (View.read_writes_full _ _ _ _ _).trans ?_
    rw [readAt_slab _ _ _ _ (off3_eq i k) hj, readAt_slab _ _ _ _ (off3_eq i k) hj, View.readAt_full, h3, h4, h14]
    rfl

/-- One trip of the first loop: four tiles. -/
theorem trip1 (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (r : Rows F) (K V : Vec F S8192x128 .bf16) (s : St F) (k : Fin (k0_t1_loop i).trips) (w1 w2 w3 w4 w5 : BitVec 32) :
    held c arg3 arg4 arg12 arg13 arg14 K V s
      ⊢ wp frame (wpE (defs₀ (F := F)) 𝒱 (c : Thread nD τ) none) Set.univ
          (k0_t1_body i arg2 harg2 arg3 harg3 arg4 harg4 arg5 harg5 arg6 harg6 arg7 harg7 arg8 harg8 arg9 harg9 arg10 harg10 arg11 harg11
            arg12 harg12 arg13 harg13 arg14 harg14 w1 r.q r.delta r.cot r.lse w2 w3 w4 w5 k ())
          (fun _ => held c arg3 arg4 arg12 arg13 arg14 K V (step r K V (4 * k.val + 3) (step r K V (4 * k.val + 2) (step r K V (4 * k.val + 1) (step r K V (4 * k.val) s))))) := by
  have hj : 4 * k.val + 3 < 16 := by
    have h1 := lt_of_lt_of_eq k.isLt (trips1 i); have := (i 1).isLt; have h16 : (i 1).val < 16 := this; omega
  unfold k0_t1_body
  simp only [k0_part1_eq_skeleton, k0_part2_eq_skeleton, k0_part3_eq_skeleton, k0_part4_eq_skeleton]
  unfold k0_part1_skel k0_part2_skel k0_part3_skel k0_part4_skel
  unfold held owns
  iintro ⟨⟨%f3, %h3, H3⟩, ⟨%f4, %h4, H4⟩, ⟨%f12, %h12, H12⟩, ⟨%f13, %h13, H13⟩, ⟨%f14, %h14, H14⟩⟩
  sl_exec
  sl_step
  have e0 : k0_off1 i k 0#32 = ![512 * (4 * k.val), 0] := off1_eq i k 0
  have e1 : k0_off1 i k 1#32 = ![512 * (4 * k.val + 1), 0] := off1_eq i k 1
  have e2 : k0_off1 i k 2#32 = ![512 * (4 * k.val + 2), 0] := off1_eq i k 2
  have e3 : k0_off1 i k 3#32 = ![512 * (4 * k.val + 3), 0] := off1_eq i k 3
  have l0 : 4 * k.val < 16 := by omega
  have l1 : 4 * k.val + 1 < 16 := by omega
  have l2 : 4 * k.val + 2 < 16 := by omega
  isplitl [H3]
  · iexists f3; isplitr; · ipureintro; exact h3
    iexact H3
  isplitl [H4]
  · iexists f4; isplitr; · ipureintro; exact h4
    iexact H4
  isplitl [H12]
  · iexists _; isplitr; swap; · iexact H12
    ipureintro
    refine (read_writes_slab _ _ _ _ e3 _ _).trans ?_
    rw [read_writes_slab _ _ _ _ e2, read_writes_slab _ _ _ _ e1, read_writes_slab _ _ _ _ e0]
    dsimp only [trip1.sl.v239, trip1.sl.v283, trip1.sl.v327]
    simp only [readAt_slab _ _ _ _ e0 l0, readAt_slab _ _ _ _ e1 l1, readAt_slab _ _ _ _ e2 l2, readAt_slab _ _ _ _ e3 hj, View.writes_nil, h3, h4, h12]
    simp only [step, slab_setSlab_ne _ _ _ l1 (show 4 * k.val ≠ 4 * k.val + 1 by omega), slab_setSlab_ne _ _ _ l2 (show 4 * k.val ≠ 4 * k.val + 2 by omega),
      slab_setSlab_ne _ _ _ l2 (show 4 * k.val + 1 ≠ 4 * k.val + 2 by omega), slab_setSlab_ne _ _ _ hj (show 4 * k.val ≠ 4 * k.val + 3 by omega),
      slab_setSlab_ne _ _ _ hj (show 4 * k.val + 1 ≠ 4 * k.val + 3 by omega), slab_setSlab_ne _ _ _ hj (show 4 * k.val + 2 ≠ 4 * k.val + 3 by omega)]
    rfl
  isplitl [H13]
  · iexists _; isplitr; swap; · iexact H13
    ipureintro
    refine (read_writes_slab _ _ _ _ e3 _ _).trans ?_
    rw [read_writes_slab _ _ _ _ e2, read_writes_slab _ _ _ _ e1, read_writes_slab _ _ _ _ e0]
    dsimp only [trip1.sl.v290, trip1.sl.v246, trip1.sl.v334]
    simp only [readAt_slab _ _ _ _ e0 l0, readAt_slab _ _ _ _ e1 l1, readAt_slab _ _ _ _ e2 l2, readAt_slab _ _ _ _ e3 hj, View.writes_nil, h3, h4, h13]
    simp only [step, slab_setSlab_ne _ _ _ l1 (show 4 * k.val ≠ 4 * k.val + 1 by omega), slab_setSlab_ne _ _ _ l2 (show 4 * k.val ≠ 4 * k.val + 2 by omega),
      slab_setSlab_ne _ _ _ l2 (show 4 * k.val + 1 ≠ 4 * k.val + 2 by omega), slab_setSlab_ne _ _ _ hj (show 4 * k.val ≠ 4 * k.val + 3 by omega),
      slab_setSlab_ne _ _ _ hj (show 4 * k.val + 1 ≠ 4 * k.val + 3 by omega), slab_setSlab_ne _ _ _ hj (show 4 * k.val + 2 ≠ 4 * k.val + 3 by omega)]
    rfl
  · iexists _; isplitr; swap; · iexact H14
    ipureintro
    refine (View.read_writes_full _ _ _ _ _).trans ?_
    dsimp only [trip1.sl.v320, trip1.sl.H14_3, trip1.sl.H14_2, trip1.sl.H14_1]
    rw [View.readCov_full]
    dsimp only [trip1.sl.H14_2, trip1.sl.v276]
    rw [View.readCov_full]
    dsimp only [trip1.sl.H14_1, trip1.sl.v232]
    rw [View.readCov_full]
    simp only [readAt_slab _ _ _ _ e0 l0, readAt_slab _ _ _ _ e1 l1, readAt_slab _ _ _ _ e2 l2, readAt_slab _ _ _ _ e3 hj, View.writes_nil, h3, h4]
    have r14 : arg14.view.readAt (Elt F) (Rect.unit (s := S512x128) ![0, 0] ![512, 128] inb_S512x128_S512x128_0_0).toLoadRect f14 = s.dq :=
      (View.readAt_full arg14.view f14 inb_S512x128_S512x128_0_0).trans h14
    rw [r14]
    rfl

end Cert.Proof.Body

end
-- ==== Proof.Loop.lean ====
/-
  The part of the body that holds the loops: the three arrays go from a state to the state after every tile before the diagonal.
-/
module

public import proofs.«01_k».proof.Proof.Trips

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A counted loop at the head of a program: the rest runs from the invariant at the trip count. -/
theorem loop_then {c : Dev nD} {𝒱 : Variants} (lp : Scf.Loop 32) (hok : lp.OK) (body : Fin lp.trips → Unit → Prog (TpuEff nD τ sig (Elt F) Λ₀ .tc) Unit)
    (I : ℕ → sProp 𝕄)
    (hstep : ∀ k : Fin lp.trips, I k.val ⊢ wp frame (wpE (defs₀ (F := F)) 𝒱 (c : Thread nD τ) none) Set.univ (body k ()) (fun _ => I (k.val + 1)))
    {α : Type} {kk : Unit → Prog (TpuEff nD τ sig (Elt F) Λ₀ .tc) α} {Q : α → sProp 𝕄}
    (h : I lp.trips ⊢ wp frame (wpE (defs₀ (F := F)) 𝒱 (c : Thread nD τ) none) Set.univ (kk ()) Q) :
    I 0 ⊢ wp frame (wpE (defs₀ (F := F)) 𝒱 (c : Thread nD τ) none) Set.univ (Scf.Loop.for lp hok () body >>= kk) Q := by
  have h' := Scf.wp_for_bind frame (wpE (defs₀ (F := F)) 𝒱 (c : Thread nD τ) none) Set.univ lp.lb lp.ub lp.st hok () body (fun n _ => I n)
    (fun k _ => hstep k) (kk := kk) (Q := Q)
  iintro HI
  iapply h' $$ [HI]
  · iexact HI
  iintro %acc H
  iapply h
  iexact H

/-- The loops: from a state to the state after the tiles `0` to `i - 1`, and the keys' block on the diagonal. -/
theorem loops (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (r : Rows F) (K V : Vec F S8192x128 .bf16) (s : St F) (w1 w2 w3 w4 w5 : BitVec 32) :
    held c arg3 arg4 arg12 arg13 arg14 K V s
      ⊢ wp frame (wpE (defs₀ (F := F)) 𝒱 (c : Thread nD τ) none) Set.univ
          (k0_part13 i arg2 harg2 arg3 harg3 arg4 harg4 arg5 harg5 arg6 harg6 arg7 harg7 arg8 harg8 arg9 harg9 arg10 harg10 arg11 harg11
            arg12 harg12 arg13 harg13 arg14 harg14 w1 r.q r.delta r.cot r.lse w2 w3 w4 w5)
          (fun p => iprop(⌜p.2 = k0_pay78 (slab K (i 1).val)⌝ ∗ held c arg3 arg4 arg12 arg13 arg14 K V (steps r K V s (i 1).val))) := by
  have hi : (i 1).val < 16 := (i 1).isLt
  rw [k0_part13_eq_skeleton]; unfold k0_part13_skel
  refine (show held c arg3 arg4 arg12 arg13 arg14 K V s ⊢ held c arg3 arg4 arg12 arg13 arg14 K V (steps r K V s (4 * 0)) from .rfl).trans ?_
  refine loop_then _ _ _ (fun n => held c arg3 arg4 arg12 arg13 arg14 K V (steps r K V s (4 * n))) (fun k => ?_) ?_
  · exact trip1 c 𝒱 i arg2 harg2 arg3 harg3 arg4 harg4 arg5 harg5 arg6 harg6 arg7 harg7 arg8 harg8 arg9 harg9 arg10 harg10 arg11 harg11
            arg12 harg12 arg13 harg13 arg14 harg14 r K V (steps r K V s (4 * k.val)) k w1 w2 w3 w4 w5
  refine (show held c arg3 arg4 arg12 arg13 arg14 K V (steps r K V s (4 * (k0_t1_loop i).trips))
    ⊢ held c arg3 arg4 arg12 arg13 arg14 K V (steps r K V s (4 * ((i 1).val / 4))) by rw [trips1 i]).trans ?_
  refine loop_then _ _ _ (fun n => held c arg3 arg4 arg12 arg13 arg14 K V (steps r K V s (4 * ((i 1).val / 4)))) (fun k => ?_) ?_
  · exact absurd (lt_of_lt_of_eq k.isLt (trips2 i)) (Nat.not_lt_zero _)
  refine loop_then _ _ _ (fun n => held c arg3 arg4 arg12 arg13 arg14 K V (steps r K V s (4 * ((i 1).val / 4) + n))) (fun k => ?_) ?_
  · exact trip3 c 𝒱 i arg2 harg2 arg3 harg3 arg4 harg4 arg5 harg5 arg6 harg6 arg7 harg7 arg8 harg8 arg9 harg9 arg10 harg10 arg11 harg11
            arg12 harg12 arg13 harg13 arg14 harg14 r K V (steps r K V s (4 * ((i 1).val / 4) + k.val)) k w1 w2 w3 w4 w5 _
  refine (show held c arg3 arg4 arg12 arg13 arg14 K V (steps r K V s (4 * ((i 1).val / 4) + (k0_t3_loop i).trips))
    ⊢ held c arg3 arg4 arg12 arg13 arg14 K V (steps r K V s (i 1).val) by
      rw [trips3 i, show 4 * ((i 1).val / 4) + (i 1).val % 4 = (i 1).val by omega]).trans ?_
  refine loop_then _ _ _ (fun n => held c arg3 arg4 arg12 arg13 arg14 K V (steps r K V s (i 1).val)) (fun k => ?_) ?_
  · exact absurd (lt_of_lt_of_eq k.isLt (trips4 i)) (Nat.not_lt_zero _)
  unfold held owns
  iintro ⟨⟨%f3, %h3, H3⟩, Hr⟩
  sl_exec
  sl_step
  isplitr
  · ipureintro
    rw [← h3]
    exact congrArg k0_pay78 (readAt_slab _ _ _ _ (off5_eq i) hi)
  isplitl [H3]
  · iexists f3; isplitr; · ipureintro; exact h3
    iexact H3
  iexact Hr

end Cert.Proof.Body

end
-- ==== Proof.Body.lean ====
/-
  The kernel's body at one grid point, as a function of what it reads: `rowsOf`, `entry`, `point`; and its run.
-/
module

public import proofs.«01_k».proof.Proof.Loop

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first lane of the pair that belongs to the point's head: 0 or 64. -/
def laneStart (i : grid0.Coords) : BitVec 32 :=
  let arg0 : BitVec 32 := BitVec.ofNat 32 (i 0).val
  let v20 : BitVec 1 := Scalar.cmpi .eq 2#32 0#32
  let v21 : BitVec 32 := Scalar.select v20 1#32 2#32
  let v22 : BitVec 32 := Scalar.remsi arg0 v21
  let v23 : BitVec 1 := Scalar.cmpi .ne v22 0#32
  let v24 : BitVec 1 := Scalar.cmpi .slt v22 0#32
  let v25 : BitVec 1 := Scalar.cmpi .slt v21 0#32
  let v26 : BitVec 1 := Scalar.xori v24 v25
  let v27 : BitVec 1 := Scalar.andi v26 v23
  let v28 : BitVec 32 := Scalar.addi v22 v21
  let v29 : BitVec 32 := Scalar.select v27 v28 v22
  Scalar.muli v29 64#32

/-- What the point's block of rows brings to the tiles, from its blocks of the operands. -/
def rowsOf (i : grid0.Coords) (q cT aT bT o : Vec F S512x128 .f32) (l : Vec F S1x512x1 .f32) (g : Vec F S512x128 .f32) : Rows F where
  q := k0_pay66 cT aT bT q
  delta := k0_pay68 (k0_pay67 i) g o
  cot := k0_pay69 (iota .tc S512x128 32 [1] iota_S512x128_d1_w32) (laneStart i) g
  lse := k0_pay70 l

/-- The three arrays as the tiles find them: at a head's first block the gradients of keys and values are zeroed. -/
def entry (i : grid0.Coords) (X Y : Vec F S8192x128 .f32) : St F where
  dk := if (i 1).val = 0 then k0_pay64 else X
  dv := if (i 1).val = 0 then k0_pay65 else Y
  dq := k0_pay71

/-- The three arrays after the point's tiles. -/
def point (i : grid0.Coords) (r : Rows F) (K V : Vec F S8192x128 .bf16) (X Y : Vec F S8192x128 .f32) : St F :=
  diag r K V (i 1).val (steps r K V (entry i X Y) (i 1).val)

/-- The queries' gradient the point writes: the accumulator rotated back. -/
def dqOut (cT aT bT acc : Vec F S512x128 .f32) : Vec F S512x128 .f32 := k0_pay2 (k0_pay61 cT) (k0_pay62 aT) (k0_pay63 bT) acc

theorem first_iff : ∀ i : grid0.Coords,
    (Scalar.cmpi .ne (Scalar.extui (Scalar.cmpi .eq (BitVec.ofNat 32 (i 1).val) 0#32) : BitVec 32) 0#32 = 1#1) ↔ (i 1).val = 0 := by decide +kernel

/-- The first part of the body: the tables and the queries are read and rotated; at a head's first block the two gradients are zeroed. -/
theorem part11_run (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (q cT aT bT : Vec F S512x128 .f32) (X Y : Vec F S8192x128 .f32) :
    (iprop(owns (c : Thread nD τ) arg2 fullShare q ∗ owns (c : Thread nD τ) arg5 fullShare cT ∗ owns (c : Thread nD τ) arg6 fullShare aT ∗ owns (c : Thread nD τ) arg7 fullShare bT ∗ owns (c : Thread nD τ) arg12 fullShare X ∗ owns (c : Thread nD τ) arg13 fullShare Y) : sProp 𝕄)
      ⊢ wp frame (wpE (defs₀ (F := F)) 𝒱 (c : Thread nD τ) none) Set.univ (k0_part11 i arg2 harg2 arg3 harg3 arg4 harg4 arg5 harg5 arg6 harg6 arg7 harg7 arg8 harg8 arg9 harg9 arg10 harg10 arg11 harg11
            arg12 harg12 arg13 harg13 arg14 harg14)
          (fun p => iprop(⌜p = ⟨BitVec.ofNat 32 (i 1).val, k0_pay61 cT, k0_pay62 aT, k0_pay63 bT, k0_pay66 cT aT bT q,
              iota .tc S512x128 32 [1] iota_S512x128_d1_w32, laneStart i, k0_pay67 i⟩⌝
            ∗ owns (c : Thread nD τ) arg2 fullShare q ∗ owns (c : Thread nD τ) arg5 fullShare cT ∗ owns (c : Thread nD τ) arg6 fullShare aT ∗ owns (c : Thread nD τ) arg7 fullShare bT ∗ owns (c : Thread nD τ) arg12 fullShare (if (i 1).val = 0 then k0_pay64 else X) ∗ owns (c : Thread nD τ) arg13 fullShare (if (i 1).val = 0 then k0_pay65 else Y))) := by
  rw [k0_part11_eq_skeleton]; unfold k0_part11_skel
  by_cases h0 : (i 1).val = 0
  · have hc := (first_iff i).mpr h0
    simp only [if_pos h0]
    unfold owns
    iintro ⟨⟨%f2, %h2, H2⟩, ⟨%f5, %h5, H5⟩, ⟨%f6, %h6, H6⟩, ⟨%f7, %h7, H7⟩, ⟨%f12, %h12, H12⟩, ⟨%f13, %h13, H13⟩⟩
    sl_exec
    sl_step
    isplitr
    · ipureintro
      rw [← h2, ← h5, ← h6, ← h7, ← View.readAt_full _ f2 inb_S512x128_S512x128_0_0, ← View.readAt_full _ f5 inb_S512x128_S512x128_0_0,
        ← View.readAt_full _ f6 inb_S512x128_S512x128_0_0, ← View.readAt_full _ f7 inb_S512x128_S512x128_0_0]
      rfl
    isplitl [H2]
    · iexists f2; isplitr; · ipureintro; exact h2
      iexact H2
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H12]
    · iexists _; isplitr; swap; · iexact H12
      ipureintro; exact View.read_writes_full _ _ _ _ _
    · iexists _; isplitr; swap; · iexact H13
      ipureintro; exact View.read_writes_full _ _ _ _ _
  · have hc : ¬ _ := fun h => h0 ((first_iff i).mp h)
    simp only [if_neg h0]
    unfold owns
    iintro ⟨⟨%f2, %h2, H2⟩, ⟨%f5, %h5, H5⟩, ⟨%f6, %h6, H6⟩, ⟨%f7, %h7, H7⟩, ⟨%f12, %h12, H12⟩, ⟨%f13, %h13, H13⟩⟩
    sl_exec
    sl_step
    isplitr
    · ipureintro
      rw [← h2, ← h5, ← h6, ← h7, ← View.readAt_full _ f2 inb_S512x128_S512x128_0_0, ← View.readAt_full _ f5 inb_S512x128_S512x128_0_0,
        ← View.readAt_full _ f6 inb_S512x128_S512x128_0_0, ← View.readAt_full _ f7 inb_S512x128_S512x128_0_0]
      rfl
    isplitl [H2]
    · iexists f2; isplitr; · ipureintro; exact h2
      iexact H2
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H12]
    · iexists f12; isplitr; · ipureintro; exact h12
      iexact H12
    iexists f13; isplitr; · ipureintro; exact h13
    iexact H13

/-- The second part: the row sums, the head's cotangent lanes, the rows' log-sums; the block's accumulator is zeroed. -/
theorem part12_run (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (o g : Vec F S512x128 .f32) (l : Vec F S1x512x1 .f32) (A : Vec F S512x128 .f32) (w : BitVec 32) (v19 : IVec S512x128 32) (v30 : BitVec 32)
    (v36 : IVec S512x128 1) :
    (iprop(owns (c : Thread nD τ) arg8 fullShare o ∗ owns (c : Thread nD τ) arg9 fullShare l ∗ owns (c : Thread nD τ) arg10 fullShare g ∗ owns (c : Thread nD τ) arg14 fullShare A) : sProp 𝕄)
      ⊢ wp frame (wpE (defs₀ (F := F)) 𝒱 (c : Thread nD τ) none) Set.univ (k0_part12 i arg2 harg2 arg3 harg3 arg4 harg4 arg5 harg5 arg6 harg6 arg7 harg7 arg8 harg8 arg9 harg9 arg10 harg10 arg11 harg11
            arg12 harg12 arg13 harg13 arg14 harg14 w v19 v30 v36)
          (fun p => iprop(⌜p.1 = k0_pay68 v36 g o ∧ p.2.1 = k0_pay69 v19 v30 g ∧ p.2.2.1 = k0_pay70 l⌝
            ∗ owns (c : Thread nD τ) arg8 fullShare o ∗ owns (c : Thread nD τ) arg9 fullShare l ∗ owns (c : Thread nD τ) arg10 fullShare g ∗ owns (c : Thread nD τ) arg14 fullShare k0_pay71)) := by
  rw [k0_part12_eq_skeleton]; unfold k0_part12_skel
  unfold owns
  iintro ⟨⟨%f8, %h8, H8⟩, ⟨%f9, %h9, H9⟩, ⟨%f10, %h10, H10⟩, ⟨%f14, %h14, H14⟩⟩
  sl_exec
  sl_step
  isplitr
  · ipureintro
    rw [← h8, ← h9, ← h10, ← View.readAt_full _ f8 inb_S512x128_S512x128_0_0, ← View.readAt_full _ f9 inb_S1x512x1_S1x512x1_0_0_0,
      ← View.readAt_full _ f10 inb_S512x128_S512x128_0_0]
    exact ⟨rfl, rfl, rfl⟩
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  iexists _; isplitr; swap; · iexact H14
  ipureintro; exact View.read_writes_full _ _ _ _ _

/-- The tile on the diagonal, up to the store of the values' gradient. -/
theorem part14_run (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (r : Rows F) (K V : Vec F S8192x128 .bf16) (s : St F) (w : BitVec 32) :
    (iprop(owns (c : Thread nD τ) arg4 fullShare V ∗ owns (c : Thread nD τ) arg12 fullShare s.dk ∗ owns (c : Thread nD τ) arg13 fullShare s.dv ∗ owns (c : Thread nD τ) arg14 fullShare s.dq) : sProp 𝕄)
      ⊢ wp frame (wpE (defs₀ (F := F)) 𝒱 (c : Thread nD τ) none) Set.univ (k0_part14 i arg2 harg2 arg3 harg3 arg4 harg4 arg5 harg5 arg6 harg6 arg7 harg7 arg8 harg8 arg9 harg9 arg10 harg10 arg11 harg11
            arg12 harg12 arg13 harg13 arg14 harg14
            r.q r.delta r.cot r.lse w (k0_pay78 (slab K (i 1).val)))
          (fun p => iprop(⌜p = ⟨k0_pay83 (slab s.dv (i 1).val), k0_pay84 r.q r.lse (k0_pay78 (slab K (i 1).val))⟩⌝
            ∗ owns (c : Thread nD τ) arg4 fullShare V ∗ owns (c : Thread nD τ) arg12 fullShare (diag r K V (i 1).val s).dk ∗ owns (c : Thread nD τ) arg13 fullShare s.dv ∗ owns (c : Thread nD τ) arg14 fullShare (diag r K V (i 1).val s).dq)) := by
  have hi : (i 1).val < 16 := (i 1).isLt
  rw [k0_part14_eq_skeleton]; unfold k0_part14_skel
  unfold owns
  iintro ⟨⟨%f4, %h4, H4⟩, ⟨%f12, %h12, H12⟩, ⟨%f13, %h13, H13⟩, ⟨%f14, %h14, H14⟩⟩
  sl_exec
  sl_step
  have r4 := (readAt_slab arg4.view f4 (k0_off5_inb i) _ (off5_eq i) hi).trans (congrArg (slab · _) h4)
  have r12 := (readAt_slab arg12.view f12 (k0_off5_inb i) _ (off5_eq i) hi).trans (congrArg (slab · _) h12)
  have r13 := (readAt_slab arg13.view f13 (k0_off5_inb i) _ (off5_eq i) hi).trans (congrArg (slab · _) h13)
  have r14 := (View.readAt_full arg14.view f14 inb_S512x128_S512x128_0_0).trans h14
  isplitr
  · ipureintro
    rw [← r13]
  isplitl [H4]
  · iexists f4; isplitr; · ipureintro; exact h4
    iexact H4
  isplitl [H12]
  · iexists _; isplitr; swap; · iexact H12
    ipureintro
    refine (read_writes_slab _ _ _ _ (off5_eq i) _ _).trans ?_
    rw [View.writes_nil, h12]
    refine congrArg (setSlab s.dk (i 1).val) ?_
    rw [← r4, ← r12]
  isplitl [H13]
  · iexists f13; isplitr; · ipureintro; exact h13
    iexact H13
  iexists _; isplitr; swap; · iexact H14
  ipureintro
  refine (View.read_writes_full _ _ _ _ _).trans ?_
  show _ = k0_pay81 r.q r.delta r.cot r.lse (k0_pay78 (slab K (i 1).val)) (slab V (i 1).val) s.dq
  rw [← r4, ← r14]

/-- The body at a point, run once. -/
theorem body_run (c : Dev nD) (𝒱 : Variants) (i : grid0.Coords)
    (arg2 : Memref sig .tc .vmem S512x128 .f32) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S8192x128 .f32) (harg12 : arg12.IsWhole) (arg13 : Memref sig .tc .vmem S8192x128 .f32) (harg13 : arg13.IsWhole)
    (arg14 : Memref sig .tc .vmem S512x128 .f32) (harg14 : arg14.IsWhole)
    (q cT aT bT o : Vec F S512x128 .f32) (l : Vec F S1x512x1 .f32) (g : Vec F S512x128 .f32) (K V : Vec F S8192x128 .bf16)
    (D : Vec F S512x128 .f32) (X Y : Vec F S8192x128 .f32) (A : Vec F S512x128 .f32) :
    (iprop(owns (c : Thread nD τ) arg2 fullShare q ∗ owns (c : Thread nD τ) arg3 fullShare K ∗ owns (c : Thread nD τ) arg4 fullShare V
        ∗ owns (c : Thread nD τ) arg5 fullShare cT ∗ owns (c : Thread nD τ) arg6 fullShare aT ∗ owns (c : Thread nD τ) arg7 fullShare bT
        ∗ owns (c : Thread nD τ) arg8 fullShare o ∗ owns (c : Thread nD τ) arg9 fullShare l ∗ owns (c : Thread nD τ) arg10 fullShare g
        ∗ owns (c : Thread nD τ) arg11 fullShare D ∗ owns (c : Thread nD τ) arg12 fullShare X ∗ owns (c : Thread nD τ) arg13 fullShare Y
        ∗ owns (c : Thread nD τ) arg14 fullShare A) : sProp 𝕄)
      ⊢ wp frame (wpE (defs₀ (F := F)) 𝒱 (c : Thread nD τ) none) Set.univ
          (cc0_mla_attn_bwd i arg2 harg2 arg3 harg3 arg4 harg4 arg5 harg5 arg6 harg6 arg7 harg7 arg8 harg8 arg9 harg9 arg10 harg10 arg11 harg11
            arg12 harg12 arg13 harg13 arg14 harg14)
          (fun _ => iprop(owns (c : Thread nD τ) arg2 fullShare q ∗ owns (c : Thread nD τ) arg3 fullShare K ∗ owns (c : Thread nD τ) arg4 fullShare V
            ∗ owns (c : Thread nD τ) arg5 fullShare cT ∗ owns (c : Thread nD τ) arg6 fullShare aT ∗ owns (c : Thread nD τ) arg7 fullShare bT
            ∗ owns (c : Thread nD τ) arg8 fullShare o ∗ owns (c : Thread nD τ) arg9 fullShare l ∗ owns (c : Thread nD τ) arg10 fullShare g
            ∗ owns (c : Thread nD τ) arg11 fullShare (dqOut cT aT bT (point i (rowsOf i q cT aT bT o l g) K V X Y).dq)
            ∗ owns (c : Thread nD τ) arg12 fullShare (point i (rowsOf i q cT aT bT o l g) K V X Y).dk
            ∗ owns (c : Thread nD τ) arg13 fullShare (point i (rowsOf i q cT aT bT o l g) K V X Y).dv
            ∗ (∃ d, owns (c : Thread nD τ) arg14 fullShare d))) := by
  have hi : (i 1).val < 16 := (i 1).isLt
  rw [cc0_mla_attn_bwd_eq_skeleton]; unfold cc0_mla_attn_bwd_skel
  iintro ⟨H2, H3, H4, H5, H6, H7, H8, H9, H10, H11, H12, H13, H14⟩
  rw [wp_bind]
  iapply (wp_wand_r frame _ Set.univ)
  isplitl [H2 H5 H6 H7 H12 H13]
  · iapply (part11_run c 𝒱 i arg2 harg2 arg3 harg3 arg4 harg4 arg5 harg5 arg6 harg6 arg7 harg7 arg8 harg8 arg9 harg9 arg10 harg10 arg11 harg11
            arg12 harg12 arg13 harg13 arg14 harg14 q cT aT bT X Y)
    isplitl [H2]; · iexact H2
    isplitl [H5]; · iexact H5
    isplitl [H6]; · iexact H6
    isplitl [H7]; · iexact H7
    isplitl [H12]; · iexact H12
    iexact H13
  iintro %p ⟨%hp, H2, H5, H6, H7, H12, H13⟩
  subst hp
  dsimp only
  rw [wp_bind]
  iapply (wp_wand_r frame _ Set.univ)
  isplitl [H8 H9 H10 H14]
  · iapply (part12_run c 𝒱 i arg2 harg2 arg3 harg3 arg4 harg4 arg5 harg5 arg6 harg6 arg7 harg7 arg8 harg8 arg9 harg9 arg10 harg10 arg11 harg11
            arg12 harg12 arg13 harg13 arg14 harg14 o g l A _ _ _ _)
    isplitl [H8]; · iexact H8
    isplitl [H9]; · iexact H9
    isplitl [H10]; · iexact H10
    iexact H14
  iintro %p ⟨%hp, H8, H9, H10, H14⟩
  obtain ⟨p1, p2, p3, w2, w3, w4, w5⟩ := p
  obtain ⟨e1, e2, e3⟩ := hp
  dsimp only at e1 e2 e3
  subst e1 e2 e3
  dsimp only
  rw [wp_bind]
  iapply (wp_wand_r frame _ Set.univ)
  isplitl [H3 H4 H12 H13 H14]
  · iapply (loops c 𝒱 i arg2 harg2 arg3 harg3 arg4 harg4 arg5 harg5 arg6 harg6 arg7 harg7 arg8 harg8 arg9 harg9 arg10 harg10 arg11 harg11
            arg12 harg12 arg13 harg13 arg14 harg14 (rowsOf i q cT aT bT o l g) K V (entry i X Y) _ _ _ _ _)
    unfold held
    isplitl [H3]; · iexact H3
    isplitl [H4]; · iexact H4
    isplitl [H12]; · iexact H12
    isplitl [H13]; · iexact H13
    iexact H14
  unfold held
  iintro %p ⟨%hp, H3, H4, H12, H13, H14⟩
  obtain ⟨w6, v109⟩ := p
  dsimp only at hp
  subst hp
  dsimp only
  rw [wp_bind]
  iapply (wp_wand_r frame _ Set.univ)
  isplitl [H4 H12 H13 H14]
  · iapply (part14_run c 𝒱 i arg2 harg2 arg3 harg3 arg4 harg4 arg5 harg5 arg6 harg6 arg7 harg7 arg8 harg8 arg9 harg9 arg10 harg10 arg11 harg11
            arg12 harg12 arg13 harg13 arg14 harg14 (rowsOf i q cT aT bT o l g) K V (steps (rowsOf i q cT aT bT o l g) K V (entry i X Y) (i 1).val) _)
    isplitl [H4]; · iexact H4
    isplitl [H12]; · iexact H12
    isplitl [H13]; · iexact H13
    iexact H14
  iintro %p ⟨%hp, H4, H12, H13, H14⟩
  subst hp
  dsimp only
  unfold owns
  icases H11 with ⟨%f11, %h11, H11⟩
  icases H13 with ⟨%f13, %h13, H13⟩
  icases H14 with ⟨%f14, %h14, H14⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; swap; · iexact H11
    ipureintro
    refine (View.read_writes_full _ _ _ _ _).trans ?_
    exact congrArg (dqOut cT aT bT) ((View.readAt_full arg14.view f14 inb_S512x128_S512x128_0_0).trans h14)
  isplitl [H12]; · iexact H12
  isplitl [H13]
  · iexists _; isplitr; swap; · iexact H13
    ipureintro
    refine (read_writes_slab _ _ _ _ (off5_eq i) _ _).trans ?_
    rw [View.writes_nil, h13]
    rfl
  iexists _, f14; isplitr; · ipureintro; exact h14
  iexact H14

end Cert.Proof.Body

end
-- ==== Proof.Run.lean ====
/-
  The whole run of the kernel: at every grid point the body leaves `point` of what it reads; the gradients of the keys and of the
  values are carried from one query block of a head to the next.
-/
module

public import proofs.«01_k».proof.Proof.Body
public import proofs.«01_k».proof.Proof.Gen.KernelIdeal.Frame

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the rows of point `t` read. -/
def rowsAt (c : Dev nD) (t : Fin cfg0.N) : Rows F :=
  rowsOf (grid0.coords t) (iblk m c 0 t) (iblk m c 3 t) (iblk m c 4 t) (iblk m c 5 t) (iblk m c 6 t) (iblk m c 7 t) (iblk m c 8 t)

/-- What point `t` leaves when it finds `X`, `Y` in the two carried gradients. -/
def pointAt (c : Dev nD) (t : Fin cfg0.N) (X Y : Vec F S8192x128 .f32) : St F :=
  point (grid0.coords t) (rowsAt m c t) (iblk m c 1 t) (iblk m c 2 t) X Y

/-- The two carried gradients before point `n`. -/
def acc (c : Dev nD) : ℕ → Vec F S8192x128 .f32 × Vec F S8192x128 .f32
  | 0 => ((k0_pay64 : Vec F S8192x128 .f32), (k0_pay64 : Vec F S8192x128 .f32))
  | n + 1 => if h : n < cfg0.N then ((pointAt m c ⟨n, h⟩ (acc c n).1 (acc c n).2).dk, (pointAt m c ⟨n, h⟩ (acc c n).1 (acc c n).2).dv) else acc c n

/-- What point `t` leaves. -/
def left (c : Dev nD) (t : Fin cfg0.N) : St F := pointAt m c t (acc m c t.val).1 (acc m c t.val).2

theorem acc_succ (c : Dev nD) (t : Fin cfg0.N) : acc m c (t.val + 1) = ((left m c t).dk, (left m c t).dv) := by
  rw [acc, dif_pos t.isLt]; rfl

/-- The proof data of the run. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => dqOut (iblk m c 3 t) (iblk m c 4 t) (iblk m c 5 t) (left m c t).dq
    | 10 => (left m c t).dk
    | 11 => (left m c t).dv
  Φ _ := Pipeline.ΦA spec0 c
  q _ := fullShare
  owed _ := 0

theorem A_eq (c : Dev nD) (w : Fin cfg0.W) : (dats m 0 c).A w = V m c (Pipeline.arrRef spec0 w) := by dsimp only [dats]

theorem coord_block : ∀ t : Fin cfg0.N, ((grid0.coords t) 1).val = t.val % 16 := by decide +kernel

theorem coord_head : ∀ t : Fin cfg0.N, ((grid0.coords t) 0).val = t.val / 16 := by decide +kernel

/-- At a head's first block the two carried gradients start from zero, whatever was there. -/
theorem pointAt_first (c : Dev nD) (t : Fin cfg0.N) (h : t.val % 16 = 0) (X Y X' Y' : Vec F S8192x128 .f32) :
    pointAt m c t X Y = pointAt m c t X' Y' := by
  have h1 : ((grid0.coords t) 1).val = 0 := (coord_block t).trans h
  unfold pointAt point entry
  simp only [h1, if_true]

/-- What the two carried windows hold at a point, as far as the point reads them. -/
theorem pointAt_before (c : Dev nD) (t : Fin cfg0.N) (d10 d11) :
    pointAt m c t ((dats m 0 c).before 10 t d10) ((dats m 0 c).before 11 t d11) = left m c t := by
  by_cases h : t.val % 16 = 0
  · exact pointAt_first m c t h _ _ _ _
  · have ht : t.val ≠ 0 := fun e => h (by omega)
    have hk : (cfg0.win 10).flush ⟨t.val - 1, Nat.lt_of_le_of_lt (Nat.sub_le _ _) t.isLt⟩ = false :=
      Bool.eq_false_iff.mpr fun e => by have := (flush0_10 _).mp e; dsimp only at this; omega
    have hv : (cfg0.win 11).flush ⟨t.val - 1, Nat.lt_of_le_of_lt (Nat.sub_le _ _) t.isLt⟩ = false :=
      Bool.eq_false_iff.mpr fun e => by have := (flush0_11 _).mp e; dsimp only at this; omega
    rw [Dat.before_out_kept (dats m 0 c) 10 rfl t ht hk (fun _ => rfl) (fun _ _ => rfl) d10,
      Dat.before_out_kept (dats m 0 c) 11 rfl t ht hv (fun _ => rfl) (fun _ _ => rfl) d11]
    have e := acc_succ m c ⟨t.val - 1, Nat.lt_of_le_of_lt (Nat.sub_le _ _) t.isLt⟩
    dsimp only at e
    rw [Nat.sub_add_cancel (Nat.pos_of_ne_zero ht)] at e
    unfold left
    rw [e]
    rfl

/-- The scoped scratch and the generator register, one by one. -/
theorem Phi_eq (c : Dev nD) :
    (Pipeline.ΦA spec0 c : sProp 𝕄)
      = iprop((∃ d, owns (c : Thread nD τ) (Memref.whole cc0_scratch0) fullShare d) ∗ ∃ r, prngReg c r) := by
  unfold Pipeline.ΦA; rw [scopedRest0_eq]; simp only [owns_whole]

set_option maxHeartbeats 1600000 in
/-- The body's triple at a point, over what the windows hold. -/
theorem sound_body (c : Dev nD) (t : Fin cfg0.N) :
    (iprop((dats m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d))
      ∗ (∃ d, owns (c : Thread nD τ) ((cfg0.win 5).stage (cfg0.slots t 5)) fullShare ((dats m 0 c).before 5 t d))
      ∗ (∃ d, owns (c : Thread nD τ) ((cfg0.win 6).stage (cfg0.slots t 6)) fullShare ((dats m 0 c).before 6 t d))
      ∗ (∃ d, owns (c : Thread nD τ) ((cfg0.win 7).stage (cfg0.slots t 7)) fullShare ((dats m 0 c).before 7 t d))
      ∗ (∃ d, owns (c : Thread nD τ) ((cfg0.win 8).stage (cfg0.slots t 8)) fullShare ((dats m 0 c).before 8 t d))
      ∗ (∃ d, owns (c : Thread nD τ) ((cfg0.win 9).stage (cfg0.slots t 9)) fullShare ((dats m 0 c).before 9 t d))
      ∗ (∃ d, owns (c : Thread nD τ) ((cfg0.win 10).stage (cfg0.slots t 10)) fullShare ((dats m 0 c).before 10 t d))
      ∗ (∃ d, owns (c : Thread nD τ) ((cfg0.win 11).stage (cfg0.slots t 11)) fullShare ((dats m 0 c).before 11 t d))) : sProp 𝕄)
    ⊢ wp frame (wpE (defs₀ (F := F)) Variants.none c none) Set.univ (bodyAt0 t) (fun _ =>
      iprop((dats m 0 c).Φ t.succ ∗ (dats m 0 c).owesAt () t.succ
      ∗ owns (c : Thread nD τ) ((cfg0.win 0).stage (cfg0.slots t 0)) fullShare ((dats m 0 c).after 0 t)
      ∗ owns (c : Thread nD τ) ((cfg0.win 1).stage (cfg0.slots t 1)) fullShare ((dats m 0 c).after 1 t)
      ∗ owns (c : Thread nD τ) ((cfg0.win 2).stage (cfg0.slots t 2)) fullShare ((dats m 0 c).after 2 t)
      ∗ owns (c : Thread nD τ) ((cfg0.win 3).stage (cfg0.slots t 3)) fullShare ((dats m 0 c).after 3 t)
      ∗ owns (c : Thread nD τ) ((cfg0.win 4).stage (cfg0.slots t 4)) fullShare ((dats m 0 c).after 4 t)
      ∗ owns (c : Thread nD τ) ((cfg0.win 5).stage (cfg0.slots t 5)) fullShare ((dats m 0 c).after 5 t)
      ∗ owns (c : Thread nD τ) ((cfg0.win 6).stage (cfg0.slots t 6)) fullShare ((dats m 0 c).after 6 t)
      ∗ owns (c : Thread nD τ) ((cfg0.win 7).stage (cfg0.slots t 7)) fullShare ((dats m 0 c).after 7 t)
      ∗ owns (c : Thread nD τ) ((cfg0.win 8).stage (cfg0.slots t 8)) fullShare ((dats m 0 c).after 8 t)
      ∗ owns (c : Thread nD τ) ((cfg0.win 9).stage (cfg0.slots t 9)) fullShare ((dats m 0 c).after 9 t)
      ∗ owns (c : Thread nD τ) ((cfg0.win 10).stage (cfg0.slots t 10)) fullShare ((dats m 0 c).after 10 t)
      ∗ owns (c : Thread nD τ) ((cfg0.win 11).stage (cfg0.slots t 11)) fullShare ((dats m 0 c).after 11 t))) := by
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨%A, HS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0_of m (dats m 0 c) (A_eq m c 0) (fun _ => rfl) t d0, before0_1_of m (dats m 0 c) (A_eq m c 1) (fun _ => rfl) t d1,
    before0_2_of m (dats m 0 c) (A_eq m c 2) (fun _ => rfl) t d2, before0_3_of m (dats m 0 c) (A_eq m c 3) (fun _ => rfl) t d3,
    before0_4_of m (dats m 0 c) (A_eq m c 4) (fun _ => rfl) t d4, before0_5_of m (dats m 0 c) (A_eq m c 5) (fun _ => rfl) t d5,
    before0_6_of m (dats m 0 c) (A_eq m c 6) (fun _ => rfl) t d6, before0_7_of m (dats m 0 c) (A_eq m c 7) (fun _ => rfl) t d7,
    before0_8_of m (dats m 0 c) (A_eq m c 8) (fun _ => rfl) t d8]
  have e := pointAt_before m c t d10 d11
  unfold pointAt rowsAt at e
  iapply (wp_wand_r frame _ Set.univ)
  isplitl [H0 H1 H2 H3 H4 H5 H6 H7 H8 H9 H10 H11 HS]
  · iapply (body_run c Variants.none (grid0.coords t) _ _ _ _ _ _ _ _ _ _ _ _ _ _ _ _ _ _ _ _ _ _ _ _ _ _
        (iblk m c 0 t) (iblk m c 3 t) (iblk m c 4 t) (iblk m c 5 t) (iblk m c 6 t) (iblk m c 7 t) (iblk m c 8 t) (iblk m c 1 t) (iblk m c 2 t)
        ((dats m 0 c).before 9 t d9) ((dats m 0 c).before 10 t d10) ((dats m 0 c).before 11 t d11) A)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  rw [e]
  iintro %p ⟨H0, H1, H2, H3, H4, H5, H6, H7, H8, H9, H10, H11, ⟨%d, HS⟩⟩
  isplitl [HS Hg]
  · isplitl [HS]; · iexists d; iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with the arrays as the proof data say, everything else as the host lines leave it, and every semaphore at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _)

variable {m ρ}

/-- At the end the arguments hold what they held. -/
theorem kept {r : PUnit × MemSt nD τ sig (Elt F)}
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).1 8).trans (((dats m 0 c).arrAt_in 8 rfl _).trans ((A_eq m c 8).trans (V_main_arg6 m c)))⟩

variable (m ρ)

/-- The kernel runs, its arguments unchanged, every semaphore back at zero: over any floats. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => kept h.1 c, h.2⟩) (run_main m ρ)

end Cert.Proof.Body

end
-- ==== Proof.FrameKernel.lean ====
/-
  The kernel's frame on the machine's floats: the run of the idealization, which has the same text, read there.
-/
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.SL.Sem

set_option maxHeartbeats 4000000 in
set_option smartUnfolding false in
/-- The kernel runs on the machine's floats, its arguments unchanged, every semaphore back at zero. -/
theorem frame_kernel : Cert.quiescent_Kernel := fun m ρ _ => Body.quiet (F := Bits) m ρ

/-- The same for the idealized kernel, over the extended reals. -/
theorem frame_ideal : Cert.quiescent_KernelIdeal := fun m ρ _ => Body.quiet (F := Ideal) m ρ

end Cert.Proof

end
-- ==== Proof.Reals.lean ====
/-
  The attention's gradient over the real numbers: the queries, keys and values as lanes of 128, the masked softmax, and the
  sums that both programs are compared with. No program is mentioned here.
-/
module

public import Idealize.ShloMosaic.Lib.Pointwise

@[expose] public section

noncomputable section

namespace Cert.Proof.Reals

open Idealize.ShloMosaic
open scoped BigOperators

/-- The arguments, as real numbers. -/
structure Data where
  q : Fin 8192 → Fin 16 → Fin 96 → ℝ
  kn : Fin 16 → Fin 8192 → Fin 64 → ℝ
  kr : Fin 8192 → Fin 32 → ℝ
  v : Fin 16 → Fin 8192 → Fin 64 → ℝ
  cs : Fin 8192 → Fin 16 → ℝ
  sn : Fin 8192 → Fin 16 → ℝ
  g : Fin 8192 → Fin 1024 → ℝ

theorem scale_real : ∃ r : ℝ, Ideal.ofBits .f32 0x3DD105EC#32 = (r : EReal) := by
  unfold Ideal.ofBits Ideal.ieee
  dsimp only
  rw [if_neg (by decide), if_neg (by decide)]
  exact ⟨_, rfl⟩

/-- The factor of the scores, the rational number that the programs' literal is. -/
def scl : ℝ := Classical.choose scale_real

theorem ofBits_scale : Ideal.ofBits .f32 0x3DD105EC#32 = (scl : EReal) := Classical.choose_spec scale_real

variable (x : Data)

/-- A query's rotated half, of 32 entries. -/
def QR (i : Fin 8192) (h : Fin 16) (r : Fin 32) : ℝ :=
  if hr : r.val < 16 then
    x.q i h ⟨64 + r.val, by omega⟩ * x.cs i ⟨r.val, hr⟩ - x.q i h ⟨80 + r.val, by omega⟩ * x.sn i ⟨r.val, hr⟩
  else
    x.q i h ⟨64 + r.val, by omega⟩ * x.cs i ⟨r.val - 16, by omega⟩ + x.q i h ⟨48 + r.val, by omega⟩ * x.sn i ⟨r.val - 16, by omega⟩

/-- A query on 128 lanes: 64 as they are, 32 rotated, 32 zeros. -/
def QL (h : Fin 16) (i : Fin 8192) (l : Fin 128) : ℝ :=
  if h1 : l.val < 64 then x.q i h ⟨l.val, by omega⟩ else if h2 : l.val < 96 then QR x i h ⟨l.val - 64, by omega⟩ else 0

/-- A key on 128 lanes: the head's 64, the 32 that all heads share, 32 zeros. -/
def KL (h : Fin 16) (k : Fin 8192) (l : Fin 128) : ℝ :=
  if h1 : l.val < 64 then x.kn h k ⟨l.val, h1⟩ else if h2 : l.val < 96 then x.kr k ⟨l.val - 64, by omega⟩ else 0

/-- A value on 128 lanes: the head's 64, a one, 63 zeros. -/
def VL (h : Fin 16) (k : Fin 8192) (l : Fin 128) : ℝ :=
  if h1 : l.val < 64 then x.v h k ⟨l.val, h1⟩ else if l.val = 64 then 1 else 0

/-- The cotangent of a head's output, of 64 entries. -/
def G (h : Fin 16) (i : Fin 8192) (d : Fin 64) : ℝ := x.g i ⟨64 * h.val + d.val, by omega⟩

/-- The cotangent of a head's output on 128 lanes, 64 of them zeros. -/
def CL (h : Fin 16) (i : Fin 8192) (l : Fin 128) : ℝ := if h1 : l.val < 64 then G x h i ⟨l.val, h1⟩ else 0

/-- Query `i` sees key `k`: the key's chunk of 64 is the query's or an earlier one. -/
def ok (i k : Fin 8192) : Prop := k.val / 64 ≤ i.val / 64

instance (i k : Fin 8192) : Decidable (ok i k) := inferInstanceAs (Decidable (_ ≤ _))

/-- The score. -/
def s (h : Fin 16) (i k : Fin 8192) : ℝ :=
  ((∑ d : Fin 64, x.q i h ⟨d.val, by omega⟩ * x.kn h k d) + ∑ r : Fin 32, x.kr k r * QR x i h r) * scl

/-- The exponential of the score, zero where the key is not seen. -/
def w (h : Fin 16) (i k : Fin 8192) : ℝ := if ok i k then Real.exp (s x h i k) else 0

/-- The row's sum. -/
def Z (h : Fin 16) (i : Fin 8192) : ℝ := ∑ k, w x h i k

/-- The attention's weights. -/
def P (h : Fin 16) (i k : Fin 8192) : ℝ := w x h i k / Z x h i

/-- The weights' gradient. -/
def dP (h : Fin 16) (i k : Fin 8192) : ℝ := ∑ d : Fin 64, G x h i d * x.v h k d

/-- The row's sum of weights times their gradient. -/
def D (h : Fin 16) (i : Fin 8192) : ℝ := ∑ k, P x h i k * dP x h i k

/-- The scores' gradient, times the factor. -/
def dS (h : Fin 16) (i k : Fin 8192) : ℝ := P x h i k * (dP x h i k - D x h i) * scl

/-- The attention's output. -/
def O (h : Fin 16) (i : Fin 8192) (d : Fin 64) : ℝ := ∑ k, x.v h k d * P x h i k

/-- The keys' gradient on 128 lanes. -/
def dK (h : Fin 16) (k : Fin 8192) (l : Fin 128) : ℝ := ∑ i, dS x h i k * QL x h i l

/-- The values' gradient on 128 lanes. -/
def dV (h : Fin 16) (k : Fin 8192) (l : Fin 128) : ℝ := ∑ i, P x h i k * CL x h i l

/-- The rotated queries' gradient on 128 lanes. -/
def dQ (h : Fin 16) (i : Fin 8192) (l : Fin 128) : ℝ := ∑ k, dS x h i k * KL x h k l

/-- The queries' gradient before the rotation: the rotation's transpose on the lanes' gradient. -/
def outQ (i : Fin 8192) (h : Fin 16) (c : Fin 96) : ℝ :=
  if h1 : c.val < 64 then dQ x h i ⟨c.val, by omega⟩
  else if h2 : c.val < 80 then dQ x h i ⟨c.val, by omega⟩ * x.cs i ⟨c.val - 64, by omega⟩ + dQ x h i ⟨c.val + 16, by omega⟩ * x.sn i ⟨c.val - 64, by omega⟩
  else dQ x h i ⟨c.val, by omega⟩ * x.cs i ⟨c.val - 80, by omega⟩ - dQ x h i ⟨c.val - 16, by omega⟩ * x.sn i ⟨c.val - 80, by omega⟩

/-- The shared keys' gradient, summed over the heads. -/
def outR (k : Fin 8192) (r : Fin 32) : ℝ := ∑ h, dK x h k ⟨64 + r.val, by omega⟩

theorem QL_low (h : Fin 16) (i : Fin 8192) (d : Fin 64) : QL x h i ⟨d.val, by omega⟩ = x.q i h ⟨d.val, by omega⟩ := by
  unfold QL; rw [dif_pos d.isLt]

theorem KL_low (h : Fin 16) (k : Fin 8192) (d : Fin 64) : KL x h k ⟨d.val, by omega⟩ = x.kn h k d := by
  unfold KL; rw [dif_pos d.isLt]

theorem CL_low (h : Fin 16) (i : Fin 8192) (d : Fin 64) : CL x h i ⟨d.val, by omega⟩ = G x h i d := by
  unfold CL; rw [dif_pos d.isLt]

theorem QL_mid (h : Fin 16) (i : Fin 8192) (r : Fin 32) : QL x h i ⟨64 + r.val, by omega⟩ = QR x i h r := by
  have a1 : ¬ 64 + r.val < 64 := by omega
  have a2 : 64 + r.val < 96 := by omega
  unfold QL
  dsimp only
  rw [dif_neg a1, dif_pos a2]
  exact congrArg _ (Fin.ext (by dsimp only; omega))

theorem KL_mid (h : Fin 16) (k : Fin 8192) (r : Fin 32) : KL x h k ⟨64 + r.val, by omega⟩ = x.kr k r := by
  have a1 : ¬ 64 + r.val < 64 := by omega
  have a2 : 64 + r.val < 96 := by omega
  unfold KL
  dsimp only
  rw [dif_neg a1, dif_pos a2]
  exact congrArg _ (Fin.ext (by dsimp only; omega))

/-- A sum over 128 lanes, in its three parts. -/
theorem sum_lanes {M : Type} [AddCommMonoid M] (f : Fin 128 → M) :
    ∑ l, f l = (∑ d : Fin 64, f ⟨d.val, by omega⟩) + ((∑ r : Fin 32, f ⟨64 + r.val, by omega⟩) + ∑ r : Fin 32, f ⟨96 + r.val, by omega⟩) := by
  refine (Fin.sum_univ_add (a := 64) (b := 64) f).trans (congrArg₂ (· + ·) rfl ?_)
  exact (Fin.sum_univ_add (a := 32) (b := 32) fun j : Fin 64 => f ⟨64 + j.val, by omega⟩).trans
    (congrArg₂ (· + ·) rfl (Finset.sum_congr rfl fun r _ => congrArg f (Fin.ext (show 64 + (32 + r.val) = 96 + r.val by omega))))

theorem s_lanes (h : Fin 16) (i k : Fin 8192) : (∑ l, QL x h i l * KL x h k l) * scl = s x h i k := by
  unfold s
  congr 1
  rw [sum_lanes]
  have h3 : ∀ r : Fin 32, QL x h i ⟨96 + r.val, by omega⟩ = 0 := fun r => by
    unfold QL; rw [dif_neg (by dsimp only; omega), dif_neg (by dsimp only; omega)]
  simp only [h3, zero_mul, Finset.sum_const_zero, add_zero]
  refine congrArg₂ (· + ·) ?_ ?_
  · refine Finset.sum_congr rfl fun d _ => ?_
    unfold QL KL; rw [dif_pos d.isLt, dif_pos d.isLt]
  · refine Finset.sum_congr rfl fun r _ => ?_
    have a1 : ¬ 64 + r.val < 64 := by omega
    have a2 : 64 + r.val < 96 := by omega
    unfold QL KL
    dsimp only
    rw [dif_neg a1, dif_pos a2, dif_neg a1, dif_pos a2, mul_comm]
    have a3 : (⟨64 + r.val - 64, by omega⟩ : Fin 32) = r := Fin.ext (by dsimp only; omega)
    rw [a3]

theorem dP_lanes (h : Fin 16) (i k : Fin 8192) : (∑ l, CL x h i l * VL x h k l) = dP x h i k := by
  unfold dP
  rw [sum_lanes]
  have h2 : ∀ r : Fin 32, CL x h i ⟨64 + r.val, by omega⟩ = 0 := fun r => by
    unfold CL; rw [dif_neg (by dsimp only; omega)]
  have h3 : ∀ r : Fin 32, CL x h i ⟨96 + r.val, by omega⟩ = 0 := fun r => by
    unfold CL; rw [dif_neg (by dsimp only; omega)]
  simp only [h2, h3, zero_mul, Finset.sum_const_zero, add_zero]
  refine Finset.sum_congr rfl fun d _ => ?_
  unfold CL VL; rw [dif_pos d.isLt, dif_pos d.isLt]

theorem ok_self (i : Fin 8192) : ok i i := le_refl _

theorem w_nonneg (h : Fin 16) (i k : Fin 8192) : 0 ≤ w x h i k := by
  unfold w; split
  · exact (Real.exp_pos _).le
  · exact le_refl _

theorem Z_pos (h : Fin 16) (i : Fin 8192) : 0 < Z x h i := by
  refine Finset.sum_pos' (fun k _ => w_nonneg x h i k) ⟨i, Finset.mem_univ _, ?_⟩
  unfold w; rw [if_pos (ok_self i)]; exact Real.exp_pos _

/-- The exponential after a shift of the row. -/
def e (M : ℝ) (h : Fin 16) (i k : Fin 8192) : ℝ := if ok i k then Real.exp (s x h i k - M) else 0

theorem e_eq (M : ℝ) (h : Fin 16) (i k : Fin 8192) : e x M h i k = w x h i k * Real.exp (-M) := by
  unfold e w; split
  · rw [sub_eq_add_neg, Real.exp_add]
  · rw [zero_mul]

theorem sum_e (M : ℝ) (h : Fin 16) (i : Fin 8192) : ∑ k, e x M h i k = Z x h i * Real.exp (-M) := by
  simp only [e_eq, ← Finset.sum_mul]; rfl

theorem sum_e_pos (M : ℝ) (h : Fin 16) (i : Fin 8192) : 0 < ∑ k, e x M h i k := by
  rw [sum_e]; exact mul_pos (Z_pos x h i) (Real.exp_pos _)

/-- The weights do not depend on the shift. -/
theorem P_shift (M : ℝ) (h : Fin 16) (i k : Fin 8192) : e x M h i k / ∑ k', e x M h i k' = P x h i k := by
  rw [sum_e, e_eq, mul_div_mul_right _ _ (Real.exp_pos _).ne']; rfl

/-- The weight from the score and the row's saved log-sum. -/
theorem P_lse (M : ℝ) (h : Fin 16) (i k : Fin 8192) (hk : ok i k) :
    Real.exp (s x h i k - (M + Real.log (∑ k', e x M h i k'))) = P x h i k := by
  rw [← P_shift x M, ← sub_sub, Real.exp_sub, Real.exp_log (sum_e_pos x M h i)]
  unfold e; rw [if_pos hk]

theorem P_zero (h : Fin 16) (i k : Fin 8192) (hk : ¬ ok i k) : P x h i k = 0 := by
  unfold P w; rw [if_neg hk, zero_div]

theorem dS_zero (h : Fin 16) (i k : Fin 8192) (hk : ¬ ok i k) : dS x h i k = 0 := by
  unfold dS; rw [P_zero x h i k hk, zero_mul, zero_mul]

/-- The scores' gradient as differentiating the quotient gives it. -/
theorem dS_quotient (M : ℝ) (h : Fin 16) (i k : Fin 8192) :
    (if ok i k then (dP x h i k / (∑ k', e x M h i k')
        + -(∑ k', dP x h i k' * (1 / ((∑ k', e x M h i k') * ∑ k', e x M h i k')) * e x M h i k')) * e x M h i k else 0) * scl
      = dS x h i k := by
  by_cases hk : ok i k
  · rw [if_pos hk]
    unfold dS
    congr 1
    have hD : (∑ k', dP x h i k' * (1 / ((∑ k', e x M h i k') * ∑ k', e x M h i k')) * e x M h i k')
        = D x h i / ∑ k', e x M h i k' := by
      unfold D
      rw [Finset.sum_div]
      refine Finset.sum_congr rfl fun k' _ => ?_
      rw [← P_shift x M]
      have := (sum_e_pos x M h i).ne'
      field_simp
    rw [hD, ← P_shift x M h i k]
    have := (sum_e_pos x M h i).ne'
    field_simp
    ring
  · rw [if_neg hk, zero_mul, dS_zero x h i k hk]

/-- The row sum from the saved output. -/
theorem D_output (h : Fin 16) (i : Fin 8192) : ∑ d : Fin 64, G x h i d * O x h i d = D x h i := by
  unfold D dP O
  simp only [Finset.mul_sum]
  rw [Finset.sum_comm]
  refine Finset.sum_congr rfl fun k _ => Finset.sum_congr rfl fun d _ => ?_
  ring

end Cert.Proof.Reals

end
-- ==== Proof.HostMath.lean ====
/-
  Facts about real numbers read in the extended reals that both programs' host lines use: a row's maximum, the exponential
  of a masked score, and the words of a chunk's number.
-/
module

public import proofs.«01_k».proof.Proof.Reals
public import Idealize.ShloMosaic.Lib.Pointwise
public import Idealize.ShloMosaic.Lib.WordCmp
public import Idealize.ShloMosaic.Lib.Routing.Words

@[expose] public section

noncomputable section

namespace Cert.Proof.HostMath

open Cert.Proof.Reals
open Idealize.ShloMosaic
open scoped BigOperators

/-- A finite sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem ofBits_neg_inf : Ideal.ofBits .f32 0xFF800000#32 = (⊥ : EReal) := by
  unfold Ideal.ofBits Ideal.ieee
  dsimp only
  rw [if_pos (by decide), if_pos (by decide), if_pos (by decide)]

theorem ofBits_pos_inf : Ideal.ofBits .f32 0x7F800000#32 = (⊤ : EReal) := by
  unfold Ideal.ofBits Ideal.ieee
  dsimp only
  rw [if_pos (by decide), if_pos (by decide), if_neg (by decide)]

variable (x : Data) (h : Fin 16) (i : Fin 8192)

/-- A masked row of scores: real where the key is seen, −∞ elsewhere. -/
def row (k : Fin 8192) : EReal := if ok i k then ((s x h i k : ℝ) : EReal) else ⊥

/-- The row's maximum, a real number. -/
def top : ℝ := (Finset.fold max (⊥ : EReal) (row x h i) Finset.univ).toReal

theorem fold_row : Finset.fold max (⊥ : EReal) (row x h i) Finset.univ = ((top x h i : ℝ) : EReal) := by
  refine (EReal.coe_toReal ?_ ?_).symm
  · refine ne_of_lt ((Finset.fold_max_lt _).mpr ⟨bot_lt_top, fun k _ => ?_⟩)
    unfold row; split
    · exact EReal.coe_lt_top _
    · exact bot_lt_top
  · refine ne_of_gt (lt_of_lt_of_le (EReal.bot_lt_coe (s x h i i)) ((Finset.le_fold_max _).mpr (Or.inr ⟨i, Finset.mem_univ _, ?_⟩)))
    unfold row; rw [if_pos (ok_self i)]

/-- The exponential of a masked score after a shift of the row. -/
theorem exp_row (M : ℝ) (k : Fin 8192) : Ideal.exp (row x h i k - (M : EReal)) = ((e x M h i k : ℝ) : EReal) := by
  unfold row e; split
  · rw [← EReal.coe_sub]; exact Ideal.exp_coe _
  · rw [EReal.bot_sub, Ideal.exp_bot, EReal.coe_zero]

/-- The word of a position's chunk. -/
theorem chunk_word (k : ℕ) (hk : k < 8192) :
    Scalar.select
        (IntOp.andi
          (IntOp.cmpi CmpIPredicate.ne (if (BitVec.ofNat 32 k) = 0 then (0 : BitVec 32) else if (BitVec.ofNat 32 k).msb then -1 else 1) (1#32))
          (IntOp.cmpi CmpIPredicate.ne (IntOp.remsi ArithUnit.host (BitVec.ofNat 32 k) 64#32) 0#32))
        (IntOp.subi (IntOp.divsi ArithUnit.host (BitVec.ofNat 32 k) 64#32) 1#32) (IntOp.divsi ArithUnit.host (BitVec.ofNat 32 k) 64#32)
      = BitVec.ofNat 32 (k / 64) := by
  have e1 : IntOp.divsi ArithUnit.host (BitVec.ofNat 32 k) 64#32 = BitVec.ofNat 32 (k / 64) := Routing.divsi_word _ (a := k) (b := 64) (by omega) (by omega) (by omega)
  have e2 : IntOp.remsi ArithUnit.host (BitVec.ofNat 32 k) 64#32 = BitVec.ofNat 32 (k % 64) := Routing.remsi_word _ (a := k) (b := 64) (by omega) (by omega) (by omega)
  rw [e1, e2]
  by_cases h0 : k = 0
  · subst h0; rfl
  · have n0 : ¬ BitVec.ofNat 32 k = 0 := fun hc => h0 (by
      have := congrArg BitVec.toNat hc
      rw [BitVec.toNat_ofNat, Nat.mod_eq_of_lt (by omega)] at this
      exact this)
    have nm : (BitVec.ofNat 32 k).msb = false := by
      rw [BitVec.msb_eq_decide, BitVec.toNat_ofNat, Nat.mod_eq_of_lt (by omega)]
      exact decide_eq_false (by omega)
    rw [if_neg n0, nm]
    have c0 : IntOp.cmpi CmpIPredicate.ne (if false = true then (-1 : BitVec 32) else 1) (1#32) = 0#1 := rfl
    rw [c0]
    have a0 : ∀ b : BitVec 1, IntOp.andi 0#1 b = 0#1 := by decide
    rw [a0]
    rfl

end Cert.Proof.HostMath

end
-- ==== Proof.HostRead.lean ====
/-
  The host operations that both programs share (scores, mask, softmax), read at an index, for any arrays.
-/
module

public import proofs.«01_k».proof.Proof.Gen.ReferenceIdeal
public import proofs.«01_k».proof.Proof.HostMath
public import Idealize.ShloMosaic.Lib.Pointwise
public import Idealize.ShloMosaic.Lib.Tactic.CleanTypes

@[expose] public section

set_option maxRecDepth 16384

noncomputable section

namespace Cert.Proof.HostRead

open Cert.ReferenceIdeal Cert.ReferenceIdeal.Gen Cert.Proof.Reals Cert.Proof.HostMath
open Idealize.ShloMosaic
open scoped BigOperators

theorem bot_max (B : EReal) : max (Ideal.ofBits .f32 0xFF800000#32) B = B := by rw [ofBits_neg_inf]; exact max_bot_left _

section Shapes

variable (A : FVec Ideal S16x8192x8192 .f32) (B : FVec Ideal S16x8192 .f32) (C : FVec Ideal S16x8192x1 .f32)

theorem shift_exp (h : Fin 16) (i k : Fin 8192) :
    Host.exp (subf A (broadcastInDim S16x8192x8192 ![0, 1, 2] bcast_S16x8192x1_S16x8192x8192_0_1_2
      (broadcastInDim S16x8192x1 ![0, 1] bcast_S16x8192_S16x8192x1_0_1
        (maximumf (broadcastInDim S16x8192 ![] bcast_S_S16x8192 (constant S_ .f32 0xFF800000#32)) B)))) (ix3 h i k)
      = Ideal.exp (A (ix3 h i k) - B (ix2 h i)) := by
  rw [← bot_max (B (ix2 h i))]
  generalize hc : constant (F := Ideal) S_ .f32 0xFF800000#32 = c
  have e : c ix0 = Ideal.ofBits .f32 0xFF800000#32 := by rw [← hc]; rfl
  rw [← e]
  pointwise

theorem shift_exp' (h : Fin 16) (i k : Fin 8192) :
    Host.exp (subf A (broadcastInDim S16x8192x8192 ![0, 1, 2] bcast_S16x8192x1_S16x8192x8192_0_1_2
      (broadcastInDim S16x8192x1 ![0, 1] bcast_S16x8192_S16x8192x1_0_1 B))) (ix3 h i k)
      = Ideal.exp (A (ix3 h i k) - B (ix2 h i)) := by
  pointwise

theorem row_max (h : Fin 16) (i : Fin 8192) :
    Host.reduce FloatOps.maximumf A (constant S_ .f32 0xFF800000#32) reducesTo_S16x8192x8192_S16x8192_d2 h_S_ (ix2 h i)
      = Finset.fold max (⊥ : EReal) (fun k => A (ix3 h i k)) Finset.univ := by
  rw [← ofBits_neg_inf]
  pointwise

theorem row_sum (h : Fin 16) (i : Fin 8192) (z : Fin 1) :
    broadcastInDim S16x8192x1 ![0, 1] bcast_S16x8192_S16x8192x1_0_1
      (Host.reduceAdd A (constant S_ .f32 0x00000000#32) reducesTo_S16x8192x8192_S16x8192_d2 h_S_) (ix3 h i z) = ∑ k, A (ix3 h i k) := by
  pointwise

theorem quot (h : Fin 16) (i k : Fin 8192) :
    Host.divf A (broadcastInDim S16x8192x8192 ![0, 1, 2] bcast_S16x8192x1_S16x8192x8192_0_1_2 C) (ix3 h i k) = Ideal.div (A (ix3 h i k)) (C (ix3 h i 0)) := by
  pointwise

end Shapes

theorem scores (a : FVec Ideal S8192x16x64 .f32) (b : FVec Ideal S16x8192x64 .f32) (c : FVec Ideal S8192x32 .f32) (d : FVec Ideal S8192x16x32 .f32)
    (h : Fin 16) (i k : Fin 8192) :
    mulf (addf (Host.dotGeneral dot_S8192x16x64_S16x8192x64_S16x8192x8192_2_2_0_1_1_0 none a b)
      (transpose S16x8192x8192 [2, 1, 0] (Host.dotGeneral dot_S8192x32_S8192x16x32_S8192x8192x16_1_2_0_01_n_n none c d) transposes_S8192x8192x16_S16x8192x8192_2_1_0))
      (broadcastInDim S16x8192x8192 ![] bcast_S_S16x8192x8192 (constant S_ .f32 0x3DD105EC#32)) (ix3 h i k)
      = (∑ e, a (ix3 i h e) * b (ix3 h k e) + ∑ r, c (ix2 k r) * d (ix3 i h r)) * Ideal.ofBits .f32 0x3DD105EC#32 := by
  pointwise

theorem masked (m : IVec S16x8192x8192 1) (A : FVec Ideal S16x8192x8192 .f32) (h : Fin 16) (i k : Fin 8192) :
    select m A (broadcastInDim S16x8192x8192 ![] bcast_S_S16x8192x8192 (id (constant S_ .f32 0xFF800000#32))) (ix3 h i k)
      = Scalar.select (m (ix3 h i k)) (A (ix3 h i k)) (⊥ : EReal) := by
  rw [← ofBits_neg_inf]
  generalize hc : constant (F := Ideal) S_ .f32 0xFF800000#32 = c
  have e : c ix0 = Ideal.ofBits .f32 0xFF800000#32 := by rw [← hc]; rfl
  rw [← e]
  simp only [id]
  pointwise

theorem chunk_mask (w : IVec S8192 32) (hw : ∀ k, w (ix1 k) = BitVec.ofNat 32 (k.val / 64)) (h : Fin 16) (i k : Fin 8192) :
    broadcastInDim S16x8192x8192 ![1, 2] bcast_S8192x8192_S16x8192x8192_1_2
      (cmpi .sle (broadcastInDim S8192x8192 ![0, 1] bcast_S1x8192_S8192x8192_0_1 (broadcastInDim S1x8192 ![1] bcast_S8192_S1x8192_1 w))
        (broadcastInDim S8192x8192 ![0, 1] bcast_S8192x1_S8192x8192_0_1 (broadcastInDim S8192x1 ![0] bcast_S8192_S8192x1_0 w))) (ix3 h i k)
      = BitVec.ofBool (decide (ok i k)) := by
  pointwise
  rw [hw, hw]
  exact WordCmp.cmpi_sle_ofNat (by omega) (by omega)

theorem dot_dP (a : FVec Ideal S16x64x8192 .f32) (b : FVec Ideal S16x8192x64 .f32) (h : Fin 16) (i k : Fin 8192) :
    Host.dotGeneral dot_S16x64x8192_S16x8192x64_S16x8192x8192_1_2_2_1_0_0 none a b (ix3 h i k) = ∑ d, a (ix3 h d i) * b (ix3 h k d) := by
  pointwise

theorem dot_dV (a : FVec Ideal S16x64x8192 .f32) (b : FVec Ideal S16x8192x8192 .f32) (h : Fin 16) (k : Fin 8192) (d : Fin 64) :
    transpose S16x8192x64 [0, 2, 1] (Host.dotGeneral dot_S16x64x8192_S16x8192x8192_S16x64x8192_2_1_1_2_0_0 none a b) transposes_S16x64x8192_S16x8192x64_0_2_1 (ix3 h k d)
      = ∑ i, a (ix3 h d i) * b (ix3 h i k) := by
  pointwise

theorem dot_dK (a : FVec Ideal S16x8192x8192 .f32) (b : FVec Ideal S8192x16x64 .f32) (h : Fin 16) (k : Fin 8192) (d : Fin 64) :
    Host.dotGeneral dot_S16x8192x8192_S8192x16x64_S16x8192x64_1_0_2_2_0_1 none a b (ix3 h k d) = ∑ i, a (ix3 h i k) * b (ix3 i h d) := by
  pointwise

theorem dot_dR (a : FVec Ideal S16x8192x8192 .f32) (b : FVec Ideal S8192x16x32 .f32) (k : Fin 8192) (r : Fin 32) :
    Host.dotGeneral dot_S8192x8192x16_S8192x16x32_S8192x32_12_01_0_2_n_n none
      (transpose S8192x8192x16 [2, 1, 0] a transposes_S16x8192x8192_S8192x8192x16_2_1_0) b (ix2 k r) = ∑ h, ∑ i, a (ix3 h i k) * b (ix3 i h r) := by
  pointwise
  rw [Finset.sum_comm]

theorem dot_qr (a : FVec Ideal S16x8192x8192 .f32) (b : FVec Ideal S8192x32 .f32) (i : Fin 8192) (h : Fin 16) (r : Fin 32) :
    Host.dotGeneral dot_S8192x8192x16_S8192x32_S8192x16x32_0_0_12_1_n_n none
      (transpose S8192x8192x16 [2, 1, 0] a transposes_S16x8192x8192_S8192x8192x16_2_1_0) b (ix3 i h r) = ∑ k, a (ix3 h i k) * b (ix2 k r) := by
  pointwise

theorem dot_qn (a : FVec Ideal S16x8192x8192 .f32) (b : FVec Ideal S16x8192x64 .f32) (i : Fin 8192) (h : Fin 16) (d : Fin 64) :
    transpose S8192x16x64 [1, 0, 2] (Host.dotGeneral dot_S16x8192x8192_S16x8192x64_S16x8192x64_2_1_1_2_0_0 none a b) transposes_S16x8192x64_S8192x16x64_1_0_2 (ix3 i h d)
      = ∑ k, a (ix3 h i k) * b (ix3 h k d) := by
  pointwise

theorem cot_read (g : FVec Ideal S8192x1024 .f32) (T : FVec Ideal S16x64x8192 .f32)
    (hT : T = transpose S16x64x8192 [1, 2, 0] (shapeCast S8192x16x64 g shapeCasts_S8192x1024_S8192x16x64) transposes_S8192x16x64_S16x64x8192_1_2_0)
    (h : Fin 16) (d : Fin 64) (i : Fin 8192) : T (ix3 h d i) = g (ix2 i ⟨64 * h.val + d.val, by omega⟩) := by
  subst hT
  pointwise
  exact congrArg g (congrArg (ix2 i) (Fin.ext (by dsimp only; omega)))

theorem ds_read (m : IVec S16x8192x8192 1) (a e : FVec Ideal S16x8192x8192 .f32) (c : FVec Ideal S16x8192x1 .f32) (h : Fin 16) (i k : Fin 8192) :
    mulf (select m (mulf (addf (Host.divf a (broadcastInDim S16x8192x8192 ![0, 1, 2] bcast_S16x8192x1_S16x8192x8192_0_1_2 c))
        (broadcastInDim S16x8192x8192 ![0, 1] bcast_S16x8192_S16x8192x8192_0_1
          (Host.reduceAdd (Host.negf (shapeCast S16x8192x1 (Host.reduceAdd (mulf (mulf a (broadcastInDim S16x8192x8192 ![0, 1, 2] bcast_S16x8192x1_S16x8192x8192_0_1_2
              (Host.divf (broadcastInDim S16x8192x1 ![] bcast_S_S16x8192x1 (constant S_ .f32 0x3F800000#32)) (mulf c c)))) e)
            (constant S_ .f32 0x00000000#32) reducesTo_S16x8192x8192_S16x8192_d2 h_S_) shapeCasts_S16x8192_S16x8192x1))
            (constant S_ .f32 0x00000000#32) reducesTo_S16x8192x1_S16x8192_d2 h_S_))) e)
        (broadcastInDim S16x8192x8192 ![] bcast_S_S16x8192x8192 (constant S_ .f32 0x00000000#32)))
      (broadcastInDim S16x8192x8192 ![] bcast_S_S16x8192x8192 (constant S_ .f32 0x3DD105EC#32)) (ix3 h i k)
      = Scalar.select (m (ix3 h i k)) ((Ideal.div (a (ix3 h i k)) (c (ix3 h i 0))
          + ∑ _u : Fin 1, -∑ k', a (ix3 h i k') * Ideal.div 1 (c (ix3 h i 0) * c (ix3 h i 0)) * e (ix3 h i k')) * e (ix3 h i k)) 0
        * Ideal.ofBits .f32 0x3DD105EC#32 := by
  pointwise

end Cert.Proof.HostRead

end
-- ==== Proof.TileValue.lean ====
/-
  The tiles' arithmetic over the reals: one entry of each product, mask and exponential, from the entries of what the tile
  reads. Below the diagonal and on it, a tile adds the attention's own terms to the three arrays.
-/
module

public import proofs.«01_k».proof.Proof.Tile
public import proofs.«01_k».proof.Proof.Reals
public import Idealize.ShloMosaic.Lib.Pointwise
public import Idealize.ShloMosaic.Lib.WordCmp

@[expose] public section

set_option maxRecDepth 16384

noncomputable section

namespace Cert.Proof.Value

open Cert.KernelIdeal Cert.KernelIdeal.Gen Cert.Proof.Reals Cert.Proof.Body
open Idealize.ShloMosaic
open scoped BigOperators

/-- A finite sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Row `a` of block `n` of 512 rows (modulo 8192, so that no bound is needed). -/
def rowIx (n : ℕ) (a : Fin 512) : Fin 8192 := ⟨(512 * n + a.val) % 8192, Nat.mod_lt _ (by decide)⟩

theorem slab_at {α : Type} (X : S8192x128.Idx → α) (j : ℕ) (b : Fin 512) (l : Fin 128) : slab X j (ix2 b l) = X (ix2 (rowIx j b) l) := by
  rw [ix2_eq_valueIdx, ix2_eq_valueIdx]; rfl

theorem setSlab_at {α : Type} (X : S8192x128.Idx → α) (j : ℕ) (hj : j < 16) (W : S512x128.Idx → α) (k : Fin 8192) (l : Fin 128) :
    setSlab X j W (ix2 k l) = if k.val / 512 = j then W (ix2 ⟨k.val % 512, by omega⟩ l) else X (ix2 k l) := by
  by_cases hk : k.val / 512 = j
  · rw [if_pos hk]
    have e : k = rowIx j ⟨k.val % 512, by omega⟩ := Fin.ext (by show k.val = (512 * j + k.val % 512) % 8192; omega)
    conv_lhs => rw [e]
    rw [← slab_at (setSlab X j W), slab_setSlab_same _ _ hj]
  · rw [if_neg hk]
    have hkl := k.isLt
    have e : k = rowIx (k.val / 512) ⟨k.val % 512, by omega⟩ := Fin.ext (by show k.val = (512 * (k.val / 512) + k.val % 512) % 8192; omega)
    conv_lhs => rw [e]
    conv_rhs => rw [e]
    rw [← slab_at (setSlab X j W), ← slab_at X, slab_setSlab_ne _ _ _ (by omega) (fun h => hk h.symm)]

theorem shift_word : ∀ b : Fin 512, IntOp.shrsi ArithUnit.vector (BitVec.ofNat 32 b.val) 6#32 = BitVec.ofNat 32 (b.val / 64) := by decide

theorem mask_word (a b : Fin 512) :
    IntOp.cmpi CmpIPredicate.sle (IntOp.shrsi ArithUnit.vector (BitVec.ofNat 32 b.val) 6#32) (IntOp.shrsi ArithUnit.vector (BitVec.ofNat 32 a.val) 6#32)
      = BitVec.ofBool (decide (b.val / 64 ≤ a.val / 64)) := by
  rw [shift_word, shift_word]
  exact WordCmp.cmpi_sle_ofNat (by omega) (by omega)

variable (x : Data) (M : Fin 16 → Fin 8192 → ℝ) (h : Fin 16) (n : ℕ)

/-- The saved log-sum of a row. -/
def lseR (i : Fin 8192) : ℝ := M h i + Real.log (∑ k, e x (M h i) h i k)

/-- What block `n` of head `h` brings to its tiles. -/
structure RowsAre (r : Rows Ideal) : Prop where
  q : ∀ a l, r.q (ix2 a l) = ((QL x h (rowIx n a) l : ℝ) : EReal)
  delta : ∀ a l, r.delta (ix2 a l) = ((D x h (rowIx n a) : ℝ) : EReal)
  cot : ∀ a l, r.cot (ix2 a l) = ((CL x h (rowIx n a) l : ℝ) : EReal)
  lse : ∀ a l, r.lse (ix2 a l) = ((lseR x M h (rowIx n a) : ℝ) : EReal)

variable {x M h n} {r : Rows Ideal} (R : RowsAre x M h n r) {K V : Vec Ideal S8192x128 .bf16}
  (hK : ∀ k l, K (ix2 k l) = ((KL x h k l : ℝ) : EReal)) (hV : ∀ k l, V (ix2 k l) = ((VL x h k l : ℝ) : EReal))
include R hK

theorem score_at (j : ℕ) (a b : Fin 512) :
    k0_pay4 r.q r.lse (slab K j) (ix2 a b) = ((Real.exp (s x h (rowIx n a) (rowIx j b) - lseR x M h (rowIx n a)) : ℝ) : EReal) := by
  pointwise [k0_pay4, k0_pay3]
  simp only [R.q, R.lse, slab_at, hK, ofBits_scale, dite_eq_ite, ite_self, ← EReal.coe_mul, ← coe_sum, s_lanes, ← EReal.coe_sub]
  exact Ideal.exp_coe _

theorem weight_at (j : ℕ) (a b : Fin 512) (hk : ok (rowIx n a) (rowIx j b)) :
    k0_pay4 r.q r.lse (slab K j) (ix2 a b) = ((P x h (rowIx n a) (rowIx j b) : ℝ) : EReal) := by
  rw [score_at R hK, lseR, P_lse x _ _ _ _ hk]

theorem weight_diag_at (hn : n < 16) (a b : Fin 512) :
    k0_pay79 r.q r.lse (slab K n) (ix2 a b) = ((P x h (rowIx n a) (rowIx n b) : ℝ) : EReal) := by
  have e : k0_pay79 r.q r.lse (slab K n) (ix2 a b) = if b.val / 64 ≤ a.val / 64 then k0_pay4 r.q r.lse (slab K n) (ix2 a b) else 0 := by
    pointwise [k0_pay79, k0_pay4, k0_pay3]
    rw [mask_word, WordCmp.select_ofBool]
    simp only [decide_eq_true_eq]
  have hiff : ok (rowIx n a) (rowIx n b) ↔ b.val / 64 ≤ a.val / 64 := by
    show (512 * n + b.val) % 8192 / 64 ≤ (512 * n + a.val) % 8192 / 64 ↔ _
    omega
  rw [e]
  split
  · next hh => exact weight_at R hK n a b (hiff.mpr hh)
  · next hh => rw [P_zero x _ _ _ (fun hc => hh (hiff.mp hc)), EReal.coe_zero]

include hV

theorem ds_at (j : ℕ) (a b : Fin 512) (hk : ok (rowIx n a) (rowIx j b)) :
    k0_pay5 r.q r.delta r.cot r.lse (slab K j) (slab V j) (ix2 a b) = ((dS x h (rowIx n a) (rowIx j b) : ℝ) : EReal) := by
  pointwise [k0_pay5]
  simp only [weight_at R hK j a b hk, R.cot, R.delta, slab_at, hV, ofBits_scale, dite_eq_ite, ite_self, ← EReal.coe_mul, ← coe_sum, dP_lanes, ← EReal.coe_sub]
  rfl

theorem ds_diag_at (hn : n < 16) (a b : Fin 512) :
    k0_pay80 r.q r.delta r.cot r.lse (slab K n) (slab V n) (ix2 a b) = ((dS x h (rowIx n a) (rowIx n b) : ℝ) : EReal) := by
  pointwise [k0_pay80]
  simp only [weight_diag_at R hK hn a b, R.cot, R.delta, slab_at, hV, ofBits_scale, dite_eq_ite, ite_self, ← EReal.coe_mul, ← coe_sum, dP_lanes, ← EReal.coe_sub]
  rfl

omit R hK hV in
theorem ok_below {j : ℕ} (hj : j < n) (hn : n < 16) (a b : Fin 512) : ok (rowIx n a) (rowIx j b) := by
  show (512 * j + b.val) % 8192 / 64 ≤ (512 * n + a.val) % 8192 / 64
  omega

/-- The three arrays, as real numbers. -/
structure StAre (S : St Ideal) (fk fv : Fin 8192 → Fin 128 → ℝ) (fq : Fin 512 → Fin 128 → ℝ) : Prop where
  dk : ∀ k l, S.dk (ix2 k l) = ((fk k l : ℝ) : EReal)
  dv : ∀ k l, S.dv (ix2 k l) = ((fv k l : ℝ) : EReal)
  dq : ∀ a l, S.dq (ix2 a l) = ((fq a l : ℝ) : EReal)

variable (x h n) in
/-- What block `n` adds to row `k` of the keys' gradient. -/
def addK (k : Fin 8192) (l : Fin 128) : ℝ := ∑ a : Fin 512, dS x h (rowIx n a) k * QL x h (rowIx n a) l
variable (x h n) in
/-- What block `n` adds to row `k` of the values' gradient. -/
def addV (k : Fin 8192) (l : Fin 128) : ℝ := ∑ a : Fin 512, P x h (rowIx n a) k * CL x h (rowIx n a) l
variable (x h n) in
/-- What the keys of block `j` add to a row of the queries' gradient. -/
def addQ (j : ℕ) (a : Fin 512) (l : Fin 128) : ℝ := ∑ b : Fin 512, dS x h (rowIx n a) (rowIx j b) * KL x h (rowIx j b) l

variable {S : St Ideal} {fk fv : Fin 8192 → Fin 128 → ℝ} {fq : Fin 512 → Fin 128 → ℝ}

omit R hK hV in
theorem row_of {k : Fin 8192} {j : ℕ} (hk : k.val / 512 = j) : rowIx j ⟨k.val % 512, by omega⟩ = k :=
  Fin.ext (by show (512 * j + k.val % 512) % 8192 = k.val; omega)

theorem step_are (hn : n < 16) {j : ℕ} (hj : j < n) (hS : StAre S fk fv fq) :
    StAre (step r K V j S) (fun k l => if k.val / 512 = j then fk k l + addK x h n k l else fk k l)
      (fun k l => if k.val / 512 = j then fv k l + addV x h n k l else fv k l) (fun a l => fq a l + addQ x h n j a l) where
  dk k l := by
    show setSlab _ _ _ (ix2 k l) = _
    rw [setSlab_at _ _ (by omega)]
    split
    · next hk =>
      pointwise [k0_pay7]
      simp only [ds_at R hK hV j _ _ (ok_below hj hn _ _), R.q, slab_at, row_of hk, hS.dk, ← EReal.coe_mul, ← coe_sum, ← EReal.coe_add]
      rfl
    · exact hS.dk k l
  dv k l := by
    show setSlab _ _ _ (ix2 k l) = _
    rw [setSlab_at _ _ (by omega)]
    split
    · next hk =>
      pointwise [k0_pay9, k0_pay8]
      simp only [weight_at R hK j _ _ (ok_below hj hn _ _), R.cot, slab_at, row_of hk, hS.dv, ← EReal.coe_mul, ← coe_sum, ← EReal.coe_add]
      rfl
    · exact hS.dv k l
  dq a l := by
    show k0_pay6 _ _ _ _ _ _ _ (ix2 a l) = _
    pointwise [k0_pay6, k0_pay3]
    simp only [ds_at R hK hV j _ _ (ok_below hj hn _ _), slab_at, hK, hS.dq, ← EReal.coe_mul, ← coe_sum, ← EReal.coe_add]
    rfl

omit R hK hV in
theorem pay78_eq (W : Vec Ideal S512x128 .bf16) : k0_pay78 W = W := by
  funext y
  idx_vars y
  pointwise [k0_pay78]

theorem diag_are (hn : n < 16) (hS : StAre S fk fv fq) :
    StAre (diag r K V n S) (fun k l => if k.val / 512 = n then fk k l + addK x h n k l else fk k l)
      (fun k l => if k.val / 512 = n then fv k l + addV x h n k l else fv k l) (fun a l => fq a l + addQ x h n n a l) where
  dk k l := by
    show setSlab _ _ _ (ix2 k l) = _
    rw [setSlab_at _ _ hn, pay78_eq]
    split
    · next hk =>
      pointwise [k0_pay82]
      simp only [ds_diag_at R hK hV hn, R.q, slab_at, row_of hk, hS.dk, ← EReal.coe_mul, ← coe_sum, ← EReal.coe_add]
      rfl
    · exact hS.dk k l
  dv k l := by
    show setSlab _ _ _ (ix2 k l) = _
    rw [setSlab_at _ _ hn, pay78_eq]
    split
    · next hk =>
      pointwise [k0_pay1, k0_pay83, k0_pay84]
      simp only [weight_diag_at R hK hn, R.cot, slab_at, row_of hk, hS.dv, ← EReal.coe_mul, ← coe_sum, ← EReal.coe_add]
      rfl
    · exact hS.dv k l
  dq a l := by
    show k0_pay81 _ _ _ _ _ _ _ (ix2 a l) = _
    rw [pay78_eq]
    pointwise [k0_pay81]
    simp only [ds_diag_at R hK hV hn, slab_at, hK, hS.dq, ← EReal.coe_mul, ← coe_sum, ← EReal.coe_add]
    rfl

theorem steps_are (hn : n < 16) (hS : StAre S fk fv fq) : ∀ m ≤ n,
    StAre (steps r K V S m) (fun k l => if k.val / 512 < m then fk k l + addK x h n k l else fk k l)
      (fun k l => if k.val / 512 < m then fv k l + addV x h n k l else fv k l) (fun a l => fq a l + ∑ j ∈ Finset.range m, addQ x h n j a l) := by
  intro m
  induction m with
  | zero =>
    intro _
    exact ⟨fun k l => by rw [if_neg (by omega)]; exact hS.dk k l, fun k l => by rw [if_neg (by omega)]; exact hS.dv k l,
      fun a l => by rw [Finset.sum_range_zero, add_zero]; exact hS.dq a l⟩
  | succ m ih =>
    intro hm
    have H := step_are R hK hV hn (j := m) (by omega) (ih (by omega))
    refine ⟨fun k l => (H.dk k l).trans (congrArg _ ?_), fun k l => (H.dv k l).trans (congrArg _ ?_), fun a l => (H.dq a l).trans (congrArg _ ?_)⟩
    · by_cases h1 : k.val / 512 = m
      · rw [if_pos h1, if_neg (by omega), if_pos (by omega)]
      · rw [if_neg h1]; by_cases h2 : k.val / 512 < m
        · rw [if_pos h2, if_pos (by omega)]
        · rw [if_neg h2, if_neg (by omega)]
    · by_cases h1 : k.val / 512 = m
      · rw [if_pos h1, if_neg (by omega), if_pos (by omega)]
      · rw [if_neg h1]; by_cases h2 : k.val / 512 < m
        · rw [if_pos h2, if_pos (by omega)]
        · rw [if_neg h2, if_neg (by omega)]
    · rw [Finset.sum_range_succ, add_assoc]

omit R hK hV in
theorem not_ok_above {k : Fin 8192} (hn : n < 16) (hk : n < k.val / 512) (a : Fin 512) : ¬ ok (rowIx n a) k := by
  show ¬ k.val / 64 ≤ (512 * n + a.val) % 8192 / 64
  omega

omit R hK hV in
theorem addK_above {k : Fin 8192} (hn : n < 16) (hk : n < k.val / 512) (l : Fin 128) : addK x h n k l = 0 :=
  Finset.sum_eq_zero fun a _ => by rw [dS_zero x h _ _ (not_ok_above hn hk a), zero_mul]

omit R hK hV in
theorem addV_above {k : Fin 8192} (hn : n < 16) (hk : n < k.val / 512) (l : Fin 128) : addV x h n k l = 0 :=
  Finset.sum_eq_zero fun a _ => by rw [P_zero x h _ _ (not_ok_above hn hk a), zero_mul]

omit R hK hV in
/-- Row `a` of block `n`, over all keys, is the queries' gradient. -/
theorem sum_blocks (f : Fin 8192 → ℝ) : ∑ j ∈ Finset.range 16, ∑ b : Fin 512, f (rowIx j b) = ∑ k, f k := by
  rw [Finset.sum_range]
  rw [← Finset.sum_product']
  refine Fintype.sum_equiv (finProdFinEquiv (m := 16) (n := 512)) (fun p => f (rowIx p.1.val p.2)) f fun p => congrArg f (Fin.ext ?_)
  show (512 * p.1.val + p.2.val) % 8192 = p.2.val + 512 * p.1.val
  omega

omit R hK hV in
theorem addQ_above (hn : n < 16) {j : ℕ} (hj : n < j) (hj' : j < 16) (a : Fin 512) (l : Fin 128) : addQ x h n j a l = 0 :=
  Finset.sum_eq_zero fun b _ => by
    rw [dS_zero x h _ _ (not_ok_above hn (k := rowIx j b) (by show n < (512 * j + b.val) % 8192 / 512; omega) a), zero_mul]

omit R hK hV in
theorem sum_addQ (hn : n < 16) (a : Fin 512) (l : Fin 128) : ∑ j ∈ Finset.range (n + 1), addQ x h n j a l = dQ x h (rowIx n a) l := by
  have e : dQ x h (rowIx n a) l = ∑ j ∈ Finset.range 16, addQ x h n j a l :=
    (sum_blocks fun k => dS x h (rowIx n a) k * KL x h k l).symm
  rw [e]
  refine Finset.sum_subset (Finset.range_subset_range.mpr (by omega)) fun j hj hj' => ?_
  rw [Finset.mem_range] at hj hj'
  exact addQ_above hn (by omega) hj a l

/-- A whole block of query rows. -/
theorem block_are (hn : n < 16) (hS : StAre S fk fv fun _ _ => 0) :
    StAre (diag r K V n (steps r K V S n)) (fun k l => fk k l + addK x h n k l) (fun k l => fv k l + addV x h n k l)
      (fun a l => dQ x h (rowIx n a) l) := by
  have H := diag_are R hK hV hn (steps_are R hK hV hn hS n (le_refl n))
  refine ⟨fun k l => (H.dk k l).trans (congrArg _ ?_), fun k l => (H.dv k l).trans (congrArg _ ?_), fun a l => (H.dq a l).trans (congrArg _ ?_)⟩
  · by_cases h1 : k.val / 512 = n
    · rw [if_pos h1, if_neg (by omega)]
    · rw [if_neg h1]; by_cases h2 : k.val / 512 < n
      · rw [if_pos h2]
      · rw [if_neg h2, addK_above hn (by omega), add_zero]
  · by_cases h1 : k.val / 512 = n
    · rw [if_pos h1, if_neg (by omega)]
    · rw [if_neg h1]; by_cases h2 : k.val / 512 < n
      · rw [if_pos h2]
      · rw [if_neg h2, addV_above hn (by omega), add_zero]
  · rw [zero_add, ← Finset.sum_range_succ, sum_addQ hn]

end Cert.Proof.Value

end
-- ==== Proof.RowsValue.lean ====
/-
  What the blocks of a grid point bring to the tiles, over the reals: the queries are rotated, the row sums and the head's half
  of the cotangents are taken; and the queries' gradient is rotated back.
-/
module

public import proofs.«01_k».proof.Proof.Body
public import proofs.«01_k».proof.Proof.TileValue

@[expose] public section

set_option maxRecDepth 16384

noncomputable section

namespace Cert.Proof.Value

open Cert.KernelIdeal Cert.KernelIdeal.Gen Cert.Proof.Reals Cert.Proof.Body
open Idealize.ShloMosaic
open scoped BigOperators

theorem laneStart_eq : ∀ i : grid0.Coords, laneStart i = BitVec.ofNat 32 (64 * ((i 0).val % 2)) := by decide +kernel

theorem mask_lane : ∀ (b : Fin 2) (l : Fin 128),
    IntOp.andi (IntOp.cmpi CmpIPredicate.sge (BitVec.ofNat 32 l.val) (BitVec.ofNat 32 (64 * b.val)))
      (IntOp.cmpi CmpIPredicate.slt (BitVec.ofNat 32 l.val) (Scalar.addi (BitVec.ofNat 32 (64 * b.val)) 64#32)) = BitVec.ofBool (decide (l.val / 64 = b.val)) := by
  decide +kernel

theorem pay67_at (i : grid0.Coords) (a : Fin 512) (l : Fin 128) :
    k0_pay67 i (ix2 a l) = BitVec.ofBool (decide (l.val / 64 = (i 0).val % 2)) := by
  have e : k0_pay67 i (ix2 a l) = IntOp.andi (IntOp.cmpi CmpIPredicate.sge (BitVec.ofNat 32 l.val) (laneStart i))
      (IntOp.cmpi CmpIPredicate.slt (BitVec.ofNat 32 l.val) (Scalar.addi (laneStart i) 64#32)) := by
    pointwise [k0_pay67]
    rfl
  rw [e, laneStart_eq]
  exact mask_lane ⟨(i 0).val % 2, by omega⟩ l

theorem pay66_at (cT aT bT q : Vec Ideal S512x128 .f32) (a : Fin 512) (l : Fin 128) :
    k0_pay66 cT aT bT q (ix2 a l) = q (ix2 a l) * cT (ix2 a l) + q (ix2 a ⟨(l.val + 128 - 112) % 128, by omega⟩) * aT (ix2 a l)
      + q (ix2 a ⟨(l.val + 128 - 16) % 128, by omega⟩) * bT (ix2 a l) := by
  pointwise [k0_pay66, k0_pay61, k0_pay62, k0_pay63]

theorem dqOut_at (cT aT bT y : Vec Ideal S512x128 .f32) (a : Fin 512) (l : Fin 128) :
    dqOut cT aT bT y (ix2 a l) = y (ix2 a l) * cT (ix2 a l)
      + y (ix2 a ⟨(l.val + 128 - 16) % 128, by omega⟩) * aT (ix2 a ⟨(l.val + 128 - 16) % 128, by omega⟩)
      + y (ix2 a ⟨(l.val + 128 - 112) % 128, by omega⟩) * bT (ix2 a ⟨(l.val + 128 - 112) % 128, by omega⟩) := by
  pointwise [dqOut, k0_pay2, k0_pay61, k0_pay62, k0_pay63]

theorem pay68_at (M : IVec S512x128 1) (g o : Vec Ideal S512x128 .f32) (a : Fin 512) (l : Fin 128) :
    k0_pay68 M g o (ix2 a l) = ∑ j, Scalar.select (M (ix2 a j)) (g (ix2 a j) * o (ix2 a j)) 0 := by
  pointwise [k0_pay68]

theorem half_word : ∀ b : Fin 2, IntOp.cmpi CmpIPredicate.sgt (IntOp.addi (BitVec.ofNat 32 (64 * b.val)) 0#32) 0#32 = BitVec.ofBool (decide (b.val = 1)) := by
  decide +kernel

theorem low_word : ∀ l : Fin 128, IntOp.cmpi CmpIPredicate.slt (BitVec.ofNat 32 l.val) 64#32 = BitVec.ofBool (decide (l.val < 64)) := by decide +kernel

theorem pay69_at (i : grid0.Coords) (g : Vec Ideal S512x128 .f32) (a : Fin 512) (l : Fin 128) :
    k0_pay69 (iota .tc S512x128 32 [1] iota_S512x128_d1_w32) (laneStart i) g (ix2 a l)
      = if l.val < 64 then g (ix2 a ⟨(l.val + 64 * ((i 0).val % 2)) % 128, by omega⟩) else 0 := by
  rw [laneStart_eq]
  have e : ∀ L : BitVec 32, k0_pay69 (iota .tc S512x128 32 [1] iota_S512x128_d1_w32) L g (ix2 a l)
      = Scalar.select (IntOp.cmpi CmpIPredicate.slt (BitVec.ofNat 32 l.val) 64#32)
      (Scalar.select (IntOp.cmpi CmpIPredicate.sgt (IntOp.addi L 0#32) 0#32) (g (ix2 a ⟨(l.val + 128 - 64) % 128, by omega⟩))
        (g (ix2 a l))) (0 : EReal) := by
    intro L
    pointwise [k0_pay69]
  rw [e, low_word, half_word ⟨(i 0).val % 2, by omega⟩, WordCmp.select_ofBool, WordCmp.select_ofBool]
  simp only [decide_eq_true_eq]
  by_cases h1 : l.val < 64
  · rw [if_pos h1, if_pos h1]
    by_cases h2 : (i 0).val % 2 = 1
    · rw [if_pos h2]; exact congrArg g (congrArg (ix2 a) (Fin.ext (by dsimp only; omega)))
    · rw [if_neg h2]; exact congrArg g (congrArg (ix2 a) (Fin.ext (by dsimp only; omega)))
  · rw [if_neg h1, if_neg h1]

theorem pay70_at (L : Vec Ideal S1x512x1 .f32) (a : Fin 512) (l : Fin 128) : k0_pay70 L (ix2 a l) = L (ix3 0 a 0) := by
  pointwise [k0_pay70]

/-- A query padded to 128 lanes. -/
def qP (x : Data) (h : Fin 16) (i : Fin 8192) (l : Fin 128) : ℝ := if hl : l.val < 96 then x.q i h ⟨l.val, hl⟩ else 0
/-- The rotation's three tables. -/
def cT (x : Data) (i : Fin 8192) (l : Fin 128) : ℝ :=
  if l.val < 64 then 1 else if h2 : l.val < 80 then x.cs i ⟨l.val - 64, by omega⟩ else if h3 : l.val < 96 then x.cs i ⟨l.val - 80, by omega⟩ else 1
def aT (x : Data) (i : Fin 8192) (l : Fin 128) : ℝ := if h1 : 64 ≤ l.val ∧ l.val < 80 then -x.sn i ⟨l.val - 64, by omega⟩ else 0
def bT (x : Data) (i : Fin 8192) (l : Fin 128) : ℝ := if h1 : 80 ≤ l.val ∧ l.val < 96 then x.sn i ⟨l.val - 80, by omega⟩ else 0
/-- The head that a lane of a pair of heads belongs to. -/
def headOf (h : Fin 16) (l : Fin 128) : Fin 16 := ⟨2 * (h.val / 2) + l.val / 64, by omega⟩

variable (x : Data) (M : Fin 16 → Fin 8192 → ℝ) (h : Fin 16) (n : ℕ)

/-- The blocks of one grid point, as real numbers. -/
structure BlocksAre (q c a b o g : Vec Ideal S512x128 .f32) (L : Vec Ideal S1x512x1 .f32) : Prop where
  q : ∀ r l, q (ix2 r l) = ((qP x h (rowIx n r) l : ℝ) : EReal)
  c : ∀ r l, c (ix2 r l) = ((cT x (rowIx n r) l : ℝ) : EReal)
  a : ∀ r l, a (ix2 r l) = ((aT x (rowIx n r) l : ℝ) : EReal)
  b : ∀ r l, b (ix2 r l) = ((bT x (rowIx n r) l : ℝ) : EReal)
  o : ∀ r l, o (ix2 r l) = ((O x (headOf h l) (rowIx n r) ⟨l.val % 64, by omega⟩ : ℝ) : EReal)
  g : ∀ r l, g (ix2 r l) = ((G x (headOf h l) (rowIx n r) ⟨l.val % 64, by omega⟩ : ℝ) : EReal)
  L : ∀ r, L (ix3 0 r 0) = ((lseR x M h (rowIx n r) : ℝ) : EReal)

theorem rotate (i : Fin 8192) (l : Fin 128) :
    qP x h i l * cT x i l + qP x h i ⟨(l.val + 128 - 112) % 128, by omega⟩ * aT x i l + qP x h i ⟨(l.val + 128 - 16) % 128, by omega⟩ * bT x i l = QL x h i l := by
  unfold qP cT aT bT QL QR
  dsimp only
  rcases Nat.lt_or_ge l.val 64 with c1 | c1
  · have d1 : l.val < 96 := by omega
    have d2 : ¬ 64 ≤ l.val := by omega
    have d3 : ¬ 80 ≤ l.val := by omega
    simp only [c1, d1, d2, d3, false_and, dite_true, if_true, dite_false, mul_one, mul_zero, add_zero]
  rcases Nat.lt_or_ge l.val 80 with c2 | c2
  · have d0 : ¬ l.val < 64 := by omega
    have d1 : l.val < 96 := by omega
    have d2 : 64 ≤ l.val := c1
    have d3 : ¬ 80 ≤ l.val := by omega
    have d4 : (l.val + 128 - 112) % 128 < 96 := by omega
    have d5 : l.val - 64 < 16 := by omega
    simp only [d0, c2, d1, d2, d3, d4, d5, false_and, and_self, dite_true, if_false, dite_false, mul_zero, add_zero]
    have e1 : (⟨(l.val + 128 - 112) % 128, d4⟩ : Fin 96) = ⟨80 + (l.val - 64), by omega⟩ := Fin.ext (by dsimp only; omega)
    have e2 : (⟨l.val, d1⟩ : Fin 96) = ⟨64 + (l.val - 64), by omega⟩ := Fin.ext (by dsimp only; omega)
    rw [e1, e2]; ring
  rcases Nat.lt_or_ge l.val 96 with c3 | c3
  · have d0 : ¬ l.val < 64 := by omega
    have d1 : ¬ l.val < 80 := by omega
    have d3 : 80 ≤ l.val := c2
    have d4 : (l.val + 128 - 16) % 128 < 96 := by omega
    have d5 : ¬ l.val - 64 < 16 := by omega
    simp only [d0, c3, d1, d3, d4, d5, and_false, and_self, dite_true, if_false, dite_false, mul_zero, add_zero]
    have e1 : (⟨(l.val + 128 - 16) % 128, d4⟩ : Fin 96) = ⟨48 + (l.val - 64), by omega⟩ := Fin.ext (by dsimp only; omega)
    have e2 : (⟨l.val, c3⟩ : Fin 96) = ⟨64 + (l.val - 64), by omega⟩ := Fin.ext (by dsimp only; omega)
    have e3 : (⟨l.val - 64 - 16, by omega⟩ : Fin 16) = ⟨l.val - 80, by omega⟩ := Fin.ext (by dsimp only; omega)
    rw [e1, e2, e3]
  · have d0 : ¬ l.val < 64 := by omega
    have d1 : ¬ l.val < 80 := by omega
    have d4 : ¬ l.val < 96 := by omega
    simp only [d0, d1, d4, and_false, if_false, dite_false, mul_zero, add_zero, zero_mul]

theorem rotate_back (i : Fin 8192) (l : Fin 128) (c : Fin 96) (hc : c.val = l.val) :
    dQ x h i l * cT x i l + dQ x h i ⟨(l.val + 128 - 16) % 128, by omega⟩ * aT x i ⟨(l.val + 128 - 16) % 128, by omega⟩
      + dQ x h i ⟨(l.val + 128 - 112) % 128, by omega⟩ * bT x i ⟨(l.val + 128 - 112) % 128, by omega⟩ = outQ x i h c := by
  have hl : (⟨c.val, by omega⟩ : Fin 128) = l := Fin.ext hc
  unfold cT aT bT outQ
  dsimp only
  rcases Nat.lt_or_ge l.val 64 with c1 | c1
  · have d0 : c.val < 64 := by omega
    have d2 : ¬ (64 ≤ (l.val + 128 - 16) % 128 ∧ (l.val + 128 - 16) % 128 < 80) := by omega
    have d3 : ¬ (80 ≤ (l.val + 128 - 112) % 128 ∧ (l.val + 128 - 112) % 128 < 96) := by omega
    simp only [c1, d0, d2, d3, dite_true, if_true, dite_false, mul_one, mul_zero, add_zero, hl]
  rcases Nat.lt_or_ge l.val 80 with c2 | c2
  · have d0 : ¬ l.val < 64 := by omega
    have d1 : ¬ c.val < 64 := by omega
    have d6 : c.val < 80 := by omega
    have d2 : ¬ (64 ≤ (l.val + 128 - 16) % 128 ∧ (l.val + 128 - 16) % 128 < 80) := by omega
    have d3 : (80 ≤ (l.val + 128 - 112) % 128 ∧ (l.val + 128 - 112) % 128 < 96) := by omega
    simp only [d0, c2, d1, d6, d2, d3, dite_true, if_false, dite_false, mul_zero, add_zero, hl, and_self]
    have e1 : (⟨(l.val + 128 - 112) % 128, by omega⟩ : Fin 128) = ⟨c.val + 16, by omega⟩ := Fin.ext (by dsimp only; omega)
    have e2 : (⟨(l.val + 128 - 112) % 128 - 80, by omega⟩ : Fin 16) = ⟨c.val - 64, by omega⟩ := Fin.ext (by dsimp only; omega)
    have e3 : (⟨l.val - 64, by omega⟩ : Fin 16) = ⟨c.val - 64, by omega⟩ := Fin.ext (by dsimp only; omega)
    exact congrArg₂ (· + ·) (congrArg (dQ x h i l * ·) (congrArg (x.cs i) e3)) (congrArg₂ (· * ·) (congrArg (dQ x h i) e1) (congrArg (x.sn i) e2))
  · have d0 : ¬ l.val < 64 := by omega
    have d1 : ¬ c.val < 64 := by omega
    have d5 : ¬ l.val < 80 := by omega
    have d6 : ¬ c.val < 80 := by omega
    have d7 : l.val < 96 := by omega
    have d2 : (64 ≤ (l.val + 128 - 16) % 128 ∧ (l.val + 128 - 16) % 128 < 80) := by omega
    have d3 : ¬ (80 ≤ (l.val + 128 - 112) % 128 ∧ (l.val + 128 - 112) % 128 < 96) := by omega
    simp only [d0, d5, d7, d1, d6, d2, d3, dite_true, if_false, dite_false, mul_zero, add_zero, hl, and_self]
    have e1 : (⟨(l.val + 128 - 16) % 128, by omega⟩ : Fin 128) = ⟨c.val - 16, by omega⟩ := Fin.ext (by dsimp only; omega)
    have e2 : (⟨(l.val + 128 - 16) % 128 - 64, by omega⟩ : Fin 16) = ⟨c.val - 80, by omega⟩ := Fin.ext (by dsimp only; omega)
    have e3 : (⟨l.val - 80, by omega⟩ : Fin 16) = ⟨c.val - 80, by omega⟩ := Fin.ext (by dsimp only; omega)
    exact (congrArg₂ (· + ·) (congrArg (dQ x h i l * ·) (congrArg (x.cs i) e3)) (congrArg₂ (· * ·) (congrArg (dQ x h i) e1) (congrArg (fun z => -x.sn i z) e2))).trans
      (by ring)

/-- The masked sum over a pair's lanes is the head's own sum. -/
theorem pair_sum (i : Fin 8192) :
    ∑ l : Fin 128, (if l.val / 64 = h.val % 2 then G x (headOf h l) i ⟨l.val % 64, by omega⟩ * O x (headOf h l) i ⟨l.val % 64, by omega⟩ else 0) = D x h i := by
  rw [← D_output]
  refine (Fin.sum_univ_add (a := 64) (b := 64) _).trans ?_
  rcases Nat.mod_two_eq_zero_or_one h.val with c | c
  · have e2 : ∀ d : Fin 64, ¬ ((Fin.natAdd 64 d : Fin (64 + 64)).val / 64 = h.val % 2) := fun d => by rw [Fin.val_natAdd]; omega
    have e1 : ∀ d : Fin 64, ((Fin.castAdd 64 d : Fin (64 + 64)).val / 64 = h.val % 2) := fun d => by rw [Fin.val_castAdd]; omega
    simp only [e1, e2, if_true, if_false, Finset.sum_const_zero, add_zero]
    refine Finset.sum_congr rfl fun d _ => ?_
    have a1 : headOf h (Fin.castAdd 64 d : Fin (64 + 64)) = h := Fin.ext (by unfold headOf; dsimp only [Fin.val_castAdd]; omega)
    have a2 : (⟨(Fin.castAdd 64 d : Fin (64 + 64)).val % 64, by omega⟩ : Fin 64) = d := Fin.ext (by dsimp only [Fin.val_castAdd]; omega)
    rw [a1, a2]
  · have e2 : ∀ d : Fin 64, ((Fin.natAdd 64 d : Fin (64 + 64)).val / 64 = h.val % 2) := fun d => by rw [Fin.val_natAdd]; omega
    have e1 : ∀ d : Fin 64, ¬ ((Fin.castAdd 64 d : Fin (64 + 64)).val / 64 = h.val % 2) := fun d => by rw [Fin.val_castAdd]; omega
    simp only [e1, e2, if_true, if_false, Finset.sum_const_zero, zero_add]
    refine Finset.sum_congr rfl fun d _ => ?_
    have a1 : headOf h (Fin.natAdd 64 d : Fin (64 + 64)) = h := Fin.ext (by unfold headOf; dsimp only [Fin.val_natAdd]; omega)
    have a2 : (⟨(Fin.natAdd 64 d : Fin (64 + 64)).val % 64, by omega⟩ : Fin 64) = d := Fin.ext (by dsimp only [Fin.val_natAdd]; omega)
    rw [a1, a2]

variable {x M h n} {q c a b o g : Vec Ideal S512x128 .f32} {L : Vec Ideal S1x512x1 .f32} (B : BlocksAre x M h n q c a b o g L)
include B

theorem rows_are (i : grid0.Coords) (hi : (i 0).val = h.val) : RowsAre x M h n (rowsOf i q c a b o L g) := by
  refine ⟨fun r l => ?_, fun r l => ?_, fun r l => ?_, fun r l => ?_⟩
  · refine (pay66_at c a b q r l).trans ?_
    simp only [B.q, B.c, B.a, B.b, ← EReal.coe_mul, ← EReal.coe_add]
    exact congrArg _ (rotate x h (rowIx n r) l)
  · refine (pay68_at _ g o r l).trans ?_
    have e : ∀ j : Fin 128, Scalar.select (k0_pay67 i (ix2 r j)) (g (ix2 r j) * o (ix2 r j)) (0 : EReal)
        = (((if j.val / 64 = h.val % 2 then G x (headOf h j) (rowIx n r) ⟨j.val % 64, by omega⟩ * O x (headOf h j) (rowIx n r) ⟨j.val % 64, by omega⟩ else 0) : ℝ) : EReal) := by
      intro j
      rw [pay67_at, WordCmp.select_ofBool, hi, B.g, B.o, ← EReal.coe_mul]
      simp only [decide_eq_true_eq]
      by_cases hj : j.val / 64 = h.val % 2
      · rw [if_pos hj, if_pos hj]
      · rw [if_neg hj, if_neg hj]; exact EReal.coe_zero.symm
    simp only [e, ← coe_sum]
    exact congrArg _ (pair_sum x h (rowIx n r))
  · refine (pay69_at i g r l).trans ?_
    unfold CL
    by_cases c1 : l.val < 64
    · rw [if_pos c1, dif_pos c1, B.g]
      have a1 : headOf h ⟨(l.val + 64 * ((i 0).val % 2)) % 128, by omega⟩ = h := Fin.ext (by unfold headOf; dsimp only; omega)
      have a2 : (⟨(l.val + 64 * ((i 0).val % 2)) % 128 % 64, by omega⟩ : Fin 64) = ⟨l.val, c1⟩ := Fin.ext (by dsimp only; omega)
      exact congrArg _ (congrArg₂ (fun u v => G x u (rowIx n r) v) a1 a2)
    · rw [if_neg c1, dif_neg c1]; exact EReal.coe_zero.symm
  · exact (pay70_at L r l).trans (B.L r)

/-- The queries' gradient that the point writes. -/
theorem dq_out {y : Vec Ideal S512x128 .f32} (hy : ∀ r l, y (ix2 r l) = ((dQ x h (rowIx n r) l : ℝ) : EReal)) (r : Fin 512) (l : Fin 128) (c' : Fin 96)
    (hc : c'.val = l.val) : dqOut c a b y (ix2 r l) = ((outQ x (rowIx n r) h c' : ℝ) : EReal) := by
  refine (dqOut_at c a b y r l).trans ?_
  simp only [hy, B.c, B.a, B.b, ← EReal.coe_mul, ← EReal.coe_add]
  exact congrArg _ (rotate_back x h (rowIx n r) l c' hc)

end Cert.Proof.Value

end
-- ==== Proof.KernelHost.lean ====
/-
  What the kernel's host lines hand to the grid, read at an index: the padded queries, keys and values, the rotation's tables,
  the saved outputs and the saved log-sums.
-/
module

public import proofs.«01_k».proof.Proof.Gen.KernelIdeal.Frame
public import proofs.«01_k».proof.Proof.HostRead
public import proofs.«01_k».proof.Proof.RowsValue

@[expose] public section

set_option maxRecDepth 16384

noncomputable section

namespace Cert.Proof.KHost

open Cert.KernelIdeal Cert.KernelIdeal.Gen Cert.Proof.Reals Cert.Proof.HostMath
open Idealize.ShloMosaic Idealize.ShloMosaic.TcCoe Idealize.ShloMosaic.StableHlo
open scoped BigOperators

/-- The arguments' buffers hold the reals `x`. -/
structure Holds (V : Valuation τ sig (Elt Ideal)) (x : Data) : Prop where
  q : ∀ i h d, V (Proc.devRef .tc main_arg0) (ix3 i h d) = ((x.q i h d : ℝ) : EReal)
  kn : ∀ h k d, V (Proc.devRef .tc main_arg1) (ix3 h k d) = ((x.kn h k d : ℝ) : EReal)
  kr : ∀ k r, V (Proc.devRef .tc main_arg2) (ix2 k r) = ((x.kr k r : ℝ) : EReal)
  v : ∀ h k d, V (Proc.devRef .tc main_arg3) (ix3 h k d) = ((x.v h k d : ℝ) : EReal)
  cs : ∀ i r, V (Proc.devRef .tc main_arg4) (ix2 i r) = ((x.cs i r : ℝ) : EReal)
  sn : ∀ i r, V (Proc.devRef .tc main_arg5) (ix2 i r) = ((x.sn i r : ℝ) : EReal)
  g : ∀ i d, V (Proc.devRef .tc main_arg6) (ix2 i d) = ((x.g i d : ℝ) : EReal)

variable (W U : Valuation τ sig (Elt Ideal))

/-- After the masked scores. -/
def U3 : Valuation τ sig (Elt Ideal) := after hostOps0_3 (after hostOps0_2 (after hostOps0_1 (after hostOps0 W)))
/-- After the saved arrays. -/
def U4 : Valuation τ sig (Elt Ideal) := after hostOps0_4 (U3 W)
/-- After the paddings. -/
def U9 : Valuation τ sig (Elt Ideal) := after hostOps0_9 (after hostOps0_8 (after hostOps0_7 (after hostOps0_6 (after hostOps0_5 (U4 W)))))
/-- As the grid finds it. -/
def U12 : Valuation τ sig (Elt Ideal) := after hostOps0_12 (after hostOps0_11 (after hostOps0_10 (U9 W)))

theorem V0_eq (m : (ℓ : Loc nD τ sig) → Buf (Elt Ideal) ℓ) (c : Dev nD) : V0 m c = U12 (fun b => m (c, b)) := by
  unfold V0 U12 U9 U4 U3
  simp only [List.flatten_cons, List.flatten_nil, List.append_nil, StableHlo.after_append]

/-! The queries' rotated half, the chunks, the scores -/

theorem v0_at (i : Fin 8192) (h : Fin 16) (d : Fin 64) :
    after hostOps0 U (Proc.devRef .tc main_v0) (ix3 i h d) = U (Proc.devRef .tc main_arg0) (ix3 i h ⟨d.val, by omega⟩) := by
  after_results_simp
  pointwise

theorem QR_eq (x : Data) (i : Fin 8192) (h : Fin 16) (r : Fin 32) : QR x i h r
    = if hr : r.val < 16 then x.q i h ⟨64 + r.val, by omega⟩ * x.cs i ⟨r.val, hr⟩ - x.q i h ⟨64 + (16 + r.val), by omega⟩ * x.sn i ⟨r.val, hr⟩
      else x.q i h ⟨64 + (16 + (r.val - 16)), by omega⟩ * x.cs i ⟨r.val - 16, by omega⟩ + x.q i h ⟨64 + (r.val - 16), by omega⟩ * x.sn i ⟨r.val - 16, by omega⟩ := by
  unfold QR
  split
  · have e1 : (⟨64 + (16 + r.val), by omega⟩ : Fin 96) = ⟨80 + r.val, by omega⟩ := Fin.ext (by dsimp only; omega)
    rw [e1]
  · have e1 : (⟨64 + (16 + (r.val - 16)), by omega⟩ : Fin 96) = ⟨64 + r.val, by omega⟩ := Fin.ext (by dsimp only; omega)
    have e2 : (⟨64 + (r.val - 16), by omega⟩ : Fin 96) = ⟨48 + r.val, by omega⟩ := Fin.ext (by dsimp only; omega)
    rw [e1, e2]

theorem v16_at {x : Data} (H : Holds U x) (i : Fin 8192) (h : Fin 16) (r : Fin 32) :
    after hostOps0 U (Proc.devRef .tc main_v16) (ix3 i h r) = ((QR x i h r : ℝ) : EReal) := by
  rw [QR_eq]
  after_results_simp
  pointwise
  simp only [H.q, H.cs, H.sn]
  split
  · exact ((EReal.coe_sub _ _).trans (congrArg₂ (fun a b : EReal => a - b) (EReal.coe_mul _ _) (EReal.coe_mul _ _))).symm
  · exact ((EReal.coe_add _ _).trans (congrArg₂ (fun a b : EReal => a + b) (EReal.coe_mul _ _) (EReal.coe_mul _ _))).symm

theorem v18_at (k : Fin 8192) : after hostOps0_1 (after hostOps0 U) (Proc.devRef .tc main_v18) (ix1 k) = BitVec.ofNat 32 (k.val / 64) := by
  simp only [hostOps0_1, TRef.binary, TRef.nullary, TRef.unary, TRef.ternary, TRef.toBuf, TRef.ofBuf, cast_eq]
  after_results_simp
  pointwise
  exact chunk_word k.val k.isLt

theorem v24_at {x : Data} (h0 : ∀ (i : Fin 8192) (h : Fin 16) (d : Fin 64), U (Proc.devRef .tc main_v0) (ix3 i h d) = ((x.q i h ⟨d.val, by omega⟩ : ℝ) : EReal))
    (h1 : ∀ (i : Fin 8192) (h : Fin 16) (r : Fin 32), U (Proc.devRef .tc main_v16) (ix3 i h r) = ((QR x i h r : ℝ) : EReal))
    (h2 : ∀ (h : Fin 16) (k : Fin 8192) (d : Fin 64), U (Proc.devRef .tc main_arg1) (ix3 h k d) = ((x.kn h k d : ℝ) : EReal))
    (h3 : ∀ (k : Fin 8192) (r : Fin 32), U (Proc.devRef .tc main_arg2) (ix2 k r) = ((x.kr k r : ℝ) : EReal))
    (h : Fin 16) (i k : Fin 8192) : after hostOps0_2 U (Proc.devRef .tc main_v24) (ix3 h i k) = ((s x h i k : ℝ) : EReal) := by
  after_results_simp
  refine (HostRead.scores _ _ _ _ h i k).trans ?_
  simp only [h0, h1, h2, h3, ofBits_scale, ← EReal.coe_mul, ← coe_sum, ← EReal.coe_add]
  rfl

theorem v30_at {x : Data} (hw : ∀ k : Fin 8192, U (Proc.devRef .tc main_v18) (ix1 k) = BitVec.ofNat 32 (k.val / 64))
    (hs : ∀ (h : Fin 16) (i k : Fin 8192), after hostOps0_2 U (Proc.devRef .tc main_v24) (ix3 h i k) = ((s x h i k : ℝ) : EReal))
    (h : Fin 16) (i k : Fin 8192) :
    after hostOps0_3 (after hostOps0_2 U) (Proc.devRef .tc main_v30) (ix3 h i k) = row x h i k := by
  have e : after hostOps0_3 (after hostOps0_2 U) (Proc.devRef .tc main_v30)
      = select (broadcastInDim S16x8192x8192 ![1, 2] bcast_S8192x8192_S16x8192x8192_1_2
        (cmpi .sle (broadcastInDim S8192x8192 ![0, 1] bcast_S1x8192_S8192x8192_0_1 (broadcastInDim S1x8192 ![1] bcast_S8192_S1x8192_1 (U (Proc.devRef .tc main_v18))))
          (broadcastInDim S8192x8192 ![0, 1] bcast_S8192x1_S8192x8192_0_1 (broadcastInDim S8192x1 ![0] bcast_S8192_S8192x1_0 (U (Proc.devRef .tc main_v18))))))
        (after hostOps0_2 U (Proc.devRef .tc main_v24)) (broadcastInDim S16x8192x8192 ![] bcast_S_S16x8192x8192 (id (constant (F := Ideal) S_ .f32 0xFF800000#32))) := by
    simp only [hostOps0_3, TRef.binary, TRef.nullary, TRef.unary, TRef.ternary, TRef.toBuf, TRef.ofBuf, cast_eq]
    after_results_simp
  rw [e]
  refine (HostRead.masked _ _ h i k).trans ?_
  refine (congrArg₂ (fun a b => Scalar.select a b (⊥ : EReal)) (HostRead.chunk_mask _ hw h i k) (hs h i k)).trans ?_
  rw [WordCmp.select_ofBool]
  unfold row
  simp only [decide_eq_true_eq]

/-! The saved log-sums and outputs -/

theorem row_lse (A : FVec Ideal S16x8192x8192 .f32) (B : FVec Ideal S16x8192 .f32) (h : Fin 16) (i : Fin 8192) (z : Fin 1) :
    addf (broadcastInDim S16x8192x1 ![0, 1] bcast_S16x8192_S16x8192x1_0_1 B)
      (Host.log (broadcastInDim S16x8192x1 ![0, 1] bcast_S16x8192_S16x8192x1_0_1
      (Host.reduceAdd A (constant S_ .f32 0x00000000#32) reducesTo_S16x8192x8192_S16x8192_d2 h_S_))) (ix3 h i z) = B (ix2 h i) + Ideal.log (∑ k, A (ix3 h i k)) := by
  pointwise

theorem v53_at {x : Data} (hr : ∀ (h : Fin 16) (i k : Fin 8192), U (Proc.devRef .tc main_v30) (ix3 h i k) = row x h i k) (h : Fin 16) (i : Fin 8192) (z : Fin 1) :
    after hostOps0_4 U (Proc.devRef .tc main_v53) (ix3 h i z) = ((Value.lseR x (top x) h i : ℝ) : EReal) := by
  after_results_simp
  refine (row_lse _ _ h i z).trans ?_
  have eM : Host.reduce FloatOps.maximumf (U (Proc.devRef .tc main_v30)) (constant (F := Ideal) S_ .f32 0xFF800000#32) reducesTo_S16x8192x8192_S16x8192_d2 h_S_ (ix2 h i) = ((top x h i : ℝ) : EReal) := by
    refine (HostRead.row_max _ h i).trans ?_
    simp only [hr]
    exact fold_row x h i
  refine (congrArg₂ (fun a b => a + Ideal.log b) eM (Finset.sum_congr rfl fun k _ => (HostRead.shift_exp' _ _ h i k).trans
    ((congrArg₂ (fun a b => Ideal.exp (a - b)) (hr h i k) eM).trans (exp_row x h i (top x h i) k)))).trans ?_
  rw [← coe_sum, Ideal.log_coe, if_neg (not_le.mpr (sum_e_pos x (top x h i) h i)), ← EReal.coe_add]
  rfl

theorem dot_O (a : FVec Ideal S16x8192x64 .f32) (b : FVec Ideal S16x8192x8192 .f32) (i : Fin 8192) (c : Fin 1024) :
    shapeCast S8192x1024 (transpose S8192x16x64 [2, 0, 1] (Host.dotGeneral dot_S16x8192x64_S16x8192x8192_S16x64x8192_1_2_2_1_0_0 none a b) transposes_S16x64x8192_S8192x16x64_2_0_1)
      shapeCasts_S8192x16x64_S8192x1024 (ix2 i c) = ∑ k, a (ix3 ⟨c.val / 64, by omega⟩ k ⟨c.val % 64, by omega⟩) * b (ix3 ⟨c.val / 64, by omega⟩ i k) := by
  pointwise

theorem v44_at {x : Data} (hr : ∀ (h : Fin 16) (i k : Fin 8192), U (Proc.devRef .tc main_v30) (ix3 h i k) = row x h i k)
    (hv : ∀ (h : Fin 16) (k : Fin 8192) (d : Fin 64), U (Proc.devRef .tc main_arg3) (ix3 h k d) = ((x.v h k d : ℝ) : EReal)) (i : Fin 8192) (c : Fin 1024) :
    after hostOps0_4 U (Proc.devRef .tc main_v44) (ix2 i c) = ((O x ⟨c.val / 64, by omega⟩ i ⟨c.val % 64, by omega⟩ : ℝ) : EReal) := by
  after_results_simp
  refine (dot_O _ _ i c).trans ?_
  generalize (⟨c.val / 64, by omega⟩ : Fin 16) = h
  have eM : Host.reduce FloatOps.maximumf (U (Proc.devRef .tc main_v30)) (constant (F := Ideal) S_ .f32 0xFF800000#32) reducesTo_S16x8192x8192_S16x8192_d2 h_S_ (ix2 h i) = ((top x h i : ℝ) : EReal) := by
    refine (HostRead.row_max _ h i).trans ?_
    simp only [hr]
    exact fold_row x h i
  have ee : ∀ k, Host.exp (subf (U (Proc.devRef .tc main_v30) : FVec Ideal S16x8192x8192 .f32) (broadcastInDim S16x8192x8192 ![0, 1, 2] bcast_S16x8192x1_S16x8192x8192_0_1_2
      (broadcastInDim S16x8192x1 ![0, 1] bcast_S16x8192_S16x8192x1_0_1
        (maximumf (broadcastInDim S16x8192 ![] bcast_S_S16x8192 (constant S_ .f32 0xFF800000#32))
          (Host.reduce FloatOps.maximumf (U (Proc.devRef .tc main_v30)) (constant (F := Ideal) S_ .f32 0xFF800000#32) reducesTo_S16x8192x8192_S16x8192_d2 h_S_))))) (ix3 h i k)
        = ((e x (top x h i) h i k : ℝ) : EReal) := fun k => (HostRead.shift_exp _ _ h i k).trans
    ((congrArg₂ (fun a b => Ideal.exp (a - b)) (hr h i k) eM).trans (exp_row x h i (top x h i) k))
  refine (Finset.sum_congr rfl fun k _ => congrArg₂ (fun a b : EReal => a * b) (hv h k _) ((HostRead.quot _ _ h i k).trans
    (congrArg₂ Ideal.div (ee k) ((HostRead.row_sum _ h i 0).trans (Finset.sum_congr rfl fun k' _ => ee k'))))).trans ?_
  have hq : ∀ k, Ideal.div ((e x (top x h i) h i k : ℝ) : EReal) (∑ k', ((e x (top x h i) h i k' : ℝ) : EReal)) = ((P x h i k : ℝ) : EReal) := fun k => by
    rw [← coe_sum, Ideal.div_coe (sum_e_pos x (top x h i) h i).ne', ← EReal.coe_mul, mul_one_div, P_shift]
  simp only [hq]
  simp only [← EReal.coe_mul, ← coe_sum]
  rfl

/-! The padded keys and values -/

theorem zero_word : (FloatOps.sitofp FTy.f32 0#32 : Ideal .f32) = ((0 : ℝ) : EReal) := by
  show ((((0#32 : BitVec 32).toInt : ℤ) : ℝ) : EReal) = _
  simp

theorem one_word (b : Prop) [Decidable b] : (FloatOps.uitofp FTy.f32 (BitVec.ofBool (decide b)) : Ideal .f32) = (((if b then 1 else 0) : ℝ) : EReal) := by
  show ((((BitVec.ofBool (decide b)).toNat : ℕ) : ℝ) : EReal) = _
  by_cases h : b
  · rw [decide_eq_true h, if_pos h]; simp
  · rw [decide_eq_false h, if_neg h]; simp

theorem lane_word : ∀ l : Fin 128, IntOp.cmpi CmpIPredicate.eq (BitVec.ofNat 32 l.val) 64#32 = BitVec.ofBool (decide (l.val = 64)) := by decide +kernel

theorem v57_at {x : Data} (h1 : ∀ (h : Fin 16) (k : Fin 8192) (d : Fin 64), U (Proc.devRef .tc main_arg1) (ix3 h k d) = ((x.kn h k d : ℝ) : EReal))
    (k : Fin 8192) (h : Fin 16) (l : Fin 128) :
    after hostOps0_5 (after hostOps0_4 U) (Proc.devRef .tc main_v57) (ix3 k h l) = (((if hl : l.val < 64 then x.kn h k ⟨l.val, hl⟩ else 0) : ℝ) : EReal) := by
  simp only [hostOps0_5, TRef.binary, TRef.nullary, TRef.unary, TRef.ternary, TRef.toBuf, TRef.ofBuf, cast_eq]
  after_results_simp
  pointwise
  rw [zero_word]
  split
  · exact h1 _ _ _
  · rfl

theorem v62_at {x : Data} (h1 : ∀ (h : Fin 16) (k : Fin 8192) (d : Fin 64), U (Proc.devRef .tc main_arg3) (ix3 h k d) = ((x.v h k d : ℝ) : EReal))
    (k : Fin 8192) (h : Fin 16) (l : Fin 128) :
    after hostOps0_7 (after hostOps0_6 U) (Proc.devRef .tc main_v62) (ix3 k h l) = (((if hl : l.val < 64 then x.v h k ⟨l.val, hl⟩ else 0) : ℝ) : EReal) := by
  simp only [hostOps0_7, TRef.binary, TRef.nullary, TRef.unary, TRef.ternary, TRef.toBuf, TRef.ofBuf, cast_eq]
  after_results_simp
  pointwise
  rw [zero_word]
  split
  · exact h1 _ _ _
  · rfl

theorem v58_at (k : Fin 8192) (c : Fin 2048) :
    after hostOps0_6 U (Proc.devRef .tc main_v58) (ix2 k c) = U (Proc.devRef .tc main_v57) (ix3 k ⟨c.val / 128, by omega⟩ ⟨c.val % 128, by omega⟩) := by
  after_results_simp
  pointwise

theorem v64_lo (k : Fin 8192) (c : Fin 2048) : after hostOps0_8 U (Proc.devRef .tc main_v64) (ix2 k ⟨c.val, by omega⟩) = U (Proc.devRef .tc main_v58) (ix2 k c) := by
  after_results_simp
  pointwise

theorem v64_hi (k : Fin 8192) (c : Fin 2048) :
    after hostOps0_8 U (Proc.devRef .tc main_v64) (ix2 k ⟨2048 + c.val, by omega⟩) = U (Proc.devRef .tc main_v62) (ix3 k ⟨c.val / 128, by omega⟩ ⟨c.val % 128, by omega⟩) := by
  after_results_simp
  pointwise

theorem v65_at {x : Data} (h1 : ∀ (k : Fin 8192) (r : Fin 32), U (Proc.devRef .tc main_arg2) (ix2 k r) = ((x.kr k r : ℝ) : EReal))
    (k : Fin 8192) (l : Fin 128) : after hostOps0_9 (after hostOps0_8 U) (Proc.devRef .tc main_v65) (ix2 k l)
      = (((if hl : 64 ≤ l.val ∧ l.val < 96 then x.kr k ⟨l.val - 64, by omega⟩ else 0) : ℝ) : EReal) := by
  simp only [hostOps0_9, TRef.binary, TRef.nullary, TRef.unary, TRef.ternary, TRef.toBuf, TRef.ofBuf, cast_eq]
  after_results_simp
  pointwise
  rw [zero_word]
  by_cases c1 : 64 ≤ l.val ∧ l.val < 96
  · have c2 : 64 ≤ l.val ∧ l.val - 64 < 32 := by omega
    rw [dif_pos c1, dif_pos c2]; exact h1 _ _
  · have c2 : ¬ (64 ≤ l.val ∧ l.val - 64 < 32) := by omega
    rw [dif_neg c1, dif_neg c2]

theorem v78_at {x : Data} (k : Fin 8192) (c : Fin 2048)
    (h1 : U (Proc.devRef .tc main_v64) (ix2 k ⟨c.val, by omega⟩)
      = (((if hl : c.val % 128 < 64 then x.kn ⟨c.val / 128, by omega⟩ k ⟨c.val % 128, hl⟩ else 0) : ℝ) : EReal))
    (h2 : U (Proc.devRef .tc main_v65) (ix2 k ⟨c.val % 128, by omega⟩)
      = (((if hl : 64 ≤ c.val % 128 ∧ c.val % 128 < 96 then x.kr k ⟨c.val % 128 - 64, by omega⟩ else 0) : ℝ) : EReal)) :
    after hostOps0_10 U (Proc.devRef .tc main_v78) (ix2 k c) = ((KL x ⟨c.val / 128, by omega⟩ k ⟨c.val % 128, by omega⟩ : ℝ) : EReal) := by
  after_results_simp
  pointwise
  refine (congrArg₂ (fun a b : EReal => a + b) h1 h2).trans ?_
  rw [← EReal.coe_add]
  refine congrArg _ ?_
  unfold KL
  dsimp only
  by_cases c1 : c.val % 128 < 64
  · have c2 : ¬ (64 ≤ c.val % 128 ∧ c.val % 128 < 96) := by omega
    rw [dif_pos c1, dif_pos c1, dif_neg c2, add_zero]
  · rw [dif_neg c1, dif_neg c1, zero_add]
    by_cases c2 : c.val % 128 < 96
    · have c3 : 64 ≤ c.val % 128 ∧ c.val % 128 < 96 := by omega
      rw [dif_pos c2, dif_pos c3]
    · have c3 : ¬ (64 ≤ c.val % 128 ∧ c.val % 128 < 96) := by omega
      rw [dif_neg c2, dif_neg c3]

theorem v83_at {x : Data} (k : Fin 8192) (c : Fin 2048)
    (h1 : U (Proc.devRef .tc main_v64) (ix2 k ⟨2048 + c.val, by omega⟩)
      = (((if hl : c.val % 128 < 64 then x.v ⟨c.val / 128, by omega⟩ k ⟨c.val % 128, hl⟩ else 0) : ℝ) : EReal)) :
    after hostOps0_10 U (Proc.devRef .tc main_v83) (ix2 k c) = ((VL x ⟨c.val / 128, by omega⟩ k ⟨c.val % 128, by omega⟩ : ℝ) : EReal) := by
  after_results_simp
  pointwise
  refine (congrArg₂ (fun a b : EReal => a + b) h1 ((congrArg (FloatOps.uitofp (F := Ideal) .f32) (lane_word ⟨c.val % 128, by omega⟩)).trans (one_word _))).trans ?_
  rw [← EReal.coe_add]
  refine congrArg _ ?_
  unfold VL
  dsimp only
  by_cases c1 : c.val % 128 < 64
  · have c2 : ¬ c.val % 128 = 64 := by omega
    rw [dif_pos c1, dif_pos c1, if_neg c2, add_zero]
  · rw [dif_neg c1, dif_neg c1, zero_add]

/-! The padded queries and the rotation's tables -/

theorem v87_at {x : Data} (h1 : ∀ (i : Fin 8192) (h : Fin 16) (d : Fin 96), U (Proc.devRef .tc main_arg0) (ix3 i h d) = ((x.q i h d : ℝ) : EReal))
    (i : Fin 8192) (c : Fin 2048) : after hostOps0_12 (after hostOps0_11 (after hostOps0_10 U)) (Proc.devRef .tc main_v87) (ix2 i c)
      = ((Value.qP x ⟨c.val / 128, by omega⟩ i ⟨c.val % 128, by omega⟩ : ℝ) : EReal) := by
  simp only [hostOps0_11, TRef.binary, TRef.nullary, TRef.unary, TRef.ternary, TRef.toBuf, TRef.ofBuf, cast_eq]
  after_results_simp
  pointwise
  rw [zero_word]
  unfold Value.qP
  dsimp only
  by_cases c1 : c.val % 128 < 96
  · have c2 : c.val / 128 < 16 ∧ c.val % 128 < 96 := by omega
    rw [dif_pos c1, dif_pos c2]; exact h1 _ _ _
  · have c2 : ¬ (c.val / 128 < 16 ∧ c.val % 128 < 96) := by omega
    rw [dif_neg c1, dif_neg c2]

theorem v90_at {x : Data} (h1 : ∀ (i : Fin 8192) (r : Fin 16), U (Proc.devRef .tc main_arg4) (ix2 i r) = ((x.cs i r : ℝ) : EReal)) (i : Fin 8192) (l : Fin 128) :
    after hostOps0_12 U (Proc.devRef .tc main_v90) (ix2 i l) = ((Value.cT x i l : ℝ) : EReal) := by
  after_results_simp
  pointwise
  after_results_simp
  pointwise
  unfold Value.cT
  by_cases c1 : l.val < 64
  · rw [dif_pos c1, if_pos c1]; exact EReal.coe_one.symm
  · rw [dif_neg c1, if_neg c1]
    by_cases c2 : l.val < 80
    · have d2 : l.val - 64 < 16 := by omega
      rw [dif_pos c2, dif_pos d2]; exact h1 _ _
    · have d2 : ¬ l.val - 64 < 16 := by omega
      rw [dif_neg c2, dif_neg d2]
      by_cases c3 : l.val < 96
      · have d3 : l.val - 64 - 16 < 16 := by omega
        have e3 : (⟨l.val - 64 - 16, d3⟩ : Fin 16) = ⟨l.val - 80, by omega⟩ := Fin.ext (by dsimp only; omega)
        rw [dif_pos c3, dif_pos d3]; exact (h1 _ _).trans (congrArg (fun z => ((x.cs i z : ℝ) : EReal)) e3)
      · have d3 : ¬ l.val - 64 - 16 < 16 := by omega
        rw [dif_neg c3, dif_neg d3]; exact EReal.coe_one.symm

theorem v94_at {x : Data} (h1 : ∀ (i : Fin 8192) (r : Fin 16), U (Proc.devRef .tc main_arg5) (ix2 i r) = ((x.sn i r : ℝ) : EReal)) (i : Fin 8192) (l : Fin 128) :
    after hostOps0_12 U (Proc.devRef .tc main_v94) (ix2 i l) = ((Value.aT x i l : ℝ) : EReal) := by
  after_results_simp
  pointwise
  after_results_simp
  pointwise
  unfold Value.aT
  by_cases c1 : l.val < 64
  · have d1 : ¬ (64 ≤ l.val ∧ l.val < 80) := by omega
    rw [dif_pos c1, dif_neg d1]; exact EReal.coe_zero.symm
  · rw [dif_neg c1]
    by_cases c2 : l.val < 80
    · have d2 : l.val - 64 < 16 := by omega
      have d1 : 64 ≤ l.val ∧ l.val < 80 := by omega
      rw [dif_pos d1, dif_pos d2, EReal.coe_neg]; exact congrArg (fun z : EReal => -z) (h1 _ _)
    · have d2 : ¬ l.val - 64 < 16 := by omega
      have d1 : ¬ (64 ≤ l.val ∧ l.val < 80) := by omega
      rw [dif_neg d1, dif_neg d2]; exact EReal.coe_zero.symm

theorem v97_at {x : Data} (h1 : ∀ (i : Fin 8192) (r : Fin 16), U (Proc.devRef .tc main_arg5) (ix2 i r) = ((x.sn i r : ℝ) : EReal)) (i : Fin 8192) (l : Fin 128) :
    after hostOps0_12 U (Proc.devRef .tc main_v97) (ix2 i l) = ((Value.bT x i l : ℝ) : EReal) := by
  after_results_simp
  pointwise
  after_results_simp
  pointwise
  unfold Value.bT
  by_cases c1 : l.val < 80
  · have d1 : ¬ (80 ≤ l.val ∧ l.val < 96) := by omega
    rw [dif_pos c1, dif_neg d1]; exact EReal.coe_zero.symm
  · rw [dif_neg c1]
    by_cases c2 : l.val < 96
    · have d2 : l.val - 80 < 16 := by omega
      have d1 : 80 ≤ l.val ∧ l.val < 96 := by omega
      rw [dif_pos d1, dif_pos d2]; exact h1 _ _
    · have d2 : ¬ l.val - 80 < 16 := by omega
      have d1 : ¬ (80 ≤ l.val ∧ l.val < 96) := by omega
      rw [dif_neg d1, dif_neg d2]; exact EReal.coe_zero.symm

/-! The arguments are not written, nor an array after the line that makes it -/

theorem keep0 {x : Data} (H : Holds U x) : Holds (after hostOps0 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep1 {x : Data} (H : Holds U x) : Holds (after hostOps0_1 U) x := by
  simp only [hostOps0_1, TRef.binary, TRef.nullary, TRef.unary, TRef.ternary, TRef.toBuf, TRef.ofBuf, cast_eq]
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep2 {x : Data} (H : Holds U x) : Holds (after hostOps0_2 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep3 {x : Data} (H : Holds U x) : Holds (after hostOps0_3 U) x := by
  simp only [hostOps0_3, TRef.binary, TRef.nullary, TRef.unary, TRef.ternary, TRef.toBuf, TRef.ofBuf, cast_eq]
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep4 {x : Data} (H : Holds U x) : Holds (after hostOps0_4 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep5 {x : Data} (H : Holds U x) : Holds (after hostOps0_5 U) x := by
  simp only [hostOps0_5, TRef.binary, TRef.nullary, TRef.unary, TRef.ternary, TRef.toBuf, TRef.ofBuf, cast_eq]
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep6 {x : Data} (H : Holds U x) : Holds (after hostOps0_6 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep7 {x : Data} (H : Holds U x) : Holds (after hostOps0_7 U) x := by
  simp only [hostOps0_7, TRef.binary, TRef.nullary, TRef.unary, TRef.ternary, TRef.toBuf, TRef.ofBuf, cast_eq]
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep8 {x : Data} (H : Holds U x) : Holds (after hostOps0_8 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep9 {x : Data} (H : Holds U x) : Holds (after hostOps0_9 U) x := by
  simp only [hostOps0_9, TRef.binary, TRef.nullary, TRef.unary, TRef.ternary, TRef.toBuf, TRef.ofBuf, cast_eq]
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep10 {x : Data} (H : Holds U x) : Holds (after hostOps0_10 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep11 {x : Data} (H : Holds U x) : Holds (after hostOps0_11 U) x := by
  simp only [hostOps0_11, TRef.binary, TRef.nullary, TRef.unary, TRef.ternary, TRef.toBuf, TRef.ofBuf, cast_eq]
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem keep12 {x : Data} (H : Holds U x) : Holds (after hostOps0_12 U) x := by
  refine ⟨fun i h d => ?_, fun h k d => ?_, fun k r => ?_, fun h k d => ?_, fun i r => ?_, fun i r => ?_, fun i d => ?_⟩
  · after_results_simp; exact H.q i h d
  · after_results_simp; exact H.kn h k d
  · after_results_simp; exact H.kr k r
  · after_results_simp; exact H.v h k d
  · after_results_simp; exact H.cs i r
  · after_results_simp; exact H.sn i r
  · after_results_simp; exact H.g i d

theorem v0_kept : after hostOps0_1 U (Proc.devRef .tc main_v0) = U (Proc.devRef .tc main_v0) := by
  simp only [hostOps0_1, TRef.binary, TRef.nullary, TRef.unary, TRef.ternary, TRef.toBuf, TRef.ofBuf, cast_eq]
  after_results_simp

theorem v16_kept : after hostOps0_1 U (Proc.devRef .tc main_v16) = U (Proc.devRef .tc main_v16) := by
  simp only [hostOps0_1, TRef.binary, TRef.nullary, TRef.unary, TRef.ternary, TRef.toBuf, TRef.ofBuf, cast_eq]
  after_results_simp

theorem v58_kept : after hostOps0_7 U (Proc.devRef .tc main_v58) = U (Proc.devRef .tc main_v58) := by
  simp only [hostOps0_7, TRef.binary, TRef.nullary, TRef.unary, TRef.ternary, TRef.toBuf, TRef.ofBuf, cast_eq]
  after_results_simp

theorem v64_kept : after hostOps0_9 U (Proc.devRef .tc main_v64) = U (Proc.devRef .tc main_v64) := by
  simp only [hostOps0_9, TRef.binary, TRef.nullary, TRef.unary, TRef.ternary, TRef.toBuf, TRef.ofBuf, cast_eq]
  after_results_simp

theorem v78_kept : after hostOps0_12 (after hostOps0_11 U) (Proc.devRef .tc main_v78) = U (Proc.devRef .tc main_v78) := by
  simp only [hostOps0_11, TRef.binary, TRef.nullary, TRef.unary, TRef.ternary, TRef.toBuf, TRef.ofBuf, cast_eq]
  after_results_simp

theorem v83_kept : after hostOps0_12 (after hostOps0_11 U) (Proc.devRef .tc main_v83) = U (Proc.devRef .tc main_v83) := by
  simp only [hostOps0_11, TRef.binary, TRef.nullary, TRef.unary, TRef.ternary, TRef.toBuf, TRef.ofBuf, cast_eq]
  after_results_simp

theorem v44_kept : after hostOps0_12 (after hostOps0_11 (after hostOps0_10 (after hostOps0_9 (after hostOps0_8 (after hostOps0_7 (after hostOps0_6 (after hostOps0_5 U))))))) (Proc.devRef .tc main_v44) = U (Proc.devRef .tc main_v44) := by
  simp only [hostOps0_5, hostOps0_7, hostOps0_9, hostOps0_11, TRef.binary, TRef.nullary, TRef.unary, TRef.ternary, TRef.toBuf, TRef.ofBuf, cast_eq]
  after_results_simp

theorem v53_kept : after hostOps0_12 (after hostOps0_11 (after hostOps0_10 (after hostOps0_9 (after hostOps0_8 (after hostOps0_7 (after hostOps0_6 (after hostOps0_5 U))))))) (Proc.devRef .tc main_v53) = U (Proc.devRef .tc main_v53) := by
  simp only [hostOps0_5, hostOps0_7, hostOps0_9, hostOps0_11, TRef.binary, TRef.nullary, TRef.unary, TRef.ternary, TRef.toBuf, TRef.ofBuf, cast_eq]
  after_results_simp

/-- What the grid finds. -/
structure Ready (V : Valuation τ sig (Elt Ideal)) (x : Data) : Prop where
  q : ∀ (i : Fin 8192) (c : Fin 2048), V (Proc.devRef .tc main_v87) (ix2 i c) = ((Value.qP x ⟨c.val / 128, by omega⟩ i ⟨c.val % 128, by omega⟩ : ℝ) : EReal)
  k : ∀ (i : Fin 8192) (c : Fin 2048), V (Proc.devRef .tc main_v78) (ix2 i c) = ((KL x ⟨c.val / 128, by omega⟩ i ⟨c.val % 128, by omega⟩ : ℝ) : EReal)
  v : ∀ (i : Fin 8192) (c : Fin 2048), V (Proc.devRef .tc main_v83) (ix2 i c) = ((VL x ⟨c.val / 128, by omega⟩ i ⟨c.val % 128, by omega⟩ : ℝ) : EReal)
  c : ∀ (i : Fin 8192) (l : Fin 128), V (Proc.devRef .tc main_v90) (ix2 i l) = ((Value.cT x i l : ℝ) : EReal)
  a : ∀ (i : Fin 8192) (l : Fin 128), V (Proc.devRef .tc main_v94) (ix2 i l) = ((Value.aT x i l : ℝ) : EReal)
  b : ∀ (i : Fin 8192) (l : Fin 128), V (Proc.devRef .tc main_v97) (ix2 i l) = ((Value.bT x i l : ℝ) : EReal)
  o : ∀ (i : Fin 8192) (c : Fin 1024), V (Proc.devRef .tc main_v44) (ix2 i c) = ((O x ⟨c.val / 64, by omega⟩ i ⟨c.val % 64, by omega⟩ : ℝ) : EReal)
  l : ∀ (h : Fin 16) (i : Fin 8192) (z : Fin 1), V (Proc.devRef .tc main_v53) (ix3 h i z) = ((Value.lseR x (top x) h i : ℝ) : EReal)
  g : ∀ (i : Fin 8192) (c : Fin 1024), V (Proc.devRef .tc main_arg6) (ix2 i c) = ((x.g i c : ℝ) : EReal)

theorem ready {x : Data} (H : Holds W x) : Ready (U12 W) x := by
  have H0 := keep0 W H
  have H1 := keep1 _ H0
  have H2 := keep2 _ H1
  have H3 : Holds (U3 W) x := keep3 _ H2
  have H4 : Holds (U4 W) x := keep4 _ H3
  have H5 := keep5 _ H4
  have H6 := keep6 _ H5
  have H7 := keep7 _ H6
  have H8 := keep8 _ H7
  have H9 : Holds (U9 W) x := keep9 _ H8
  have H10 := keep10 _ H9
  have H11 := keep11 _ H10
  have H12 := keep12 _ H11
  have hs := v24_at (after hostOps0_1 (after hostOps0 W)) (x := x)
    (fun i h d => (congrFun (v0_kept _) _).trans ((v0_at W i h d).trans (H.q i h _)))
    (fun i h r => (congrFun (v16_kept _) _).trans (v16_at W H i h r)) H1.kn H1.kr
  have hr : ∀ h i k, U3 W (Proc.devRef .tc main_v30) (ix3 h i k) = row x h i k := v30_at _ (v18_at W) hs
  have h57 := v57_at (U3 W) H3.kn
  have h62 := v62_at (after hostOps0_5 (U4 W)) H5.v
  have h65 := v65_at (after hostOps0_7 (after hostOps0_6 (after hostOps0_5 (U4 W)))) H7.kr
  refine ⟨v87_at (U9 W) H9.q, fun i c => ?_, fun i c => ?_, v90_at _ H11.cs, v94_at _ H11.sn, v97_at _ H11.sn,
    fun i c => (congrFun (v44_kept _) _).trans (v44_at (U3 W) hr H3.v i c), fun h i z => (congrFun (v53_kept _) _).trans (v53_at (U3 W) hr h i z), H12.g⟩
  · refine (congrFun (v78_kept _) _).trans (v78_at (U9 W) i c ?_ (h65 i _))
    exact (congrFun (v64_kept _) _).trans ((v64_lo _ i c).trans ((congrFun (v58_kept _) _).trans ((v58_at _ i c).trans (h57 i _ _))))
  · refine (congrFun (v83_kept _) _).trans (v83_at (U9 W) i c ?_)
    exact (congrFun (v64_kept _) _).trans ((v64_hi _ i c).trans (h62 i _ _))

end Cert.Proof.KHost
-- ==== Proof.Grid.lean ====
/-
  The grid over the reals: the blocks of each point, the gradients carried through a head's points, and what the three arrays
  hold at the end.
-/
module

public import proofs.«01_k».proof.Proof.Run
public import proofs.«01_k».proof.Proof.KernelHost
public import Idealize.ShloMosaic.Lib.Pipeline.ValueKit

@[expose] public section

set_option maxRecDepth 16384

noncomputable section

namespace Cert.Proof.Grid

open Cert.KernelIdeal Cert.KernelIdeal.Gen Cert.Proof.Reals Cert.Proof.Body Cert.Proof.Value Cert.Proof.HostMath
open Idealize.ShloMosaic Idealize.ShloMosaic.TcCoe
open scoped BigOperators

variable (m : (ℓ : Loc nD τ sig) → Buf (Elt Ideal) ℓ) (c : Dev nD)

theorem idx0 : ∀ t : Fin grid0.N, win0_0.index t 0 = t.val % 16 ∧ win0_0.index t 1 = t.val / 16 := by decide +kernel
theorem idx1 : ∀ t : Fin grid0.N, win0_1.index t 0 = 0 ∧ win0_1.index t 1 = t.val / 16 := by decide +kernel
theorem idx2 : ∀ t : Fin grid0.N, win0_2.index t 0 = 0 ∧ win0_2.index t 1 = t.val / 16 := by decide +kernel
theorem idx3 : ∀ t : Fin grid0.N, win0_3.index t 0 = t.val % 16 ∧ win0_3.index t 1 = 0 := by decide +kernel
theorem idx4 : ∀ t : Fin grid0.N, win0_4.index t 0 = t.val % 16 ∧ win0_4.index t 1 = 0 := by decide +kernel
theorem idx5 : ∀ t : Fin grid0.N, win0_5.index t 0 = t.val % 16 ∧ win0_5.index t 1 = 0 := by decide +kernel
theorem idx6 : ∀ t : Fin grid0.N, win0_6.index t 0 = t.val % 16 ∧ win0_6.index t 1 = t.val / 32 := by decide +kernel
theorem idx7 : ∀ t : Fin grid0.N, win0_7.index t 0 = t.val / 16 ∧ win0_7.index t 1 = t.val % 16 ∧ win0_7.index t 2 = 0 := by decide +kernel
theorem idx8 : ∀ t : Fin grid0.N, win0_8.index t 0 = t.val % 16 ∧ win0_8.index t 1 = t.val / 32 := by decide +kernel

theorem head_lt (t : Fin cfg0.N) : t.val / 16 < 16 := by have h : cfg0.N = 256 := by decide
                                                         have := t.isLt; omega

theorem blk0_at (t : Fin cfg0.N) (r : Fin 512) (l : Fin 128) :
    iblk m c 0 t (ix2 r l) = V m c main_v87 (ix2 (rowIx (t.val % 16) r) ⟨128 * (t.val / 16) + l.val, by have := head_lt t; omega⟩) := by
  have e := idx0 t
  unfold rowIx
  blk_ext [iblk, e.1, e.2]
theorem blk1_at (t : Fin cfg0.N) (r : Fin 8192) (l : Fin 128) :
    iblk m c 1 t (ix2 r l) = V m c main_v78 (ix2 r ⟨128 * (t.val / 16) + l.val, by have := head_lt t; omega⟩) := by
  have e := idx1 t
  blk_ext [iblk, e.1, e.2]
theorem blk2_at (t : Fin cfg0.N) (r : Fin 8192) (l : Fin 128) :
    iblk m c 2 t (ix2 r l) = V m c main_v83 (ix2 r ⟨128 * (t.val / 16) + l.val, by have := head_lt t; omega⟩) := by
  have e := idx2 t
  blk_ext [iblk, e.1, e.2]
theorem blk3_at (t : Fin cfg0.N) (r : Fin 512) (l : Fin 128) : iblk m c 3 t (ix2 r l) = V m c main_v90 (ix2 (rowIx (t.val % 16) r) l) := by
  have e := idx3 t
  unfold rowIx
  blk_ext [iblk, e.1, e.2]
theorem blk4_at (t : Fin cfg0.N) (r : Fin 512) (l : Fin 128) : iblk m c 4 t (ix2 r l) = V m c main_v94 (ix2 (rowIx (t.val % 16) r) l) := by
  have e := idx4 t
  unfold rowIx
  blk_ext [iblk, e.1, e.2]
theorem blk5_at (t : Fin cfg0.N) (r : Fin 512) (l : Fin 128) : iblk m c 5 t (ix2 r l) = V m c main_v97 (ix2 (rowIx (t.val % 16) r) l) := by
  have e := idx5 t
  unfold rowIx
  blk_ext [iblk, e.1, e.2]
theorem blk6_at (t : Fin cfg0.N) (r : Fin 512) (l : Fin 128) :
    iblk m c 6 t (ix2 r l) = V m c main_v44 (ix2 (rowIx (t.val % 16) r) ⟨128 * (t.val / 32) + l.val, by have := head_lt t; omega⟩) := by
  have e := idx6 t
  unfold rowIx
  blk_ext [iblk, e.1, e.2]
theorem emb7 (t : Fin cfg0.N) (z : Fin 1) (r : Fin 512) (z' : Fin 1) :
    (win0_7.rect t).emb (ix3 z r z') = ix3 ⟨t.val / 16, head_lt t⟩ (rowIx (t.val % 16) r) z' := by
  have e := idx7 t
  funext a
  refine Fin.ext ((win0_7.rect_emb_val t (ix3 z r z') a).trans ?_)
  match a with
  | ⟨0, _⟩ =>
    show win0_7.index t 0 * 1 + z.val = t.val / 16
    rw [e.1]; omega
  | ⟨1, _⟩ =>
    show win0_7.index t 1 * 512 + r.val = (512 * (t.val % 16) + r.val) % 8192
    rw [e.2.1]; omega
  | ⟨2, _⟩ =>
    show win0_7.index t 2 * 1 + z'.val = z'.val
    rw [e.2.2]; omega
theorem read7 (X : Vec Ideal S16x8192x1 .f32) (t : Fin cfg0.N) (z : Fin 1) (r : Fin 512) (z' : Fin 1) :
    ((cfg0.win 7).blk t).view.read (Elt Ideal) X (ix3 z r z') = X (ix3 ⟨t.val / 16, head_lt t⟩ (rowIx (t.val % 16) r) z') :=
  congrArg X (emb7 t z r z')
theorem blk7_at (t : Fin cfg0.N) (z : Fin 1) (r : Fin 512) (z' : Fin 1) :
    iblk m c 7 t (ix3 z r z') = V m c main_v53 (ix3 ⟨t.val / 16, head_lt t⟩ (rowIx (t.val % 16) r) z') := by
  unfold iblk
  exact read7 (V m c main_v53) t z r z'
theorem blk8_at (t : Fin cfg0.N) (r : Fin 512) (l : Fin 128) :
    iblk m c 8 t (ix2 r l) = V m c main_arg6 (ix2 (rowIx (t.val % 16) r) ⟨128 * (t.val / 32) + l.val, by have := head_lt t; omega⟩) := by
  have e := idx8 t
  unfold rowIx
  blk_ext [iblk, e.1, e.2]

end Cert.Proof.Grid
-- ==== Proof.Carried.lean ====
/-
  What every point of the grid leaves over the reals: its rows of the queries' gradient, and the head's two carried gradients over
  the blocks passed so far.
-/
module

public import proofs.«01_k».proof.Proof.Grid

@[expose] public section

set_option maxRecDepth 16384

noncomputable section

namespace Cert.Proof.Grid

open Cert.KernelIdeal Cert.KernelIdeal.Gen Cert.Proof.Reals Cert.Proof.Body Cert.Proof.Value Cert.Proof.HostMath
open Idealize.ShloMosaic Idealize.ShloMosaic.TcCoe
open scoped BigOperators

/-- The head of a point. -/
def hd (t : Fin cfg0.N) : Fin 16 := ⟨t.val / 16, head_lt t⟩

theorem split128 (f : Fin 16 → Fin 128 → ℝ) (t : Fin cfg0.N) (l : Fin 128) (p1 : (128 * (t.val / 16) + l.val) / 128 < 16) (p2 : (128 * (t.val / 16) + l.val) % 128 < 128) :
    f ⟨(128 * (t.val / 16) + l.val) / 128, p1⟩ ⟨(128 * (t.val / 16) + l.val) % 128, p2⟩ = f (hd t) l := by
  have e1 : (⟨(128 * (t.val / 16) + l.val) / 128, p1⟩ : Fin 16) = hd t := Fin.ext (by unfold hd; dsimp only; omega)
  have e2 : (⟨(128 * (t.val / 16) + l.val) % 128, p2⟩ : Fin 128) = l := Fin.ext (by dsimp only; omega)
  rw [e1, e2]

theorem split64 (f : Fin 16 → Fin 64 → ℝ) (t : Fin cfg0.N) (l : Fin 128) (p1 : (128 * (t.val / 32) + l.val) / 64 < 16) (p2 : (128 * (t.val / 32) + l.val) % 64 < 64)
    (p3 : l.val % 64 < 64) :
    f ⟨(128 * (t.val / 32) + l.val) / 64, p1⟩ ⟨(128 * (t.val / 32) + l.val) % 64, p2⟩ = f (headOf (hd t) l) ⟨l.val % 64, p3⟩ := by
  have e1 : (⟨(128 * (t.val / 32) + l.val) / 64, p1⟩ : Fin 16) = headOf (hd t) l := Fin.ext (by unfold headOf hd; dsimp only; omega)
  have e2 : (⟨(128 * (t.val / 32) + l.val) % 64, p2⟩ : Fin 64) = ⟨l.val % 64, p3⟩ := Fin.ext (by dsimp only; omega)
  rw [e1, e2]

theorem cotangent_col (x : Data) (t : Fin cfg0.N) (i : Fin 8192) (l : Fin 128) (p : 128 * (t.val / 32) + l.val < 1024) (p3 : l.val % 64 < 64) :
    x.g i ⟨128 * (t.val / 32) + l.val, p⟩ = G x (headOf (hd t) l) i ⟨l.val % 64, p3⟩ := by
  unfold G
  exact congrArg (x.g i) (Fin.ext (by unfold headOf hd; dsimp only; omega))

variable {m : (ℓ : Loc nD τ sig) → Buf (Elt Ideal) ℓ} {c : Dev nD} {x : Data} (H : KHost.Ready (V0 m c) x)

include H

theorem blocks (t : Fin cfg0.N) :
    BlocksAre x (top x) (hd t) (t.val % 16) (iblk m c 0 t) (iblk m c 3 t) (iblk m c 4 t) (iblk m c 5 t) (iblk m c 6 t) (iblk m c 8 t) (iblk m c 7 t) where
  q r l := (blk0_at m c t r l).trans ((H.q _ _).trans (congrArg _ (split128 (fun h l => qP x h (rowIx (t.val % 16) r) l) t l _ _)))
  c r l := (blk3_at m c t r l).trans (H.c _ _)
  a r l := (blk4_at m c t r l).trans (H.a _ _)
  b r l := (blk5_at m c t r l).trans (H.b _ _)
  o r l := (blk6_at m c t r l).trans ((H.o _ _).trans (congrArg _ (split64 (fun h d => O x h (rowIx (t.val % 16) r) d) t l _ _ _)))
  g r l := (blk8_at m c t r l).trans ((H.g _ _).trans (congrArg _ (cotangent_col x t _ l _ _)))
  L r := (blk7_at m c t 0 r 0).trans (H.l _ _ _)

theorem rows (t : Fin cfg0.N) : RowsAre x (top x) (hd t) (t.val % 16) (rowsAt m c t) := by
  unfold rowsAt
  exact rows_are (blocks H t) (grid0.coords t) (coord_head t)

theorem keys (t : Fin cfg0.N) (k : Fin 8192) (l : Fin 128) : iblk m c 1 t (ix2 k l) = ((KL x (hd t) k l : ℝ) : EReal) :=
  (blk1_at m c t k l).trans ((H.k _ _).trans (congrArg _ (split128 (fun h l => KL x h k l) t l _ _)))

theorem values (t : Fin cfg0.N) (k : Fin 8192) (l : Fin 128) : iblk m c 2 t (ix2 k l) = ((VL x (hd t) k l : ℝ) : EReal) :=
  (blk2_at m c t k l).trans ((H.v _ _).trans (congrArg _ (split128 (fun h l => VL x h k l) t l _ _)))

/-- One point, from what it finds. -/
theorem point_are (t : Fin cfg0.N) (X Y : Vec Ideal S8192x128 .f32) (fk fv : Fin 8192 → Fin 128 → ℝ)
    (hS : StAre (entry (grid0.coords t) X Y) fk fv fun _ _ => 0) :
    StAre (pointAt m c t X Y) (fun k l => fk k l + addK x (hd t) (t.val % 16) k l) (fun k l => fv k l + addV x (hd t) (t.val % 16) k l)
      (fun a l => dQ x (hd t) (rowIx (t.val % 16) a) l) := by
  unfold pointAt point
  have e : ((grid0.coords t) 1).val = t.val % 16 := coord_block t
  rw [e]
  exact block_are (rows H t) (keys H t) (values H t) (by omega) hS

omit H in
theorem entry_first (t : Fin cfg0.N) (h : t.val % 16 = 0) (X Y : Vec Ideal S8192x128 .f32) :
    StAre (entry (grid0.coords t) X Y) (fun _ _ => 0) (fun _ _ => 0) fun _ _ => 0 := by
  have h1 : ((grid0.coords t) 1).val = 0 := (coord_block t).trans h
  unfold entry
  simp only [h1, if_true]
  refine ⟨fun k l => ?_, fun k l => ?_, fun a l => ?_⟩
  · pointwise [k0_pay64]
    exact EReal.coe_zero.symm
  · pointwise [k0_pay65]
    exact EReal.coe_zero.symm
  · pointwise [k0_pay71]
    exact EReal.coe_zero.symm

omit H in
theorem entry_next (t : Fin cfg0.N) (h : t.val % 16 ≠ 0) (X Y : Vec Ideal S8192x128 .f32) (fk fv : Fin 8192 → Fin 128 → ℝ)
    (hX : ∀ k l, X (ix2 k l) = ((fk k l : ℝ) : EReal)) (hY : ∀ k l, Y (ix2 k l) = ((fv k l : ℝ) : EReal)) :
    StAre (entry (grid0.coords t) X Y) fk fv fun _ _ => 0 := by
  have h1 : ((grid0.coords t) 1).val ≠ 0 := fun e => h ((coord_block t).symm.trans e)
  unfold entry
  simp only [if_neg h1]
  refine ⟨hX, hY, fun a l => ?_⟩
  pointwise [k0_pay71]
  exact EReal.coe_zero.symm

/-- After the block `n` of a head the carried gradients are the sums over the blocks up to `n`. -/
theorem left_are (n : ℕ) : ∀ t : Fin cfg0.N, t.val % 16 = n →
    StAre (left m c t) (fun k l => ∑ j ∈ Finset.range (n + 1), addK x (hd t) j k l) (fun k l => ∑ j ∈ Finset.range (n + 1), addV x (hd t) j k l)
      (fun a l => dQ x (hd t) (rowIx n a) l) := by
  induction n with
  | zero =>
    intro t ht
    have P := point_are H t (acc m c t.val).1 (acc m c t.val).2 _ _ (entry_first t ht _ _)
    rw [ht] at P
    refine ⟨fun k l => (P.dk k l).trans (congrArg _ ?_), fun k l => (P.dv k l).trans (congrArg _ ?_), P.dq⟩
    · simp only [Finset.sum_range_succ, Finset.sum_range_zero]
    · simp only [Finset.sum_range_succ, Finset.sum_range_zero]
  | succ n ih =>
    intro t ht
    obtain ⟨t', ht'⟩ : ∃ t' : Fin cfg0.N, t'.val + 1 = t.val := ⟨⟨t.val - 1, by have := t.isLt; omega⟩, by dsimp only; omega⟩
    have I := ih t' (by omega)
    have e : hd t' = hd t := Fin.ext (by unfold hd; dsimp only; omega)
    rw [e] at I
    have a : acc m c t.val = ((left m c t').dk, (left m c t').dv) := ht' ▸ acc_succ m c t'
    have P := point_are H t (acc m c t.val).1 (acc m c t.val).2 _ _ (entry_next t (by omega) _ _ _ _ (by rw [a]; exact I.dk) (by rw [a]; exact I.dv))
    rw [ht] at P
    refine ⟨fun k l => (P.dk k l).trans (congrArg _ ?_), fun k l => (P.dv k l).trans (congrArg _ ?_), P.dq⟩
    · exact (Finset.sum_range_succ _ _).symm
    · exact (Finset.sum_range_succ _ _).symm

theorem left_dq (t : Fin cfg0.N) (a : Fin 512) (l : Fin 128) : (left m c t).dq (ix2 a l) = ((dQ x (hd t) (rowIx (t.val % 16) a) l : ℝ) : EReal) :=
  (left_are H _ t rfl).dq a l

theorem left_dk (t : Fin cfg0.N) (ht : t.val % 16 = 15) (k : Fin 8192) (l : Fin 128) : (left m c t).dk (ix2 k l) = ((dK x (hd t) k l : ℝ) : EReal) :=
  ((left_are H 15 t ht).dk k l).trans (congrArg _ (sum_blocks fun i => dS x (hd t) i k * QL x (hd t) i l))

theorem left_dv (t : Fin cfg0.N) (ht : t.val % 16 = 15) (k : Fin 8192) (l : Fin 128) : (left m c t).dv (ix2 k l) = ((dV x (hd t) k l : ℝ) : EReal) :=
  ((left_are H 15 t ht).dv k l).trans (congrArg _ (sum_blocks fun i => P x (hd t) i k * CL x (hd t) i l))

/-- The block of the queries' gradient a point writes, on the 96 lanes read later. -/
theorem out_dq (t : Fin cfg0.N) (r : Fin 512) (l : Fin 128) (c' : Fin 96) (hc : c'.val = l.val) :
    dqOut (iblk m c 3 t) (iblk m c 4 t) (iblk m c 5 t) (left m c t).dq (ix2 r l) = ((outQ x (rowIx (t.val % 16) r) (hd t) c' : ℝ) : EReal) :=
  dq_out (blocks H t) (left_dq H t) r l c' hc

end Cert.Proof.Grid
-- ==== Proof.Arrays.lean ====
/-
  What the three arrays of the grid hold after its last point, over the reals.
-/
module

public import proofs.«01_k».proof.Proof.Carried

@[expose] public section

set_option maxRecDepth 16384

noncomputable section

namespace Cert.Proof.Grid

open Cert.KernelIdeal Cert.KernelIdeal.Gen Cert.Proof.Reals Cert.Proof.Body Cert.Proof.Value Cert.Proof.HostMath
open Idealize.ShloMosaic Idealize.ShloMosaic.TcCoe
open scoped BigOperators

theorem idx9 : ∀ t : Fin grid0.N, win0_9.index t 0 = t.val % 16 ∧ win0_9.index t 1 = t.val / 16 := by decide +kernel
theorem idx10 : ∀ t : Fin grid0.N, win0_10.index t 0 = 0 ∧ win0_10.index t 1 = t.val / 16 := by decide +kernel
theorem idx11 : ∀ t : Fin grid0.N, win0_11.index t 0 = 0 ∧ win0_11.index t 1 = t.val / 16 := by decide +kernel
theorem last10 : ∀ t : Fin grid0.N, win0_10.flush t = true → t.val % 16 = 15 := by decide +kernel
theorem last11 : ∀ t : Fin grid0.N, win0_11.flush t = true → t.val % 16 = 15 := by decide +kernel

/-- The column of a head's lane. -/
def col (h : Fin 16) (l : Fin 128) : Fin 2048 := ⟨128 * h.val + l.val, by omega⟩

theorem col_inj {h h' : Fin 16} {l l' : Fin 128} (e : col h l = col h' l') : h = h' ∧ l = l' := by
  have e' : 128 * h.val + l.val = 128 * h'.val + l'.val := congrArg Fin.val e
  exact ⟨Fin.ext (by omega), Fin.ext (by omega)⟩

theorem emb9 (t : Fin cfg0.N) (r : Fin 512) (l : Fin 128) : (win0_9.rect t).emb (ix2 r l) = ix2 (rowIx (t.val % 16) r) (col (hd t) l) := by
  have e := idx9 t
  funext a
  refine Fin.ext ((win0_9.rect_emb_val t (ix2 r l) a).trans ?_)
  match a with
  | ⟨0, _⟩ =>
    show win0_9.index t 0 * 512 + r.val = (512 * (t.val % 16) + r.val) % 8192
    rw [e.1]; omega
  | ⟨1, _⟩ =>
    show win0_9.index t 1 * 128 + l.val = 128 * (t.val / 16) + l.val
    rw [e.2]; omega
theorem emb10 (t : Fin cfg0.N) (r : Fin 8192) (l : Fin 128) : (win0_10.rect t).emb (ix2 r l) = ix2 r (col (hd t) l) := by
  have e := idx10 t
  funext a
  refine Fin.ext ((win0_10.rect_emb_val t (ix2 r l) a).trans ?_)
  match a with
  | ⟨0, _⟩ =>
    show win0_10.index t 0 * 8192 + r.val = r.val
    rw [e.1]; omega
  | ⟨1, _⟩ =>
    show win0_10.index t 1 * 128 + l.val = 128 * (t.val / 16) + l.val
    rw [e.2]; omega
theorem emb11 (t : Fin cfg0.N) (r : Fin 8192) (l : Fin 128) : (win0_11.rect t).emb (ix2 r l) = ix2 r (col (hd t) l) := by
  have e := idx11 t
  funext a
  refine Fin.ext ((win0_11.rect_emb_val t (ix2 r l) a).trans ?_)
  match a with
  | ⟨0, _⟩ =>
    show win0_11.index t 0 * 8192 + r.val = r.val
    rw [e.1]; omega
  | ⟨1, _⟩ =>
    show win0_11.index t 1 * 128 + l.val = 128 * (t.val / 16) + l.val
    rw [e.2]; omega

variable {m : (ℓ : Loc nD τ sig) → Buf (Elt Ideal) ℓ} {c : Dev nD} {x : Data} (H : KHost.Ready (V0 m c) x)

include H

/-- The queries' gradient, on the 96 lanes of each head that are read later. -/
theorem dq_array (a : Fin 8192) (h : Fin 16) (l : Fin 128) (c' : Fin 96) (hc : c'.val = l.val) :
    (dats m 0 c).arrAt 9 cfg0.N (ix2 a (col h l)) = ((outQ x a h c' : ℝ) : EReal) := by
  refine (dats m 0 c).arrAt_forall_of_covers 9
    (fun i v => ∀ (a : Fin 8192) (h : Fin 16) (l : Fin 128) (c' : Fin 96), c'.val = l.val → i = ix2 a (col h l) → v = ((outQ x a h c' : ℝ) : EReal))
    (by decide +kernel) (fun t hf y => ?_) (ix2 a (col h l)) (Memref.isWhole_whole _) a h l c' hc rfl
  intro a h l c' hc e
  obtain ⟨r, l', rfl⟩ : ∃ (r : Fin 512) (l' : Fin 128), y = ix2 r l' := ⟨y 0, y 1, eq_ix2 y⟩
  have e2 : (ix2 (rowIx (t.val % 16) r) (col (hd t) l') : S8192x2048.Idx) = ix2 a (col h l) := (emb9 t r l').symm.trans e
  have e3 : rowIx (t.val % 16) r = a := congrFun e2 0
  have e4 : col (hd t) l' = col h l := congrFun e2 1
  obtain ⟨e5, e6⟩ := col_inj e4
  subst e3 e5 e6
  exact out_dq H t r l' c' hc

theorem dk_array (k : Fin 8192) (h : Fin 16) (l : Fin 128) : (dats m 0 c).arrAt 10 cfg0.N (ix2 k (col h l)) = ((dK x h k l : ℝ) : EReal) := by
  refine (dats m 0 c).arrAt_forall_of_covers 10
    (fun i v => ∀ (a : Fin 8192) (h : Fin 16) (l : Fin 128), i = ix2 a (col h l) → v = ((dK x h a l : ℝ) : EReal))
    (by decide +kernel) (fun t hf y => ?_) (ix2 k (col h l)) (Memref.isWhole_whole _) k h l rfl
  intro a h l e
  obtain ⟨r, l', rfl⟩ : ∃ (r : Fin 8192) (l' : Fin 128), y = ix2 r l' := ⟨y 0, y 1, eq_ix2 y⟩
  have e2 : (ix2 r (col (hd t) l') : S8192x2048.Idx) = ix2 a (col h l) := (emb10 t r l').symm.trans e
  have e3 : r = a := congrFun e2 0
  have e4 : col (hd t) l' = col h l := congrFun e2 1
  obtain ⟨e5, e6⟩ := col_inj e4
  subst e3 e5 e6
  exact left_dk H t (last10 t hf) r l'

theorem dv_array (k : Fin 8192) (h : Fin 16) (l : Fin 128) : (dats m 0 c).arrAt 11 cfg0.N (ix2 k (col h l)) = ((dV x h k l : ℝ) : EReal) := by
  refine (dats m 0 c).arrAt_forall_of_covers 11
    (fun i v => ∀ (a : Fin 8192) (h : Fin 16) (l : Fin 128), i = ix2 a (col h l) → v = ((dV x h a l : ℝ) : EReal))
    (by decide +kernel) (fun t hf y => ?_) (ix2 k (col h l)) (Memref.isWhole_whole _) k h l rfl
  intro a h l e
  obtain ⟨r, l', rfl⟩ : ∃ (r : Fin 8192) (l' : Fin 128), y = ix2 r l' := ⟨y 0, y 1, eq_ix2 y⟩
  have e2 : (ix2 r (col (hd t) l') : S8192x2048.Idx) = ix2 a (col h l) := (emb11 t r l').symm.trans e
  have e3 : r = a := congrFun e2 0
  have e4 : col (hd t) l' = col h l := congrFun e2 1
  obtain ⟨e5, e6⟩ := col_inj e4
  subst e3 e5 e6
  exact left_dv H t (last11 t hf) r l'

end Cert.Proof.Grid
-- ==== Proof.Tail.lean ====
/-
  The kernel's last host lines over the reals: the four results from the grid's three arrays.
-/
module

public import proofs.«01_k».proof.Proof.Gen.KernelIdeal.Frame
public import proofs.«01_k».proof.Proof.HostRead
public import proofs.«01_k».proof.Proof.Reals

@[expose] public section

set_option maxRecDepth 16384

noncomputable section

namespace Cert.Proof.Tail

open Cert.KernelIdeal Cert.KernelIdeal.Gen Cert.Proof.Reals Cert.Proof.HostMath
open Idealize.ShloMosaic Idealize.ShloMosaic.TcCoe Idealize.ShloMosaic.StableHlo
open scoped BigOperators

variable (U : Valuation τ sig (Elt Ideal))

theorem v102_read (i : Fin 8192) (h : Fin 16) (l : Fin 96) :
    after hostOps1 U (Proc.devRef .tc main_v102) (ix3 i h l) = U (Proc.devRef .tc main_v98_0) (ix2 i ⟨h.val * 128 + l.val, by omega⟩) := by
  after_results_simp
  pointwise

theorem v104_read (h : Fin 16) (k : Fin 8192) (d : Fin 64) :
    after hostOps1 U (Proc.devRef .tc main_v104) (ix3 h k d) = U (Proc.devRef .tc main_v98_1) (ix2 k ⟨h.val * 128 + d.val, by omega⟩) := by
  after_results_simp
  pointwise

theorem v108_read (h : Fin 16) (k : Fin 8192) (d : Fin 64) :
    after hostOps1 U (Proc.devRef .tc main_v108) (ix3 h k d) = U (Proc.devRef .tc main_v98_2) (ix2 k ⟨h.val * 128 + d.val, by omega⟩) := by
  after_results_simp
  pointwise

theorem v105_read (f : Fin 16 → ℝ) (k : Fin 8192) (r : Fin 32)
    (hf : ∀ h : Fin 16, U (Proc.devRef .tc main_v98_1) (ix2 k ⟨h.val * 128 + (64 + r.val), by omega⟩) = ((f h : ℝ) : EReal)) :
    after hostOps1 U (Proc.devRef .tc main_v105) (ix2 k r) = ((∑ h, f h : ℝ) : EReal) := by
  after_results_simp
  pointwise
  refine Eq.trans ?_ (coe_sum Finset.univ f).symm
  exact Finset.sum_congr (M := EReal) rfl fun h _ => hf h

end Cert.Proof.Tail
-- ==== Proof.KernelValue.lean ====
/-
  The kernel's four results over the reals.
-/
module

public import proofs.«01_k».proof.Proof.Arrays
public import proofs.«01_k».proof.Proof.Tail

@[expose] public section

set_option maxRecDepth 16384

noncomputable section

namespace Cert.Proof.Value

open Cert.Proof.Reals
open Idealize.ShloMosaic
open scoped BigOperators

/-- The gradient of the queries. -/
def gradQ (x : Data) : Vec Ideal (⟨3, ![8192, 16, 96]⟩ : Shape) .f32 := fun j => ((outQ x (j 0) (j 1) (j 2) : ℝ) : EReal)
/-- The gradient of the keys' plain part. -/
def gradK (x : Data) : Vec Ideal (⟨3, ![16, 8192, 64]⟩ : Shape) .f32 := fun j => ((dK x (j 0) (j 1) ⟨(j 2).val, lt_trans (j 2).isLt (by decide)⟩ : ℝ) : EReal)
/-- The gradient of the keys' rotated part, which the heads share. -/
def gradR (x : Data) : Vec Ideal (⟨2, ![8192, 32]⟩ : Shape) .f32 := fun j => ((outR x (j 0) (j 1) : ℝ) : EReal)
/-- The gradient of the values. -/
def gradV (x : Data) : Vec Ideal (⟨3, ![16, 8192, 64]⟩ : Shape) .f32 := fun j => ((dV x (j 0) (j 1) ⟨(j 2).val, lt_trans (j 2).isLt (by decide)⟩ : ℝ) : EReal)

theorem gradQ_of {x : Data} {A : Vec Ideal (⟨3, ![8192, 16, 96]⟩ : Shape) .f32} (h : ∀ i h l, A (ix3 i h l) = ((outQ x i h l : ℝ) : EReal)) : A = gradQ x :=
  funext fun j => (congrArg A (eq_ix3 j)).trans (h (j 0) (j 1) (j 2))
theorem gradK_of {x : Data} {A : Vec Ideal (⟨3, ![16, 8192, 64]⟩ : Shape) .f32} (h : ∀ h k (d : Fin 64), A (ix3 h k d) = ((dK x h k ⟨d.val, by omega⟩ : ℝ) : EReal)) : A = gradK x :=
  funext fun j => (congrArg A (eq_ix3 j)).trans (h (j 0) (j 1) (j 2))
theorem gradR_of {x : Data} {A : Vec Ideal (⟨2, ![8192, 32]⟩ : Shape) .f32} (h : ∀ k r, A (ix2 k r) = ((outR x k r : ℝ) : EReal)) : A = gradR x :=
  funext fun j => (congrArg A (eq_ix2 j)).trans (h (j 0) (j 1))
theorem gradV_of {x : Data} {A : Vec Ideal (⟨3, ![16, 8192, 64]⟩ : Shape) .f32} (h : ∀ h k (d : Fin 64), A (ix3 h k d) = ((dV x h k ⟨d.val, by omega⟩ : ℝ) : EReal)) : A = gradV x :=
  funext fun j => (congrArg A (eq_ix3 j)).trans (h (j 0) (j 1) (j 2))

end Cert.Proof.Value

namespace Cert.Proof.Grid

open Cert.KernelIdeal Cert.KernelIdeal.Gen Cert.Proof.Reals Cert.Proof.Body Cert.Proof.Value Cert.Proof.HostMath
open Idealize.ShloMosaic Idealize.ShloMosaic.TcCoe
open scoped BigOperators

variable {m : (ℓ : Loc nD τ sig) → Buf (Elt Ideal) ℓ} {c : Dev nD} {x : Data} (H : KHost.Ready (V0 m c) x)

variable (m c) in
/-- What the last host lines find. -/
def found : Valuation τ sig (Elt Ideal) := Pipeline.withArrays (cfgs 0).spec c (V0 m c) fun w => (dats m 0 c).arrAt w (cfgs 0).N

theorem arrRef_inj : Function.Injective (Pipeline.arrRef spec0) := by decide

theorem found9 : found m c (Proc.devRef .tc main_v98_0) = (dats m 0 c).arrAt 9 cfg0.N := Pipeline.withArrays_arr spec0 arrRef_inj c (V0 m c) _ 9
theorem found10 : found m c (Proc.devRef .tc main_v98_1) = (dats m 0 c).arrAt 10 cfg0.N := Pipeline.withArrays_arr spec0 arrRef_inj c (V0 m c) _ 10
theorem found11 : found m c (Proc.devRef .tc main_v98_2) = (dats m 0 c).arrAt 11 cfg0.N := Pipeline.withArrays_arr spec0 arrRef_inj c (V0 m c) _ 11

theorem tail_eq (b : Ref sig .tc) : Pipeline.afterTail₀ cfgs (dats m) 0 (V0 m) [hostOps1] c b = StableHlo.after hostOps1 (found m c) (Proc.devRef .tc b) := by
  unfold Pipeline.afterTail₀ found
  simp only [List.flatten_cons, List.flatten_nil, List.append_nil]

theorem col_eq (h : Fin 16) (n : ℕ) (p : n < 128) (q : h.val * 128 + n < 2048) : (⟨h.val * 128 + n, q⟩ : Fin 2048) = col h ⟨n, p⟩ :=
  Fin.ext (by unfold col; dsimp only; omega)

include H

theorem v102_val : Pipeline.afterTail₀ cfgs (dats m) 0 (V0 m) [hostOps1] c main_v102 = gradQ x := by
  rw [tail_eq]
  refine gradQ_of fun i h l => (Tail.v102_read (found m c) i h l).trans ?_
  rw [found9, col_eq h l.val (by omega)]
  exact dq_array H i h ⟨l.val, by omega⟩ l rfl

theorem v104_val : Pipeline.afterTail₀ cfgs (dats m) 0 (V0 m) [hostOps1] c main_v104 = gradK x := by
  rw [tail_eq]
  refine gradK_of fun h k d => (Tail.v104_read (found m c) h k d).trans ?_
  rw [found10, col_eq h d.val (by omega)]
  exact dk_array H k h ⟨d.val, by omega⟩

theorem v105_val : Pipeline.afterTail₀ cfgs (dats m) 0 (V0 m) [hostOps1] c main_v105 = gradR x := by
  rw [tail_eq]
  refine gradR_of fun k r => Tail.v105_read (found m c) (fun h => dK x h k ⟨64 + r.val, by omega⟩) k r fun h => ?_
  rw [found10, col_eq h (64 + r.val) (by omega)]
  exact dk_array H k h ⟨64 + r.val, by omega⟩

theorem v108_val : Pipeline.afterTail₀ cfgs (dats m) 0 (V0 m) [hostOps1] c main_v108 = gradV x := by
  rw [tail_eq]
  refine gradV_of fun h k d => (Tail.v108_read (found m c) h k d).trans ?_
  rw [found11, col_eq h d.val (by omega)]
  exact dv_array H k h ⟨d.val, by omega⟩

end Cert.Proof.Grid
-- ==== Proof.RefRead.lean ====
/-
  The reference's results at an index, as the real numbers of `Reals`.
-/
module

public import proofs.«01_k».proof.Proof.Gen.ReferenceIdeal.Run
public import proofs.«01_k».proof.Proof.HostRead

@[expose] public section

set_option maxRecDepth 16384

noncomputable section

namespace Cert.Proof.Ref

open Cert.ReferenceIdeal Cert.ReferenceIdeal.Gen Cert.ReferenceIdeal.Value Cert.Proof.Reals Cert.Proof.HostMath Cert.Proof.HostRead
open Idealize.ShloMosaic Idealize.ShloMosaic.TcCoe
open scoped BigOperators

/-- The arguments' buffers hold the reals `x`. -/
structure Holds (V : Valuation τ sig (Elt Ideal)) (x : Data) : Prop where
  q : ∀ i h d, V (Proc.devRef .tc main_arg0) (ix3 i h d) = ((x.q i h d : ℝ) : EReal)
  kn : ∀ h k d, V (Proc.devRef .tc main_arg1) (ix3 h k d) = ((x.kn h k d : ℝ) : EReal)
  kr : ∀ k r, V (Proc.devRef .tc main_arg2) (ix2 k r) = ((x.kr k r : ℝ) : EReal)
  v : ∀ h k d, V (Proc.devRef .tc main_arg3) (ix3 h k d) = ((x.v h k d : ℝ) : EReal)
  cs : ∀ i r, V (Proc.devRef .tc main_arg4) (ix2 i r) = ((x.cs i r : ℝ) : EReal)
  sn : ∀ i r, V (Proc.devRef .tc main_arg5) (ix2 i r) = ((x.sn i r : ℝ) : EReal)
  g : ∀ i d, V (Proc.devRef .tc main_arg6) (ix2 i d) = ((x.g i d : ℝ) : EReal)

variable {V : Valuation τ sig (Elt Ideal)} {x : Data} (H : Holds V x)

theorem v18_at (k : Fin 8192) : res_main_v18 V (ix1 k) = BitVec.ofNat 32 (k.val / 64) := by
  unfold res_main_v18 res_main_call0_v2 res_main_call0_v0 res_main_v17
  clean_types
  pointwise
  exact chunk_word k.val k.isLt

theorem v30_1_at (h : Fin 16) (i k : Fin 8192) : res_main_v30_1 V (ix3 h i k) = BitVec.ofBool (decide (ok i k)) :=
  chunk_mask (res_main_v18 V) v18_at h i k

include H

theorem v0_at (i : Fin 8192) (h : Fin 16) (d : Fin 64) : res_main_v0 V (ix3 i h d) = ((x.q i h ⟨d.val, by omega⟩ : ℝ) : EReal) := by
  rw [← H.q]
  unfold res_main_v0
  clean_types
  pointwise

theorem v16_at (i : Fin 8192) (h : Fin 16) (r : Fin 32) : res_main_v16 V (ix3 i h r) = ((QR x i h r : ℝ) : EReal) := by
  unfold res_main_v16 res_main_v4 res_main_v5 res_main_v1 res_main_v2 res_main_v3
  clean_types
  pointwise
  simp only [H.q, H.cs, H.sn]
  unfold QR
  split
  · rw [EReal.coe_sub, EReal.coe_mul, EReal.coe_mul]
    have e1 : (⟨64 + (16 + r.val), by omega⟩ : Fin 96) = ⟨80 + r.val, by omega⟩ := Fin.ext (by dsimp only; omega)
    rw [e1]
  · rw [EReal.coe_add, EReal.coe_mul, EReal.coe_mul]
    have e1 : (⟨64 + (16 + (r.val - 16)), by omega⟩ : Fin 96) = ⟨64 + r.val, by omega⟩ := Fin.ext (by dsimp only; omega)
    have e2 : (⟨64 + (r.val - 16), by omega⟩ : Fin 96) = ⟨48 + r.val, by omega⟩ := Fin.ext (by dsimp only; omega)
    rw [e1, e2]

theorem v30_0_at (h : Fin 16) (i k : Fin 8192) : res_main_v30_0 V (ix3 h i k) = row x h i k := by
  refine (masked (res_main_v30_1 V) _ h i k).trans ?_
  rw [v30_1_at, WordCmp.select_ofBool, scores (res_main_v0 V) (V (Proc.devRef .tc main_arg1)) (V (Proc.devRef .tc main_arg2)) (res_main_v16 V) h i k]
  simp only [v0_at H, v16_at H, H.kn, H.kr, ofBits_scale, ← EReal.coe_mul, ← coe_sum, ← EReal.coe_add, decide_eq_true_eq]
  rfl

theorem v31_at (h : Fin 16) (i : Fin 8192) : res_main_v31 V (ix2 h i) = ((top x h i : ℝ) : EReal) := by
  refine (row_max (res_main_v30_0 V) h i).trans ?_
  simp only [v30_0_at H]
  exact fold_row x h i

theorem v51_at (h : Fin 16) (i k : Fin 8192) : res_main_v51 V (ix3 h i k) = ((e x (top x h i) h i k : ℝ) : EReal) := by
  refine (shift_exp (res_main_v30_0 V) (res_main_v31 V) h i k).trans ?_
  rw [v30_0_at H, v31_at H]
  exact exp_row x h i _ k

theorem v53_at (h : Fin 16) (i : Fin 8192) : res_main_v53 V (ix3 h i 0) = ((∑ k, e x (top x h i) h i k : ℝ) : EReal) := by
  refine (row_sum (res_main_v51 V) h i 0).trans ?_
  simp only [v51_at H, ← coe_sum]

theorem v55_at (h : Fin 16) (i k : Fin 8192) : res_main_v55 V (ix3 h i k) = ((P x h i k : ℝ) : EReal) := by
  refine (quot (res_main_v51 V) (res_main_v53 V) h i k).trans ?_
  rw [v51_at H, v53_at H, Ideal.div_coe (sum_e_pos x _ h i).ne', ← EReal.coe_mul, mul_one_div, P_shift]

theorem v63_at (h : Fin 16) (d : Fin 64) (i : Fin 8192) : res_main_v63 V (ix3 h d i) = ((G x h i d : ℝ) : EReal) :=
  (cot_read (V (Proc.devRef .tc main_arg6)) (res_main_v63 V) rfl h d i).trans (H.g _ _)

theorem v64_at (h : Fin 16) (i k : Fin 8192) : res_main_v64 V (ix3 h i k) = ((dP x h i k : ℝ) : EReal) := by
  refine (dot_dP (res_main_v63 V) (V (Proc.devRef .tc main_arg3)) h i k).trans ?_
  simp only [v63_at H, H.v, ← EReal.coe_mul, ← coe_sum]
  rfl

theorem v81_at (h : Fin 16) (i k : Fin 8192) : res_main_v81 V (ix3 h i k) = ((dS x h i k : ℝ) : EReal) := by
  refine (ds_read (res_main_v30_1 V) (res_main_v64 V) (res_main_v51 V) (res_main_v53 V) h i k).trans ?_
  rw [v30_1_at, WordCmp.select_ofBool, Finset.sum_const, Finset.card_univ, Fintype.card_fin, one_smul, v53_at H, ← EReal.coe_mul, ← EReal.coe_one]
  have hz := (sum_e_pos x (top x h i) h i).ne'
  rw [Ideal.div_coe hz, Ideal.div_coe (mul_ne_zero hz hz)]
  simp only [v64_at H, v51_at H, ofBits_scale, ← EReal.coe_mul, ← coe_sum, ← EReal.coe_neg, ← EReal.coe_add, decide_eq_true_eq]
  rw [← dS_quotient x (top x h i)]
  simp only [mul_one_div, one_mul]
  split
  · rw [← EReal.coe_mul]
  · rw [zero_mul, zero_mul, EReal.coe_zero]

/-- The values' gradient. -/
theorem v66_at (h : Fin 16) (k : Fin 8192) (d : Fin 64) :
    transpose S16x8192x64 [0, 2, 1] (Host.dotGeneral (F := Ideal) (φ₁ := .f32) (φ₂ := .f32) dot_S16x64x8192_S16x8192x8192_S16x64x8192_2_1_1_2_0_0 none (res_main_v63 V : FVec Ideal S16x64x8192 .f32) (res_main_v55 V : FVec Ideal S16x8192x8192 .f32)) transposes_S16x64x8192_S16x8192x64_0_2_1 (ix3 h k d)
      = ((dV x h k ⟨d.val, by omega⟩ : ℝ) : EReal) := by
  refine (dot_dV (res_main_v63 V) (res_main_v55 V) h k d).trans ?_
  simp only [v63_at H, v55_at H, ← EReal.coe_mul, ← coe_sum]
  refine congrArg _ (Finset.sum_congr rfl fun i _ => ?_)
  rw [CL_low, mul_comm]

/-- The per-head keys' gradient. -/
theorem v85_at (h : Fin 16) (k : Fin 8192) (d : Fin 64) :
    Host.dotGeneral (F := Ideal) (φ₁ := .f32) (φ₂ := .f32) dot_S16x8192x8192_S8192x16x64_S16x8192x64_1_0_2_2_0_1 none (res_main_v81 V : FVec Ideal S16x8192x8192 .f32) (res_main_v0 V : FVec Ideal S8192x16x64 .f32) (ix3 h k d)
      = ((dK x h k ⟨d.val, by omega⟩ : ℝ) : EReal) := by
  refine (dot_dK (res_main_v81 V) (res_main_v0 V) h k d).trans ?_
  simp only [v81_at H, v0_at H, ← EReal.coe_mul, ← coe_sum]
  refine congrArg _ (Finset.sum_congr rfl fun i _ => ?_)
  rw [QL_low]

/-- The shared keys' gradient. -/
theorem v84_at (k : Fin 8192) (r : Fin 32) :
    Host.dotGeneral (F := Ideal) (φ₁ := .f32) (φ₂ := .f32) dot_S8192x8192x16_S8192x16x32_S8192x32_12_01_0_2_n_n none (res_main_v82 V : FVec Ideal S8192x8192x16 .f32) (res_main_v16 V : FVec Ideal S8192x16x32 .f32) (ix2 k r) = ((outR x k r : ℝ) : EReal) := by
  refine (dot_dR (res_main_v81 V) (res_main_v16 V) k r).trans ?_
  simp only [v81_at H, v16_at H, ← EReal.coe_mul, ← coe_sum]
  refine congrArg _ (Finset.sum_congr rfl fun h _ => Finset.sum_congr rfl fun i _ => ?_)
  rw [QL_mid]

theorem v83_at (i : Fin 8192) (h : Fin 16) (r : Fin 32) : res_main_v83 V (ix3 i h r) = ((dQ x h i ⟨64 + r.val, by omega⟩ : ℝ) : EReal) := by
  refine (dot_qr (res_main_v81 V) (V (Proc.devRef .tc main_arg2)) i h r).trans ?_
  simp only [v81_at H, H.kr, ← EReal.coe_mul, ← coe_sum]
  refine congrArg _ (Finset.sum_congr rfl fun k _ => ?_)
  rw [KL_mid]

theorem v87_at (i : Fin 8192) (h : Fin 16) (d : Fin 64) :
    transpose S8192x16x64 [1, 0, 2] (Host.dotGeneral (F := Ideal) (φ₁ := .f32) (φ₂ := .f32) dot_S16x8192x8192_S16x8192x64_S16x8192x64_2_1_1_2_0_0 none (res_main_v81 V : FVec Ideal S16x8192x8192 .f32) (V (Proc.devRef .tc main_arg1) : FVec Ideal S16x8192x64 .f32)) transposes_S16x8192x64_S8192x16x64_1_0_2 (ix3 i h d)
      = ((dQ x h i ⟨d.val, by omega⟩ : ℝ) : EReal) := by
  refine (dot_qn (res_main_v81 V) (V (Proc.devRef .tc main_arg1)) i h d).trans ?_
  simp only [v81_at H, H.kn, ← EReal.coe_mul, ← coe_sum]
  refine congrArg _ (Finset.sum_congr rfl fun k _ => ?_)
  rw [KL_low]

theorem v88_at (i : Fin 8192) (h : Fin 16) (r : Fin 16) : res_main_v88 V (ix3 i h r) = ((dQ x h i ⟨64 + r.val, by omega⟩ : ℝ) : EReal) := by
  refine Eq.trans ?_ (v83_at H i h ⟨r.val, by omega⟩)
  unfold res_main_v88
  clean_types
  pointwise

theorem v89_at (i : Fin 8192) (h : Fin 16) (r : Fin 16) : res_main_v89 V (ix3 i h r) = ((dQ x h i ⟨80 + r.val, by omega⟩ : ℝ) : EReal) := by
  have e : (⟨80 + r.val, by omega⟩ : Fin 128) = ⟨64 + (⟨16 + r.val, by omega⟩ : Fin 32).val, by dsimp only; omega⟩ := Fin.ext (by dsimp only; omega)
  rw [e]
  refine Eq.trans ?_ (v83_at H i h ⟨16 + r.val, by omega⟩)
  unfold res_main_v89
  clean_types
  pointwise

theorem v2_at (i : Fin 8192) (r : Fin 16) : res_main_v2 V (ix3 i 0 r) = ((x.cs i r : ℝ) : EReal) := by
  rw [← H.cs]; unfold res_main_v2; clean_types; pointwise

theorem v3_at (i : Fin 8192) (r : Fin 16) : res_main_v3 V (ix3 i 0 r) = ((x.sn i r : ℝ) : EReal) := by
  rw [← H.sn]; unfold res_main_v3; clean_types; pointwise

omit H in
set_option maxHeartbeats 1000000 in
theorem back_read (a b : FVec Ideal S8192x16x16 .f32) (c s : FVec Ideal S8192x1x16 .f32) (n : FVec Ideal S8192x16x64 .f32) (i : Fin 8192) (h : Fin 16)
    (ha : ∀ r, a (ix3 i h r) = ((dQ x h i ⟨64 + r.val, by omega⟩ : ℝ) : EReal)) (hb : ∀ r, b (ix3 i h r) = ((dQ x h i ⟨80 + r.val, by omega⟩ : ℝ) : EReal))
    (hc : ∀ r, c (ix3 i 0 r) = ((x.cs i r : ℝ) : EReal)) (hs : ∀ r, s (ix3 i 0 r) = ((x.sn i r : ℝ) : EReal))
    (hn : ∀ d, n (ix3 i h d) = ((dQ x h i ⟨d.val, by omega⟩ : ℝ) : EReal)) (l : Fin 96) :
    addf (pad S8192x16x96 ![0, 0, 64] ![0, 0, 0] ![0, 0, 0] (addf (pad S8192x16x32 ![0, 0, 16] ![0, 0, 0] ![0, 0, 0] (addf (mulf b (broadcastInDim S8192x16x16 ![0, 1, 2] bcast_S8192x1x16_S8192x16x16_0_1_2 c)) (mulf (Host.negf a) (broadcastInDim S8192x16x16 ![0, 1, 2] bcast_S8192x1x16_S8192x16x16_0_1_2 s))) (constant S_ .f32 0x00000000#32) pads_S8192x16x16_S8192x16x32_000_000_1600 h_S_) (pad S8192x16x32 ![0, 0, 0] ![0, 0, 16] ![0, 0, 0] (addf (mulf b (broadcastInDim S8192x16x16 ![0, 1, 2] bcast_S8192x1x16_S8192x16x16_0_1_2 s)) (mulf a (broadcastInDim S8192x16x16 ![0, 1, 2] bcast_S8192x1x16_S8192x16x16_0_1_2 c))) (constant S_ .f32 0x00000000#32) pads_S8192x16x16_S8192x16x32_000_000_0160 h_S_)) (constant S_ .f32 0x00000000#32) pads_S8192x16x32_S8192x16x96_000_000_6400 h_S_) (pad S8192x16x96 ![0, 0, 0] ![0, 0, 32] ![0, 0, 0] n (constant S_ .f32 0x00000000#32) pads_S8192x16x64_S8192x16x96_000_000_0320 h_S_) (ix3 i h l)
      = ((outQ x i h l : ℝ) : EReal) := by
  pointwise
  simp only [ha, hb, hc, hs, hn, ← EReal.coe_neg, ← EReal.coe_mul, ← EReal.coe_add]
  unfold outQ
  by_cases h1 : l.val < 64
  · have c1 : ¬ (64 ≤ l.val ∧ l.val - 64 < 32) := by omega
    simp only [c1, h1, ↓reduceDIte, zero_add]
  · have c1 : 64 ≤ l.val ∧ l.val - 64 < 32 := by omega
    simp only [c1, h1, ↓reduceDIte, add_zero, and_self]
    by_cases h2 : l.val < 80
    · have c2 : ¬ (16 ≤ l.val - 64 ∧ l.val - 64 - 16 < 16) := by omega
      have c3 : l.val - 64 < 16 := by omega
      simp only [c2, c3, h2, ↓reduceDIte, zero_add]
      refine congrArg _ ((add_comm _ _).trans (congrArg₂ (· + ·) (congrArg₂ (· * ·) (congrArg (dQ x h i) (Fin.ext ?_)) rfl) (congrArg₂ (· * ·) (congrArg (dQ x h i) (Fin.ext ?_)) rfl)))
      · show 64 + (l.val - 64) = l.val; omega
      · show 80 + (l.val - 64) = l.val + 16; omega
    · have c2 : 16 ≤ l.val - 64 ∧ l.val - 64 - 16 < 16 := by omega
      have c3 : ¬ l.val - 64 < 16 := by omega
      simp only [c2, c3, h2, ↓reduceDIte, add_zero, and_self]
      refine congrArg _ ?_
      rw [neg_mul, ← sub_eq_add_neg]
      refine congrArg₂ (· - ·) (congrArg₂ (· * ·) (congrArg (dQ x h i) (Fin.ext ?_)) (congrArg (x.cs i) (Fin.ext ?_)))
        (congrArg₂ (· * ·) (congrArg (dQ x h i) (Fin.ext ?_)) (congrArg (x.sn i) (Fin.ext ?_)))
      · show 80 + (l.val - 64 - 16) = l.val; omega
      · show l.val - 64 - 16 = l.val - 80; omega
      · show 64 + (l.val - 64 - 16) = l.val - 16; omega
      · show l.val - 64 - 16 = l.val - 80; omega

/-- The queries' gradient. -/
theorem v106_at (i : Fin 8192) (h : Fin 16) (l : Fin 96) :
    (addf (pad S8192x16x96 ![0, 0, 64] ![0, 0, 0] ![0, 0, 0] (addf (pad S8192x16x32 ![0, 0, 16] ![0, 0, 0] ![0, 0, 0] (addf (mulf (res_main_v89 V) (broadcastInDim S8192x16x16 ![0, 1, 2] bcast_S8192x1x16_S8192x16x16_0_1_2 (res_main_v2 V))) (mulf (Host.negf (res_main_v88 V)) (broadcastInDim S8192x16x16 ![0, 1, 2] bcast_S8192x1x16_S8192x16x16_0_1_2 (res_main_v3 V)))) (constant S_ .f32 0x00000000#32) pads_S8192x16x16_S8192x16x32_000_000_1600 h_S_) (pad S8192x16x32 ![0, 0, 0] ![0, 0, 16] ![0, 0, 0] (addf (mulf (res_main_v89 V) (broadcastInDim S8192x16x16 ![0, 1, 2] bcast_S8192x1x16_S8192x16x16_0_1_2 (res_main_v3 V))) (mulf (res_main_v88 V) (broadcastInDim S8192x16x16 ![0, 1, 2] bcast_S8192x1x16_S8192x16x16_0_1_2 (res_main_v2 V)))) (constant S_ .f32 0x00000000#32) pads_S8192x16x16_S8192x16x32_000_000_0160 h_S_)) (constant S_ .f32 0x00000000#32) pads_S8192x16x32_S8192x16x96_000_000_6400 h_S_) (pad S8192x16x96 ![0, 0, 0] ![0, 0, 32] ![0, 0, 0] (transpose S8192x16x64 [1, 0, 2] (Host.dotGeneral (F := Ideal) (φ₁ := .f32) (φ₂ := .f32) dot_S16x8192x8192_S16x8192x64_S16x8192x64_2_1_1_2_0_0 none (res_main_v81 V : FVec Ideal S16x8192x8192 .f32) (V (Proc.devRef .tc main_arg1) : FVec Ideal S16x8192x64 .f32)) transposes_S16x8192x64_S8192x16x64_1_0_2) (constant S_ .f32 0x00000000#32) pads_S8192x16x64_S8192x16x96_000_000_0320 h_S_) : FVec Ideal S8192x16x96 .f32) (ix3 i h l)
      = ((outQ x i h l : ℝ) : EReal) :=
  back_read (res_main_v88 V) (res_main_v89 V) (res_main_v2 V) (res_main_v3 V) _ i h (v88_at H i h) (v89_at H i h) (v2_at H i) (v3_at H i) (v87_at H i h) l

end Cert.Proof.Ref

end
-- ==== Proof.Finite.lean ====
/-
  The precondition: arguments that lie strictly between the two infinities are the casts of reals.
-/
module

public import proofs.«01_k».proof.Defs
public import proofs.«01_k».proof.Proof.HostMath
public import proofs.«01_k».proof.Proof.Reals
public import Idealize.ShloMosaic.Lib.ReduceAll
public import Idealize.ShloMosaic.Lib.Pointwise

@[expose] public section

noncomputable section

namespace Cert.Proof.Finite

open Cert.Pre_finite Cert.Proof.Reals Cert.Proof.HostMath
open Idealize.ShloMosaic

theorem bcast_q : S_.BroadcastsInDim S8192x16x96 (![] : Fin 0 → Fin S8192x16x96.rank) := by decide
theorem red_q : S8192x16x96.ReducesTo [0, 1, 2] S_ := by decide
theorem one_S : 0 < S_.numel := by decide
theorem bcast_k : S_.BroadcastsInDim S16x8192x64 (![] : Fin 0 → Fin S16x8192x64.rank) := by decide
theorem red_k : S16x8192x64.ReducesTo [0, 1, 2] S_ := by decide
theorem bcast_r : S_.BroadcastsInDim S8192x32 (![] : Fin 0 → Fin S8192x32.rank) := by decide
theorem red_r : S8192x32.ReducesTo [0, 1] S_ := by decide
theorem bcast_t : S_.BroadcastsInDim S8192x16 (![] : Fin 0 → Fin S8192x16.rank) := by decide
theorem red_t : S8192x16.ReducesTo [0, 1] S_ := by decide
theorem bcast_g : S_.BroadcastsInDim S8192x1024 (![] : Fin 0 → Fin S8192x1024.rank) := by decide
theorem red_g : S8192x1024.ReducesTo [0, 1] S_ := by decide

theorem facts : Cert.Pre_finite.Facts where
  bcast_S_S8192x16x96 := bcast_q
  reducesTo_S8192x16x96_S_d0_1_2 := red_q
  h_S_ := one_S
  bcast_S_S16x8192x64 := bcast_k
  reducesTo_S16x8192x64_S_d0_1_2 := red_k
  bcast_S_S8192x32 := bcast_r
  reducesTo_S8192x32_S_d0_1 := red_r
  bcast_S_S8192x16 := bcast_t
  reducesTo_S8192x16_S_d0_1 := red_t
  bcast_S_S8192x1024 := bcast_g
  reducesTo_S8192x1024_S_d0_1 := red_g

attribute [local instance] facts

instance : Subsingleton S_.Idx := ⟨fun a b => funext fun k => k.elim0⟩

theorem real_of_strict {v : EReal} (h : Ideal.cmp .olt v (⊤ : EReal) = 1#1) (h' : Ideal.cmp .ogt v (⊥ : EReal) = 1#1) : v = ((v.toReal : ℝ) : EReal) := by
  have key : ∀ b : Bool, BitVec.ofBool b = 1#1 → b = true := by decide
  exact (EReal.coe_toReal (ne_of_lt (of_decide_eq_true (key _ h))) (ne_of_gt (of_decide_eq_true (key _ h')))).symm

/-- An argument whose test says 1 everywhere is real everywhere. -/
theorem real_of_test {s : Shape} {axes : List (Fin s.rank)} (x : FVec Ideal s .f32) (hb : S_.BroadcastsInDim s (![] : Fin 0 → Fin s.rank)) (hr : s.ReducesTo axes S_) (hu : 0 < S_.numel)
    (j : S_.Idx)
    (e : Host.reduce IntOp.andi (andi (cmpf .olt x (broadcastInDim s ![] hb (constant S_ .f32 0x7F800000#32))) (cmpf .ogt x (broadcastInDim s ![] hb (constant S_ .f32 0xFF800000#32))))
      (constantI S_ 1 1#1) hr hu j = 1#1) (i : s.Idx) : x i = (((x i).toReal : ℝ) : EReal) := by
  have h := Host.reduce_andi_all _ _ hr hu j e i
  obtain ⟨h1, h2⟩ := IntOp.andi_eq_one.1 h
  have h1' : Ideal.cmp .olt (x i) (Ideal.ofBits .f32 0x7F800000#32) = 1#1 := h1
  have h2' : Ideal.cmp .ogt (x i) (Ideal.ofBits .f32 0xFF800000#32) = 1#1 := h2
  rw [ofBits_pos_inf] at h1'
  rw [ofBits_neg_inf] at h2'
  exact real_of_strict h1' h2'

/-- The seven arguments' tests. -/
theorem real_of_finite (a0 : FVec Ideal S8192x16x96 .f32) (a1 : FVec Ideal S16x8192x64 .f32) (a2 : FVec Ideal S8192x32 .f32) (a3 : FVec Ideal S16x8192x64 .f32)
    (a4 a5 : FVec Ideal S8192x16 .f32) (a6 : FVec Ideal S8192x1024 .f32)
    (e : Cert.Pre_finite.fn (F := Ideal) a0 a1 a2 a3 a4 a5 a6 = fun _ => 1#1) :
    (∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) ∧ (∀ i, a4 i = (((a4 i).toReal : ℝ) : EReal)) ∧ (∀ i, a5 i = (((a5 i).toReal : ℝ) : EReal))
      ∧ (∀ i, a6 i = (((a6 i).toReal : ℝ) : EReal)) := by
  have h := congrFun e ix0
  unfold fn fn_part1 fn_part2 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_test a0 _ _ _ _ h0, real_of_test a1 _ _ _ _ h1, real_of_test a2 _ _ _ _ h2, real_of_test a3 _ _ _ _ h3, real_of_test a4 _ _ _ _ h4,
    real_of_test a5 _ _ _ _ h5, real_of_test a6 _ _ _ _ h6⟩

end Cert.Proof.Finite
-- ==== Proof.Algebraic.lean ====
/-
  The value claim: on real arguments the kernel's four gradients are the reference's.
-/
module

public import proofs.«01_k».proof.Proof.KernelValue
public import proofs.«01_k».proof.Proof.RefRead
public import proofs.«01_k».proof.Proof.Finite

@[expose] public section

noncomputable section

namespace Cert.Proof

open Idealize.ShloMosaic Idealize.SL.Sem Cert.Proof.Reals Cert.Proof.Value

/-- The reals behind seven arrays. -/
def dataOf (a0 : Vec Ideal (⟨3, ![8192, 16, 96]⟩ : Shape) .f32) (a1 : Vec Ideal (⟨3, ![16, 8192, 64]⟩ : Shape) .f32) (a2 : Vec Ideal (⟨2, ![8192, 32]⟩ : Shape) .f32)
    (a3 : Vec Ideal (⟨3, ![16, 8192, 64]⟩ : Shape) .f32) (a4 a5 : Vec Ideal (⟨2, ![8192, 16]⟩ : Shape) .f32) (a6 : Vec Ideal (⟨2, ![8192, 1024]⟩ : Shape) .f32) : Data where
  q i h d := EReal.toReal (a0 (ix3 i h d))
  kn h k d := EReal.toReal (a1 (ix3 h k d))
  kr k r := EReal.toReal (a2 (ix2 k r))
  v h k d := EReal.toReal (a3 (ix3 h k d))
  cs i r := EReal.toReal (a4 (ix2 i r))
  sn i r := EReal.toReal (a5 (ix2 i r))
  g i d := EReal.toReal (a6 (ix2 i d))

section Kernel

open Cert.KernelIdeal

/-- The reals behind the arguments of a memory. -/
def dataAt (m : (ℓ : Loc nD τ sig) → Buf (Elt Ideal) ℓ) (c : Dev nD) : Data :=
  dataOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

variable {m : (ℓ : Loc nD τ sig) → Buf (Elt Ideal) ℓ} (hP : Cert.Pre_KernelIdeal_finite (hPre_finite := Finite.facts) m) (c : Dev nD)
include hP

theorem kernel_holds : KHost.Holds (fun b => m (c, b)) (dataAt m c) := by
  obtain ⟨h0, h1, h2, h3, h4, h5, h6⟩ := Finite.real_of_finite _ _ _ _ _ _ _ (hP c)
  exact ⟨fun i h d => h0 (ix3 i h d), fun h k d => h1 (ix3 h k d), fun k r => h2 (ix2 k r), fun h k d => h3 (ix3 h k d), fun i r => h4 (ix2 i r),
    fun i r => h5 (ix2 i r), fun i d => h6 (ix2 i d)⟩

theorem kernel_ready : KHost.Ready (Cert.KernelIdeal.Gen.V0 m c) (dataAt m c) := by
  rw [KHost.V0_eq]
  exact KHost.ready _ (kernel_holds hP c)

end Kernel

theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m g m' g' hP hagree
  refine ⟨fun c => gradQ (dataAt m c), fun c => gradK (dataAt m c), fun c => gradR (dataAt m c), fun c => gradV (dataAt m c), ?_, ?_⟩
  · refine (θ_run Cert.KernelIdeal.defs _ _).mono (fun r h c => ?_) (Body.run_main (F := Ideal) m g)
    have R := kernel_ready hP c
    refine ⟨?_, ?_, ?_, ?_, Body.kept h.1 c⟩
    · exact ((h.1 c).2 Cert.KernelIdeal.main_v102 (Pipeline.mem_restRefs_of Cert.KernelIdeal.main_v102 (by decide) (by decide))).trans (Grid.v102_val R)
    · exact ((h.1 c).2 Cert.KernelIdeal.main_v104 (Pipeline.mem_restRefs_of Cert.KernelIdeal.main_v104 (by decide) (by decide))).trans (Grid.v104_val R)
    · exact ((h.1 c).2 Cert.KernelIdeal.main_v105 (Pipeline.mem_restRefs_of Cert.KernelIdeal.main_v105 (by decide) (by decide))).trans (Grid.v105_val R)
    · exact ((h.1 c).2 Cert.KernelIdeal.main_v108 (Pipeline.mem_restRefs_of Cert.KernelIdeal.main_v108 (by decide) (by decide))).trans (Grid.v108_val R)
  · refine (θ_run Cert.ReferenceIdeal.defs _ _).mono (fun r h c => ?_) (Cert.ReferenceIdeal.Value.run (F := Ideal) m' g')
    obtain ⟨e0, e1, e2, e3, e4, e5, e6⟩ := hagree c
    have K := kernel_holds hP c
    have R : Ref.Holds (StableHlo.launchContents m' c) (dataAt m c) :=
      ⟨fun i h d => (congrFun e0 (ix3 i h d)).trans (K.q i h d), fun h k d => (congrFun e1 (ix3 h k d)).trans (K.kn h k d),
        fun k r => (congrFun e2 (ix2 k r)).trans (K.kr k r), fun h k d => (congrFun e3 (ix3 h k d)).trans (K.v h k d),
        fun i r => (congrFun e4 (ix2 i r)).trans (K.cs i r), fun i r => (congrFun e5 (ix2 i r)).trans (K.sn i r), fun i d => (congrFun e6 (ix2 i d)).trans (K.g i d)⟩
    obtain ⟨r0, r1, r2, r3, ra⟩ := h c
    exact ⟨r0.trans (gradQ_of (Ref.v106_at R)), r1.trans (gradK_of (Ref.v85_at R)), r2.trans (gradR_of (Ref.v84_at R)), r3.trans (gradV_of (Ref.v66_at R)), ra⟩

end Cert.Proof
-- ==== Proof.lean ====
/-
  The certificate: the frames of the programs, that each idealization is its program's own text, and the value claims.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.MlpDu
public import proofs.«01_k».proof.Proof.MlpDw2
public import proofs.«01_k».proof.Proof.MlpDw1
public import proofs.«01_k».proof.Proof.MlpDown
public import proofs.«01_k».proof.Proof.OutFwd
public import proofs.«01_k».proof.Proof.MlaOutDa
public import proofs.«01_k».proof.Proof.SbOutDa
public import proofs.«01_k».proof.Proof.OutDw
public import proofs.«01_k».proof.Proof.QkvDw
public import proofs.«01_k».proof.Proof.NormMlp
public import proofs.«01_k».proof.Proof.NormQkv
public import proofs.«01_k».proof.Proof.Gen.Kernel
public import proofs.«01_k».proof.Proof.FrameKernel
public import proofs.«01_k».proof.Proof.Gen.ReferenceIdeal
public import proofs.«01_k».proof.Proof.Gen.ReferenceIdeal.Run
public import proofs.«01_k».proof.Proof.Algebraic

@[expose] public section

noncomputable section

namespace Cert.Proof

open Idealize.ShloMosaic Idealize.SL.Sem

/-- The reference runs, its arguments unchanged; it has no semaphore. -/
theorem frame_reference : Cert.quiescent_ReferenceIdeal := fun m ρ _ =>
  (θ_run Cert.ReferenceIdeal.defs _ _).mono
    (fun _ h => ⟨fun c => (h c).2.2.2.2, sem_eq_zero_of_no_sems (by decide) _⟩) (Cert.ReferenceIdeal.Value.run (F := Ideal) m ρ)

/-! The further calls' references run, their arguments unchanged. -/

theorem frame_reference2 : Cert.quiescent_Reference2Ideal := fun m ρ _ =>
  (θ_run Cert.Reference2Ideal.defs _ _).mono
    (fun _ h => ⟨fun c => (h c).2, sem_eq_zero_of_no_sems (by decide) _⟩) (Cert.Reference2Ideal.Value.run (F := Ideal) m ρ)

theorem frame_reference3 : Cert.quiescent_Reference3Ideal := fun m ρ _ =>
  (θ_run Cert.Reference3Ideal.defs _ _).mono
    (fun _ h => ⟨fun c => (h c).2, sem_eq_zero_of_no_sems (by decide) _⟩) (Cert.Reference3Ideal.Value.run (F := Ideal) m ρ)

theorem frame_reference4 : Cert.quiescent_Reference4Ideal := fun m ρ _ =>
  (θ_run Cert.Reference4Ideal.defs _ _).mono
    (fun _ h => ⟨fun c => (h c).2, sem_eq_zero_of_no_sems (by decide) _⟩) (Cert.Reference4Ideal.Value.run (F := Ideal) m ρ)

theorem frame_reference5 : Cert.quiescent_Reference5Ideal := fun m ρ _ =>
  (θ_run Cert.Reference5Ideal.defs _ _).mono
    (fun _ h => ⟨fun c => (h c).2, sem_eq_zero_of_no_sems (by decide) _⟩) (Cert.Reference5Ideal.Value.run (F := Ideal) m ρ)

theorem frame_reference6 : Cert.quiescent_Reference6Ideal := fun m ρ _ =>
  (θ_run Cert.Reference6Ideal.defs _ _).mono
    (fun _ h => ⟨fun c => (h c).2, sem_eq_zero_of_no_sems (by decide) _⟩) (Cert.Reference6Ideal.Value.run (F := Ideal) m ρ)

theorem frame_reference7 : Cert.quiescent_Reference7Ideal := fun m ρ _ =>
  (θ_run Cert.Reference7Ideal.defs _ _).mono
    (fun _ h => ⟨fun c => (h c).2, sem_eq_zero_of_no_sems (by decide) _⟩) (Cert.Reference7Ideal.Value.run (F := Ideal) m ρ)

theorem frame_reference8 : Cert.quiescent_Reference8Ideal := fun m ρ _ =>
  (θ_run Cert.Reference8Ideal.defs _ _).mono
    (fun _ h => ⟨fun c => (h c).2, sem_eq_zero_of_no_sems (by decide) _⟩) (Cert.Reference8Ideal.Value.run (F := Ideal) m ρ)

theorem frame_reference9 : Cert.quiescent_Reference9Ideal := fun m ρ _ =>
  (θ_run Cert.Reference9Ideal.defs _ _).mono
    (fun _ h => ⟨fun c => (h c).2, sem_eq_zero_of_no_sems (by decide) _⟩) (Cert.Reference9Ideal.Value.run (F := Ideal) m ρ)

theorem frame_reference10 : Cert.quiescent_Reference10Ideal := fun m ρ _ =>
  (θ_run Cert.Reference10Ideal.defs _ _).mono
    (fun _ h => ⟨fun c => (h c).2, sem_eq_zero_of_no_sems (by decide) _⟩) (Cert.Reference10Ideal.Value.run (F := Ideal) m ρ)

theorem frame_reference11 : Cert.quiescent_Reference11Ideal := fun m ρ _ =>
  (θ_run Cert.Reference11Ideal.defs _ _).mono
    (fun _ h => ⟨fun c => (h c).2.2, sem_eq_zero_of_no_sems (by decide) _⟩) (Cert.Reference11Ideal.Value.run (F := Ideal) m ρ)

theorem frame_reference12 : Cert.quiescent_Reference12Ideal := fun m ρ _ =>
  (θ_run Cert.Reference12Ideal.defs _ _).mono
    (fun _ h => ⟨fun c => (h c).2.2, sem_eq_zero_of_no_sems (by decide) _⟩) (Cert.Reference12Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Finite.facts, frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    trivial, algebraic,
    trivial, MlpDu.algebraic,
    trivial, MlpDw2.algebraic,
    trivial, MlpDw1.algebraic,
    trivial, MlpDown.algebraic,
    trivial, OutFwd.algebraic,
    trivial, MlaOutDa.algebraic,
    trivial, SbOutDa.algebraic,
    trivial, OutDw.algebraic,
    trivial, QkvDw.algebraic,
    trivial, NormMlp.algebraic,
    trivial, NormQkv.algebraic⟩

end Cert.Proof

end
